-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rates_not_zero [hPre_rates_not_zero : Cert.Pre_rates_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_rates_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rates_not_zero [hPre_rates_not_zero : Cert.Pre_rates_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rates_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_scan_finite [hPre_scan_finite : Cert.Pre_scan_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_scan_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_scan_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_scan_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_scan_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_scan_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_scan_finite [hPre_scan_finite : Cert.Pre_scan_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_scan_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_scan_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_scan_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_scan_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_scan_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_heads_finite [hPre_heads_finite : Cert.Pre_heads_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_heads_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))).1 = (fun _ => 1#1)
    ∧ (Cert.Pre_heads_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))).2.1 = (fun _ => 1#1)
    ∧ (Cert.Pre_heads_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))).2.2.1 = (fun _ => 1#1)
    ∧ (Cert.Pre_heads_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))).2.2.2.1 = (fun _ => 1#1)
    ∧ (Cert.Pre_heads_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_heads_finite [hPre_heads_finite : Cert.Pre_heads_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_heads_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))).1 = (fun _ => 1#1)
    ∧ (Cert.Pre_heads_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))).2.1 = (fun _ => 1#1)
    ∧ (Cert.Pre_heads_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))).2.2.1 = (fun _ => 1#1)
    ∧ (Cert.Pre_heads_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))).2.2.2.1 = (fun _ => 1#1)
    ∧ (Cert.Pre_heads_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rates_not_zero [hKernelIdeal : Cert.KernelIdeal.Facts] [hPre_rates_not_zero : Cert.Pre_rates_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rates_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rates_not_zero [hReferenceIdeal : Cert.ReferenceIdeal.Facts] [hPre_rates_not_zero : Cert.Pre_rates_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rates_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_scan_finite [hKernel4Ideal : Cert.Kernel4Ideal.Facts] [hPre_scan_finite : Cert.Pre_scan_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_scan_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_scan_finite [hReference4Ideal : Cert.Reference4Ideal.Facts] [hPre_scan_finite : Cert.Pre_scan_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_scan_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Kernel5Ideal_pre_heads_finite [hKernel5Ideal : Cert.Kernel5Ideal.Facts] [hPre_heads_finite : Cert.Pre_heads_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_heads_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Reference5Ideal_pre_heads_finite [hReference5Ideal : Cert.Reference5Ideal.Facts] [hPre_heads_finite : Cert.Pre_heads_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_heads_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def preserves_Kernel_KernelIdeal : Prop :=
  True

def algebraic_KernelIdeal_ReferenceIdeal_pre_rates_not_zero [hKernelIdeal : Cert.KernelIdeal.Facts] [hReferenceIdeal : Cert.ReferenceIdeal.Facts] [hPre_rates_not_zero : Cert.Pre_rates_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rates_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_scan_finite [hKernel4Ideal : Cert.Kernel4Ideal.Facts] [hReference4Ideal : Cert.Reference4Ideal.Facts] [hPre_scan_finite : Cert.Pre_scan_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_scan_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_heads_finite [hKernel5Ideal : Cert.Kernel5Ideal.Facts] [hReference5Ideal : Cert.Reference5Ideal.Facts] [hPre_heads_finite : Cert.Pre_heads_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_heads_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_rates_not_zero : Cert.Pre_rates_not_zero.Facts) (hPre_scan_finite : Cert.Pre_scan_finite.Facts) (hPre_heads_finite : Cert.Pre_heads_finite.Facts),
    quiescent_Kernel (hKernel := hKernel)
    ∧ quiescent_KernelIdeal (hKernelIdeal := hKernelIdeal)
    ∧ quiescent_KernelIdeal_pre_rates_not_zero (hKernelIdeal := hKernelIdeal) (hPre_rates_not_zero := hPre_rates_not_zero)
    ∧ quiescent_ReferenceIdeal (hReferenceIdeal := hReferenceIdeal)
    ∧ quiescent_ReferenceIdeal_pre_rates_not_zero (hReferenceIdeal := hReferenceIdeal) (hPre_rates_not_zero := hPre_rates_not_zero)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_scan_finite (hKernel4Ideal := hKernel4Ideal) (hPre_scan_finite := hPre_scan_finite)
    ∧ quiescent_Reference4Ideal (hReference4Ideal := hReference4Ideal)
    ∧ quiescent_Reference4Ideal_pre_scan_finite (hReference4Ideal := hReference4Ideal) (hPre_scan_finite := hPre_scan_finite)
    ∧ quiescent_Kernel5 (hKernel5 := hKernel5)
    ∧ quiescent_Kernel5Ideal (hKernel5Ideal := hKernel5Ideal)
    ∧ quiescent_Kernel5Ideal_pre_heads_finite (hKernel5Ideal := hKernel5Ideal) (hPre_heads_finite := hPre_heads_finite)
    ∧ quiescent_Reference5Ideal (hReference5Ideal := hReference5Ideal)
    ∧ quiescent_Reference5Ideal_pre_heads_finite (hReference5Ideal := hReference5Ideal) (hPre_heads_finite := hPre_heads_finite)
    ∧ preserves_Kernel_KernelIdeal
    ∧ algebraic_KernelIdeal_ReferenceIdeal_pre_rates_not_zero (hKernelIdeal := hKernelIdeal) (hReferenceIdeal := hReferenceIdeal) (hPre_rates_not_zero := hPre_rates_not_zero)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_scan_finite (hKernel4Ideal := hKernel4Ideal) (hReference4Ideal := hReference4Ideal) (hPre_scan_finite := hPre_scan_finite)
    ∧ preserves_Kernel5_Kernel5Ideal
    ∧ algebraic_Kernel5Ideal_Reference5Ideal_pre_heads_finite (hKernel5Ideal := hKernel5Ideal) (hReference5Ideal := hReference5Ideal) (hPre_heads_finite := hPre_heads_finite)
-- ==== Pre_heads_finite.lean ====
abbrev S4x4352x1024 : Shape := ⟨3, ![4, 4352, 1024]⟩
abbrev S4x4352x5632 : Shape := ⟨3, ![4, 4352, 5632]⟩
abbrev S4x1024 : Shape := ⟨2, ![4, 1024]⟩
abbrev S1024 : Shape := ⟨1, ![1024]⟩
abbrev S16x64 : Shape := ⟨2, ![16, 64]⟩
abbrev S1024x1024 : Shape := ⟨2, ![1024, 1024]⟩
abbrev S_ : Shape := ⟨0, ![]⟩

class Facts : Prop where
  bitsLt_bf16_f32 : FTy.bits .bf16 < FTy.bits .f32
  bcast_S_S4x4352x1024 : S_.BroadcastsInDim S4x4352x1024 (![] : Fin 0 → Fin S4x4352x1024.rank)
  bcast_S_S16x64 : S_.BroadcastsInDim S16x64 (![] : Fin 0 → Fin S16x64.rank)

variable [Facts]

def fn {F : FTy → Type} [FloatOps F] (main_arg0 : FVec F S4x4352x1024 .f32) (main_arg1 : FVec F S4x4352x1024 .bf16) (main_arg2 : FVec F S4x4352x1024 .bf16) (main_arg3 : FVec F S4x4352x1024 .bf16) (main_arg4 : FVec F S4x4352x1024 .bf16) (main_arg5 : FVec F S4x4352x1024 .bf16) (main_arg6 : FVec F S4x4352x1024 .f32) (main_arg7 : FVec F S4x4352x1024 .bf16) (main_arg8 : FVec F S4x4352x5632 .bf16) (main_arg9 : FVec F S4x1024 .f32) (main_arg10 : FVec F S1024 .f32) (main_arg11 : FVec F S1024 .f32) (main_arg12 : FVec F S1024 .f32) (main_arg13 : FVec F S16x64 .f32) (main_arg14 : FVec F S1024x1024 .f32) (main_arg15 : FVec F S1024x1024 .f32) : IVec S4x4352x1024 1 × IVec S4x4352x1024 1 × IVec S4x4352x1024 1 × IVec S4x4352x1024 1 × IVec S16x64 1 :=
  let main_v0 : FVec F S4x4352x1024 .f32 := (extf .f32 · bitsLt_bf16_f32) main_arg1
  let main_v1 : FVec F S4x4352x1024 .f32 := Host.absf main_v0
  let main_cst : FVec F S_ .f32 := constant S_ .f32 0x7F800000#32
  let main_v2 : FVec F S4x4352x1024 .f32 := broadcastInDim S4x4352x1024 ![] bcast_S_S4x4352x1024 main_cst
  let main_v3 : IVec S4x4352x1024 1 := cmpf .olt main_v1 main_v2
  let main_v4 : FVec F S4x4352x1024 .f32 := (extf .f32 · bitsLt_bf16_f32) main_arg2
  let main_v5 : FVec F S4x4352x1024 .f32 := Host.absf main_v4
  let main_cst_0 : FVec F S_ .f32 := constant S_ .f32 0x7F800000#32
  let main_v6 : FVec F S4x4352x1024 .f32 := broadcastInDim S4x4352x1024 ![] bcast_S_S4x4352x1024 main_cst_0
  let main_v7 : IVec S4x4352x1024 1 := cmpf .olt main_v5 main_v6
  let main_v8 : FVec F S4x4352x1024 .f32 := (extf .f32 · bitsLt_bf16_f32) main_arg3
  let main_v9 : FVec F S4x4352x1024 .f32 := Host.absf main_v8
  let main_cst_1 : FVec F S_ .f32 := constant S_ .f32 0x7F800000#32
  let main_v10 : FVec F S4x4352x1024 .f32 := broadcastInDim S4x4352x1024 ![] bcast_S_S4x4352x1024 main_cst_1
  let main_v11 : IVec S4x4352x1024 1 := cmpf .olt main_v9 main_v10
  let main_v12 : FVec F S4x4352x1024 .f32 := (extf .f32 · bitsLt_bf16_f32) main_arg4
  let main_v13 : FVec F S4x4352x1024 .f32 := Host.absf main_v12
  let main_cst_2 : FVec F S_ .f32 := constant S_ .f32 0x7F800000#32
  let main_v14 : FVec F S4x4352x1024 .f32 := broadcastInDim S4x4352x1024 ![] bcast_S_S4x4352x1024 main_cst_2
  let main_v15 : IVec S4x4352x1024 1 := cmpf .olt main_v13 main_v14
  let main_v16 : FVec F S16x64 .f32 := Host.absf main_arg13
  let main_cst_3 : FVec F S_ .f32 := constant S_ .f32 0x7F800000#32
  let main_v17 : FVec F S16x64 .f32 := broadcastInDim S16x64 ![] bcast_S_S16x64 main_cst_3
  let main_v18 : IVec S16x64 1 := cmpf .olt main_v16 main_v17
  (main_v3, main_v7, main_v11, main_v15, main_v18)
-- ==== Pre_rates_not_zero.lean ====
abbrev S4x4352x4096 : Shape := ⟨3, ![4, 4352, 4096]⟩
abbrev S4x4352x6272 : Shape := ⟨3, ![4, 4352, 6272]⟩
abbrev S2x32 : Shape := ⟨2, ![2, 32]⟩
abbrev S_ : Shape := ⟨0, ![]⟩

class Facts : Prop where
  bcast_S_S2x32 : S_.BroadcastsInDim S2x32 (![] : Fin 0 → Fin S2x32.rank)

variable [Facts]

def fn {F : FTy → Type} [FloatOps F] (main_arg0 : FVec F S4x4352x4096 .bf16) (main_arg1 : FVec F S4x4352x6272 .bf16) (main_arg2 : FVec F S2x32 .f32) (main_arg3 : FVec F S2x32 .f32) : IVec S2x32 1 :=
  let main_cst : FVec F S_ .f32 := constant S_ .f32 0xFF800000#32
  let main_v0 : FVec F S2x32 .f32 := broadcastInDim S2x32 ![] bcast_S_S2x32 main_cst
  let main_v1 : IVec S2x32 1 := cmpf .ogt main_arg3 main_v0
  main_v1
-- ==== Pre_scan_finite.lean ====
abbrev S4x4352x2048 : Shape := ⟨3, ![4, 4352, 2048]⟩
abbrev S4x4352x4096 : Shape := ⟨3, ![4, 4352, 4096]⟩
abbrev S4x4352x6272 : Shape := ⟨3, ![4, 4352, 6272]⟩
abbrev S2x32 : Shape := ⟨2, ![2, 32]⟩
abbrev S2048 : Shape := ⟨1, ![2048]⟩
abbrev S2048x1024 : Shape := ⟨2, ![2048, 1024]⟩
abbrev S_ : Shape := ⟨0, ![]⟩

class Facts : Prop where
  bitsLt_bf16_f32 : FTy.bits .bf16 < FTy.bits .f32
  bcast_S_S4x4352x2048 : S_.BroadcastsInDim S4x4352x2048 (![] : Fin 0 → Fin S4x4352x2048.rank)
  slices_S4x4352x4096_S4x4352x2048_0_0_0 : S4x4352x4096.Slices ![0, 0, 0] S4x4352x2048
  slices_S4x4352x6272_S4x4352x2048_0_0_4096 : S4x4352x6272.Slices ![0, 0, 4096] S4x4352x2048
  bcast_S_S2x32 : S_.BroadcastsInDim S2x32 (![] : Fin 0 → Fin S2x32.rank)

variable [Facts]

def fn_part1 {F : FTy → Type} [FloatOps F] (main_v3 : IVec S4x4352x2048 1) (main_v7 : IVec S4x4352x2048 1) (main_v12 : IVec S4x4352x2048 1) (main_v16 : IVec S4x4352x2048 1) (main_v17 : FVec F S2x32 .f32) (main_v18 : FVec F S2x32 .f32) : IVec S4x4352x2048 1 × IVec S4x4352x2048 1 × IVec S4x4352x2048 1 × IVec S4x4352x2048 1 × IVec S2x32 1 :=
  let main_v19 : IVec S2x32 1 := cmpf .olt main_v17 main_v18
  (main_v3, main_v7, main_v12, main_v16, main_v19)

def fn {F : FTy → Type} [FloatOps F] (main_arg0 : FVec F S4x4352x2048 .bf16) (main_arg1 : FVec F S4x4352x2048 .bf16) (main_arg2 : FVec F S4x4352x4096 .bf16) (main_arg3 : FVec F S4x4352x6272 .bf16) (main_arg4 : FVec F S2x32 .f32) (main_arg5 : FVec F S2048 .f32) (main_arg6 : FVec F S2048x1024 .f32) : IVec S4x4352x2048 1 × IVec S4x4352x2048 1 × IVec S4x4352x2048 1 × IVec S4x4352x2048 1 × IVec S2x32 1 :=
  let main_v0 : FVec F S4x4352x2048 .f32 := (extf .f32 · bitsLt_bf16_f32) main_arg0
  let main_v1 : FVec F S4x4352x2048 .f32 := Host.absf main_v0
  let main_cst : FVec F S_ .f32 := constant S_ .f32 0x7F800000#32
  let main_v2 : FVec F S4x4352x2048 .f32 := broadcastInDim S4x4352x2048 ![] bcast_S_S4x4352x2048 main_cst
  let main_v3 : IVec S4x4352x2048 1 := cmpf .olt main_v1 main_v2
  let main_v4 : FVec F S4x4352x2048 .f32 := (extf .f32 · bitsLt_bf16_f32) main_arg1
  let main_v5 : FVec F S4x4352x2048 .f32 := Host.absf main_v4
  let main_cst_0 : FVec F S_ .f32 := constant S_ .f32 0x7F800000#32
  let main_v6 : FVec F S4x4352x2048 .f32 := broadcastInDim S4x4352x2048 ![] bcast_S_S4x4352x2048 main_cst_0
  let main_v7 : IVec S4x4352x2048 1 := cmpf .olt main_v5 main_v6
  let main_v8 : FVec F S4x4352x2048 .bf16 := (extractStridedSlice S4x4352x2048 ![0, 0, 0] · slices_S4x4352x4096_S4x4352x2048_0_0_0) main_arg2
  let main_v9 : FVec F S4x4352x2048 .f32 := (extf .f32 · bitsLt_bf16_f32) main_v8
  let main_v10 : FVec F S4x4352x2048 .f32 := Host.absf main_v9
  let main_cst_1 : FVec F S_ .f32 := constant S_ .f32 0x7F800000#32
  let main_v11 : FVec F S4x4352x2048 .f32 := broadcastInDim S4x4352x2048 ![] bcast_S_S4x4352x2048 main_cst_1
  let main_v12 : IVec S4x4352x2048 1 := cmpf .olt main_v10 main_v11
  let main_v13 : FVec F S4x4352x2048 .bf16 := (extractStridedSlice S4x4352x2048 ![0, 0, 4096] · slices_S4x4352x6272_S4x4352x2048_0_0_4096) main_arg3
  let main_v14 : FVec F S4x4352x2048 .f32 := (extf .f32 · bitsLt_bf16_f32) main_v13
  let main_cst_2 : FVec F S_ .f32 := constant S_ .f32 0x7F800000#32
  let main_v15 : FVec F S4x4352x2048 .f32 := broadcastInDim S4x4352x2048 ![] bcast_S_S4x4352x2048 main_cst_2
  let main_v16 : IVec S4x4352x2048 1 := cmpf .olt main_v14 main_v15
  let main_v17 : FVec F S2x32 .f32 := Host.absf main_arg4
  let main_cst_3 : FVec F S_ .f32 := constant S_ .f32 0x7F800000#32
  let main_v18 : FVec F S2x32 .f32 := broadcastInDim S2x32 ![] bcast_S_S2x32 main_cst_3
  fn_part1 (F := F) main_v3 main_v7 main_v12 main_v16 main_v17 main_v18
-- ==== Kernel.lean ====
abbrev S4x4352x4096 : Shape := ⟨3, ![4, 4352, 4096]⟩
abbrev S4x4352x6272 : Shape := ⟨3, ![4, 4352, 6272]⟩
abbrev S2x32 : Shape := ⟨2, ![2, 32]⟩
abbrev S1x32 : Shape := ⟨2, ![1, 32]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S2 : Shape := ⟨1, ![2]⟩
abbrev S2x1x1x1 : Shape := ⟨4, ![2, 1, 1, 1]⟩
abbrev S8 : Shape := ⟨1, ![8]⟩
abbrev S1x8x1x1 : Shape := ⟨4, ![1, 8, 1, 1]⟩
abbrev S2x8x1x1 : Shape := ⟨4, ![2, 8, 1, 1]⟩
abbrev S1x1x128x1 : Shape := ⟨4, ![1, 1, 128, 1]⟩
abbrev S512 : Shape := ⟨1, ![512]⟩
abbrev S1x1x1x512 : Shape := ⟨4, ![1, 1, 1, 512]⟩
abbrev S2x8x1x512 : Shape := ⟨4, ![2, 8, 1, 512]⟩
abbrev S2x8x128x512 : Shape := ⟨4, ![2, 8, 128, 512]⟩
abbrev S256 : Shape := ⟨1, ![256]⟩
abbrev S1x1x1x256 : Shape := ⟨4, ![1, 1, 1, 256]⟩
abbrev S2x8x1x256 : Shape := ⟨4, ![2, 8, 1, 256]⟩
abbrev S2x8x128x256 : Shape := ⟨4, ![2, 8, 128, 256]⟩
abbrev S2x8x384x512 : Shape := ⟨4, ![2, 8, 384, 512]⟩
abbrev S2x8x256x256 : Shape := ⟨4, ![2, 8, 256, 256]⟩
abbrev S4x4352x2048 : Shape := ⟨3, ![4, 4352, 2048]⟩
abbrev S1x128x4096 : Shape := ⟨3, ![1, 128, 4096]⟩
abbrev S1x128x128 : Shape := ⟨3, ![1, 128, 128]⟩
abbrev S1x128x2048 : Shape := ⟨3, ![1, 128, 2048]⟩
abbrev S2x128x128 : Shape := ⟨3, ![2, 128, 128]⟩
abbrev S2x128x640 : Shape := ⟨3, ![2, 128, 640]⟩
abbrev S128x128 : Shape := ⟨2, ![128, 128]⟩
abbrev S128x640 : Shape := ⟨2, ![128, 640]⟩
abbrev S1x128x640 : Shape := ⟨3, ![1, 128, 640]⟩
abbrev S1x128x256 : Shape := ⟨3, ![1, 128, 256]⟩
abbrev S128x256 : Shape := ⟨2, ![128, 256]⟩
abbrev S1x1x384x512 : Shape := ⟨4, ![1, 1, 384, 512]⟩
abbrev S384x512 : Shape := ⟨2, ![384, 512]⟩
abbrev S1x1x256x256 : Shape := ⟨4, ![1, 1, 256, 256]⟩
abbrev S256x256 : Shape := ⟨2, ![256, 256]⟩
abbrev S1x128x384 : Shape := ⟨3, ![1, 128, 384]⟩
abbrev S128x384 : Shape := ⟨2, ![128, 384]⟩
abbrev S128x512 : Shape := ⟨2, ![128, 512]⟩
abbrev S1x1x128x256 : Shape := ⟨4, ![1, 1, 128, 256]⟩
abbrev S1x256 : Shape := ⟨2, ![1, 256]⟩
abbrev S1x1x128 : Shape := ⟨3, ![1, 1, 128]⟩
abbrev S256x128 : Shape := ⟨2, ![256, 128]⟩

abbrev nBuf : Space → Nat
  | .hbm => 97
  | .vmem => 19
  | .smem => 0
  | _ => 0

abbrev bufTy : (tb : Table) → Fin (tcTables nBuf tb) → BufTy
  | .hbm, ⟨0, _⟩ => ⟨S4x4352x4096, .bf16⟩
  | .hbm, ⟨1, _⟩ => ⟨S4x4352x6272, .bf16⟩
  | .hbm, ⟨2, _⟩ => ⟨S2x32, .f32⟩
  | .hbm, ⟨3, _⟩ => ⟨S2x32, .f32⟩
  | .hbm, ⟨4, _⟩ => ⟨S1x32, .f32⟩
  | .hbm, ⟨5, _⟩ => ⟨S32, .f32⟩
  | .hbm, ⟨6, _⟩ => ⟨S1x32, .f32⟩
  | .hbm, ⟨7, _⟩ => ⟨S32, .f32⟩
  | .hbm, ⟨8, _⟩ => ⟨S_, .f32⟩
  | .hbm, ⟨9, _⟩ => ⟨S64, .f32⟩
  | .hbm, ⟨10, _⟩ => ⟨S128, .f32⟩
  | .hbm, ⟨11, _⟩ => ⟨S1x128, .f32⟩
  | .hbm, ⟨12, _⟩ => ⟨S1x32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S2, .i32⟩
  | .hbm, ⟨25, _⟩ => ⟨S2x1x1x1, .i32⟩
  | .hbm, ⟨26, _⟩ => ⟨S_, .i32⟩
  | .hbm, ⟨27, _⟩ => ⟨S2x1x1x1, .i32⟩
  | .hbm, ⟨28, _⟩ => ⟨S2x1x1x1, .i32⟩
  | .hbm, ⟨29, _⟩ => ⟨S8, .i32⟩
  | .hbm, ⟨30, _⟩ => ⟨S1x8x1x1, .i32⟩
  | .hbm, ⟨31, _⟩ => ⟨S_, .i32⟩
  | .hbm, ⟨32, _⟩ => ⟨S1x8x1x1, .i32⟩
  | .hbm, ⟨33, _⟩ => ⟨S1x8x1x1, .i32⟩
  | .hbm, ⟨34, _⟩ => ⟨S2x8x1x1, .i32⟩
  | .hbm, ⟨35, _⟩ => ⟨S2x8x1x1, .i32⟩
  | .hbm, ⟨36, _⟩ => ⟨S2x8x1x1, .i32⟩
  | .hbm, ⟨37, _⟩ => ⟨S128, .i32⟩
  | .hbm, ⟨38, _⟩ => ⟨S1x1x128x1, .i32⟩
  | .hbm, ⟨39, _⟩ => ⟨S512, .i32⟩
  | .hbm, ⟨40, _⟩ => ⟨S1x1x1x512, .i32⟩
  | .hbm, ⟨41, _⟩ => ⟨S_, .i32⟩
  | .hbm, ⟨42, _⟩ => ⟨S_, .i32⟩
  | .hbm, ⟨43, _⟩ => ⟨S1x1x1x512, .i32⟩
  | .hbm, ⟨44, _⟩ => ⟨S1x1x1x512, .i32⟩
  | .hbm, ⟨45, _⟩ => ⟨S1x1x1x512, .i32⟩
  | .hbm, ⟨46, _⟩ => ⟨S_, .i32⟩
  | .hbm, ⟨47, _⟩ => ⟨S1x1x1x512, .i32⟩
  | .hbm, ⟨48, _⟩ => ⟨S1x1x1x512, .i1⟩
  | .hbm, ⟨49, _⟩ => ⟨S1x1x1x512, .i32⟩
  | .hbm, ⟨50, _⟩ => ⟨S1x1x1x512, .i32⟩
  | .hbm, ⟨51, _⟩ => ⟨S_, .i32⟩
  | .hbm, ⟨52, _⟩ => ⟨S1x1x1x512, .i32⟩
  | .hbm, ⟨53, _⟩ => ⟨S1x1x1x512, .i1⟩
  | .hbm, ⟨54, _⟩ => ⟨S1x1x1x512, .i1⟩
  | .hbm, ⟨55, _⟩ => ⟨S_, .i32⟩
  | .hbm, ⟨56, _⟩ => ⟨S1x1x1x512, .i32⟩
  | .hbm, ⟨57, _⟩ => ⟨S1x1x1x512, .i32⟩
  | .hbm, ⟨58, _⟩ => ⟨S1x1x1x512, .i32⟩
  | .hbm, ⟨59, _⟩ => ⟨S2x8x1x512, .i32⟩
  | .hbm, ⟨60, _⟩ => ⟨S2x8x1x512, .i32⟩
  | .hbm, ⟨61, _⟩ => ⟨S2x8x1x512, .i32⟩
  | .hbm, ⟨62, _⟩ => ⟨S2x8x128x512, .i32⟩
  | .hbm, ⟨63, _⟩ => ⟨S2x8x128x512, .i32⟩
  | .hbm, ⟨64, _⟩ => ⟨S2x8x128x512, .i1⟩
  | .hbm, ⟨65, _⟩ => ⟨S2x8x128x512, .bf16⟩
  | .hbm, ⟨66, _⟩ => ⟨S256, .i32⟩
  | .hbm, ⟨67, _⟩ => ⟨S1x1x1x256, .i32⟩
  | .hbm, ⟨68, _⟩ => ⟨S_, .i32⟩
  | .hbm, ⟨69, _⟩ => ⟨S_, .i32⟩
  | .hbm, ⟨70, _⟩ => ⟨S1x1x1x256, .i32⟩
  | .hbm, ⟨71, _⟩ => ⟨S1x1x1x256, .i32⟩
  | .hbm, ⟨72, _⟩ => ⟨S1x1x1x256, .i32⟩
  | .hbm, ⟨73, _⟩ => ⟨S_, .i32⟩
  | .hbm, ⟨74, _⟩ => ⟨S1x1x1x256, .i32⟩
  | .hbm, ⟨75, _⟩ => ⟨S1x1x1x256, .i1⟩
  | .hbm, ⟨76, _⟩ => ⟨S1x1x1x256, .i32⟩
  | .hbm, ⟨77, _⟩ => ⟨S1x1x1x256, .i32⟩
  | .hbm, ⟨78, _⟩ => ⟨S_, .i32⟩
  | .hbm, ⟨79, _⟩ => ⟨S1x1x1x256, .i32⟩
  | .hbm, ⟨80, _⟩ => ⟨S1x1x1x256, .i1⟩
  | .hbm, ⟨81, _⟩ => ⟨S1x1x1x256, .i1⟩
  | .hbm, ⟨82, _⟩ => ⟨S_, .i32⟩
  | .hbm, ⟨83, _⟩ => ⟨S1x1x1x256, .i32⟩
  | .hbm, ⟨84, _⟩ => ⟨S1x1x1x256, .i32⟩
  | .hbm, ⟨85, _⟩ => ⟨S1x1x1x256, .i32⟩
  | .hbm, ⟨86, _⟩ => ⟨S2x8x1x256, .i32⟩
  | .hbm, ⟨87, _⟩ => ⟨S2x8x1x256, .i32⟩
  | .hbm, ⟨88, _⟩ => ⟨S2x8x1x256, .i32⟩
  | .hbm, ⟨89, _⟩ => ⟨S2x8x128x256, .i32⟩
  | .hbm, ⟨90, _⟩ => ⟨S2x8x128x256, .i32⟩
  | .hbm, ⟨91, _⟩ => ⟨S2x8x128x256, .i1⟩
  | .hbm, ⟨92, _⟩ => ⟨S2x8x128x256, .bf16⟩
  | .hbm, ⟨93, _⟩ => ⟨S2x8x384x512, .bf16⟩
  | .hbm, ⟨94, _⟩ => ⟨S2x8x256x256, .bf16⟩
  | .hbm, ⟨95, _⟩ => ⟨S4x4352x2048, .bf16⟩
  | .hbm, ⟨96, _⟩ => ⟨S4x4352x2048, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x128x128, .bf16⟩
  | .local _ .vmem, ⟨7, _⟩ => ⟨S1x128x128, .bf16⟩
  | .local _ .vmem, ⟨8, _⟩ => ⟨S1x128, .f32⟩
  | .local _ .vmem, ⟨9, _⟩ => ⟨S1x128, .f32⟩
  | .local _ .vmem, ⟨10, _⟩ => ⟨S2x8x384x512, .bf16⟩
  | .local _ .vmem, ⟨11, _⟩ => ⟨S2x8x256x256, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S2x8x128x256, .f32⟩
  | .local _ .vmem, ⟨17, _⟩ => ⟨S2x128x128, .f32⟩
  | .local _ .vmem, ⟨18, _⟩ => ⟨S2x128x640, .bf16⟩
  | _, _ => ⟨S4x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_3 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_c : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_0 : Ref sig .tc := ⟨.hbm, 82, rfl⟩
abbrev main_call1_v12 : Ref sig .tc := ⟨.hbm, 83, rfl⟩
abbrev main_call1_v13 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53_0 : Ref sig .tc := ⟨.hbm, 95, rfl⟩
abbrev main_v53_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 34], ![false, false]⟩

def k0_mult1 : BitVec 32 :=
  let c0_i32_30 : BitVec 32 := 0#32
  let c256_i32 : BitVec 32 := 256#32
  let v102 : BitVec 32 := Scalar.muli c0_i32_30 c256_i32
  v102
def k0_mult2 : BitVec 32 :=
  let c2048_i32 : BitVec 32 := 2048#32
  let c0_i32_30 : BitVec 32 := 0#32
  let c128_i32 : BitVec 32 := 128#32
  let v104 : BitVec 32 := Scalar.muli c0_i32_30 c128_i32
  let v105 : BitVec 32 := Scalar.addi c2048_i32 v104
  v105
def k0_mult3 : BitVec 32 :=
  let c3072_i32 : BitVec 32 := 3072#32
  let c0_i32_30 : BitVec 32 := 0#32
  let c128_i32_31 : BitVec 32 := 128#32
  let v107 : BitVec 32 := Scalar.muli c0_i32_30 c128_i32_31
  let v108 : BitVec 32 := Scalar.addi c3072_i32 v107
  v108
def k0_off1 (c0_i32_30 : BitVec 32) : Fin 3 → Nat :=
  let c0_32 : Index := 0#32
  let c0_33 : Index := 0#32
  let c256_i32 : BitVec 32 := 256#32
  let v102 : BitVec 32 := Scalar.muli c0_i32_30 c256_i32
  let v103 : BitVec 32 := v102
  let v110 : Index := Scalar.indexCast v103
  ![0, 0, v110.toNat]
def k0_off2 (c2048_i32 : BitVec 32) (c0_i32_30 : BitVec 32) : Fin 3 → Nat :=
  let c0_36 : Index := 0#32
  let c0_37 : Index := 0#32
  let c128_i32 : BitVec 32 := 128#32
  let v104 : BitVec 32 := Scalar.muli c0_i32_30 c128_i32
  let v105 : BitVec 32 := Scalar.addi c2048_i32 v104
  let v106 : BitVec 32 := v105
  let v118 : Index := Scalar.indexCast v106
  ![0, 0, v118.toNat]
def k0_off3 (c0_i32_30 : BitVec 32) (c0_i32_87 : BitVec 32) : Fin 3 → Nat :=
  let c0_88 : Index := 0#32
  let c0_i32_86 : BitVec 32 := 0#32
  let c4_i32 : BitVec 32 := 4#32
  let v204 : BitVec 32 := Scalar.muli c0_i32_30 c4_i32
  let v205 : BitVec 32 := Scalar.addi c0_i32_86 v204
  let v206 : BitVec 32 := Scalar.addi v205 c0_i32_87
  let v208 : Index := Scalar.indexCast v206
  let c0_89 : Index := 0#32
  ![0, v208.toNat, 0]
def k0_off4 (c0_i32_30 : BitVec 32) (c0_i32_115 : BitVec 32) : Fin 3 → Nat :=
  let c1_116 : Index := 1#32
  let c32_i32 : BitVec 32 := 32#32
  let c4_i32_114 : BitVec 32 := 4#32
  let v284 : BitVec 32 := Scalar.muli c0_i32_30 c4_i32_114
  let v285 : BitVec 32 := Scalar.addi c32_i32 v284
  let v286 : BitVec 32 := Scalar.addi v285 c0_i32_115
  let v288 : Index := Scalar.indexCast v286
  let c0_117 : Index := 0#32
  ![1, v288.toNat, 0]
def k0_off5 (c0_i32_30 : BitVec 32) : Fin 3 → Nat :=
  let c0_151 : Index := 0#32
  let c0_152 : Index := 0#32
  let c256_i32 : BitVec 32 := 256#32
  let v102 : BitVec 32 := Scalar.muli c0_i32_30 c256_i32
  let v103 : BitVec 32 := v102
  let v385 : Index := Scalar.indexCast v103
  ![0, 0, v385.toNat]
def k0_mult4 : BitVec 32 :=
  let c1_i32_161 : BitVec 32 := 1#32
  let c256_i32_162 : BitVec 32 := 256#32
  let v414 : BitVec 32 := Scalar.muli c1_i32_161 c256_i32_162
  v414
def k0_mult5 : BitVec 32 :=
  let c2048_i32_164 : BitVec 32 := 2048#32
  let c1_i32_161 : BitVec 32 := 1#32
  let c128_i32_163 : BitVec 32 := 128#32
  let v416 : BitVec 32 := Scalar.muli c1_i32_161 c128_i32_163
  let v417 : BitVec 32 := Scalar.addi c2048_i32_164 v416
  v417
def k0_mult6 : BitVec 32 :=
  let c3072_i32_166 : BitVec 32 := 3072#32
  let c1_i32_161 : BitVec 32 := 1#32
  let c128_i32_165 : BitVec 32 := 128#32
  let v419 : BitVec 32 := Scalar.muli c1_i32_161 c128_i32_165
  let v420 : BitVec 32 := Scalar.addi c3072_i32_166 v419
  v420
def k0_mult7 : BitVec 32 :=
  let c2_i32_303 : BitVec 32 := 2#32
  let c256_i32_304 : BitVec 32 := 256#32
  let v726 : BitVec 32 := Scalar.muli c2_i32_303 c256_i32_304
  v726
def k0_mult8 : BitVec 32 :=
  let c2048_i32_306 : BitVec 32 := 2048#32
  let c2_i32_303 : BitVec 32 := 2#32
  let c128_i32_305 : BitVec 32 := 128#32
  let v728 : BitVec 32 := Scalar.muli c2_i32_303 c128_i32_305
  let v729 : BitVec 32 := Scalar.addi c2048_i32_306 v728
  v729
def k0_mult9 : BitVec 32 :=
  let c3072_i32_308 : BitVec 32 := 3072#32
  let c2_i32_303 : BitVec 32 := 2#32
  let c128_i32_307 : BitVec 32 := 128#32
  let v731 : BitVec 32 := Scalar.muli c2_i32_303 c128_i32_307
  let v732 : BitVec 32 := Scalar.addi c3072_i32_308 v731
  v732
def k0_mult10 : BitVec 32 :=
  let c3_i32_445 : BitVec 32 := 3#32
  let c256_i32_446 : BitVec 32 := 256#32
  let v1038 : BitVec 32 := Scalar.muli c3_i32_445 c256_i32_446
  v1038
def k0_mult11 : BitVec 32 :=
  let c2048_i32_448 : BitVec 32 := 2048#32
  let c3_i32_445 : BitVec 32 := 3#32
  let c128_i32_447 : BitVec 32 := 128#32
  let v1040 : BitVec 32 := Scalar.muli c3_i32_445 c128_i32_447
  let v1041 : BitVec 32 := Scalar.addi c2048_i32_448 v1040
  v1041
def k0_mult12 : BitVec 32 :=
  let c3072_i32_450 : BitVec 32 := 3072#32
  let c3_i32_445 : BitVec 32 := 3#32
  let c128_i32_449 : BitVec 32 := 128#32
  let v1043 : BitVec 32 := Scalar.muli c3_i32_445 c128_i32_449
  let v1044 : BitVec 32 := Scalar.addi c3072_i32_450 v1043
  v1044
def k0_mult13 : BitVec 32 :=
  let c4_i32_587 : BitVec 32 := 4#32
  let c256_i32_588 : BitVec 32 := 256#32
  let v1350 : BitVec 32 := Scalar.muli c4_i32_587 c256_i32_588
  v1350
def k0_mult14 : BitVec 32 :=
  let c2048_i32_590 : BitVec 32 := 2048#32
  let c4_i32_587 : BitVec 32 := 4#32
  let c128_i32_589 : BitVec 32 := 128#32
  let v1352 : BitVec 32 := Scalar.muli c4_i32_587 c128_i32_589
  let v1353 : BitVec 32 := Scalar.addi c2048_i32_590 v1352
  v1353
def k0_mult15 : BitVec 32 :=
  let c3072_i32_592 : BitVec 32 := 3072#32
  let c4_i32_587 : BitVec 32 := 4#32
  let c128_i32_591 : BitVec 32 := 128#32
  let v1355 : BitVec 32 := Scalar.muli c4_i32_587 c128_i32_591
  let v1356 : BitVec 32 := Scalar.addi c3072_i32_592 v1355
  v1356
def k0_mult16 : BitVec 32 :=
  let c5_i32 : BitVec 32 := 5#32
  let c256_i32_729 : BitVec 32 := 256#32
  let v1662 : BitVec 32 := Scalar.muli c5_i32 c256_i32_729
  v1662
def k0_mult17 : BitVec 32 :=
  let c2048_i32_731 : BitVec 32 := 2048#32
  let c5_i32 : BitVec 32 := 5#32
  let c128_i32_730 : BitVec 32 := 128#32
  let v1664 : BitVec 32 := Scalar.muli c5_i32 c128_i32_730
  let v1665 : BitVec 32 := Scalar.addi c2048_i32_731 v1664
  v1665
def k0_mult18 : BitVec 32 :=
  let c3072_i32_733 : BitVec 32 := 3072#32
  let c5_i32 : BitVec 32 := 5#32
  let c128_i32_732 : BitVec 32 := 128#32
  let v1667 : BitVec 32 := Scalar.muli c5_i32 c128_i32_732
  let v1668 : BitVec 32 := Scalar.addi c3072_i32_733 v1667
  v1668
def k0_mult19 : BitVec 32 :=
  let c6_i32 : BitVec 32 := 6#32
  let c256_i32_870 : BitVec 32 := 256#32
  let v1974 : BitVec 32 := Scalar.muli c6_i32 c256_i32_870
  v1974
def k0_mult20 : BitVec 32 :=
  let c2048_i32_872 : BitVec 32 := 2048#32
  let c6_i32 : BitVec 32 := 6#32
  let c128_i32_871 : BitVec 32 := 128#32
  let v1976 : BitVec 32 := Scalar.muli c6_i32 c128_i32_871
  let v1977 : BitVec 32 := Scalar.addi c2048_i32_872 v1976
  v1977
def k0_mult21 : BitVec 32 :=
  let c3072_i32_874 : BitVec 32 := 3072#32
  let c6_i32 : BitVec 32 := 6#32
  let c128_i32_873 : BitVec 32 := 128#32
  let v1979 : BitVec 32 := Scalar.muli c6_i32 c128_i32_873
  let v1980 : BitVec 32 := Scalar.addi c3072_i32_874 v1979
  v1980
def k0_mult22 : BitVec 32 :=
  let c7_i32 : BitVec 32 := 7#32
  let c256_i32_1011 : BitVec 32 := 256#32
  let v2286 : BitVec 32 := Scalar.muli c7_i32 c256_i32_1011
  v2286
def k0_mult23 : BitVec 32 :=
  let c2048_i32_1013 : BitVec 32 := 2048#32
  let c7_i32 : BitVec 32 := 7#32
  let c128_i32_1012 : BitVec 32 := 128#32
  let v2288 : BitVec 32 := Scalar.muli c7_i32 c128_i32_1012
  let v2289 : BitVec 32 := Scalar.addi c2048_i32_1013 v2288
  v2289
def k0_mult24 : BitVec 32 :=
  let c3072_i32_1015 : BitVec 32 := 3072#32
  let c7_i32 : BitVec 32 := 7#32
  let c128_i32_1014 : BitVec 32 := 128#32
  let v2291 : BitVec 32 := Scalar.muli c7_i32 c128_i32_1014
  let v2292 : BitVec 32 := Scalar.addi c3072_i32_1015 v2291
  v2292
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  ![arg0.toNat, arg1.toNat, c48_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c1_i32 : BitVec 32 := 1#32
  let v1 : BitVec 32 := Scalar.subi c1_i32 arg1
  let c35_i32 : BitVec 32 := 35#32
  let v2 : BitVec 32 := Scalar.subi c35_i32 arg1
  let v3 : BitVec 32 := Scalar.select v0 v1 v2
  let c0_i32 : BitVec 32 := 0#32
  let c0_i32_0 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c1_i32 : BitVec 32 := 1#32
  let v1 : BitVec 32 := Scalar.subi c1_i32 arg1
  let c35_i32 : BitVec 32 := 35#32
  let v2 : BitVec 32 := Scalar.subi c35_i32 arg1
  let v3 : BitVec 32 := Scalar.select v0 v1 v2
  let c48_i32 : BitVec 32 := 48#32
  let c0_i32 : BitVec 32 := 0#32
  ![arg0.toNat, v3.toNat, c48_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c1_i32 : BitVec 32 := 1#32
  let v1 : BitVec 32 := Scalar.subi c1_i32 arg1
  let c35_i32 : BitVec 32 := 35#32
  let v2 : BitVec 32 := Scalar.subi c35_i32 arg1
  let v3 : BitVec 32 := Scalar.select v0 v1 v2
  let c0_i32 : BitVec 32 := 0#32
  let c0_i32_0 : BitVec 32 := 0#32
  ![arg0.toNat, v3.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x8x384x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x8x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x4352x4096 : Shape := ⟨3, ![4, 4352, 4096]⟩
abbrev S4x4352x6272 : Shape := ⟨3, ![4, 4352, 6272]⟩
abbrev S2x32 : Shape := ⟨2, ![2, 32]⟩
abbrev S4x4352x64 : Shape := ⟨3, ![4, 4352, 64]⟩
abbrev S4x4352x2048 : Shape := ⟨3, ![4, 4352, 2048]⟩
abbrev S4x4352x1024 : Shape := ⟨3, ![4, 4352, 1024]⟩
abbrev S4x4352x8x4x64 : Shape := ⟨5, ![4, 4352, 8, 4, 64]⟩
abbrev S4x4352x8x128 : Shape := ⟨4, ![4, 4352, 8, 128]⟩
abbrev S4x4352x2x32 : Shape := ⟨4, ![4, 4352, 2, 32]⟩
abbrev S_ : Shape := ⟨0, ![]⟩
abbrev S8x8x4x64x128 : Shape := ⟨5, ![8, 8, 4, 64, 128]⟩
abbrev S4x4352x1x32 : Shape := ⟨4, ![4, 4352, 1, 32]⟩
abbrev S4x4352x32 : Shape := ⟨3, ![4, 4352, 32]⟩
abbrev S1x32 : Shape := ⟨2, ![1, 32]⟩
abbrev S32 : Shape := ⟨1, ![32]⟩
abbrev S1x1x32 : Shape := ⟨3, ![1, 1, 32]⟩
abbrev S4x4352x8x4 : Shape := ⟨4, ![4, 4352, 8, 4]⟩
abbrev S8x4 : Shape := ⟨2, ![8, 4]⟩
abbrev S1x1x8x4 : Shape := ⟨4, ![1, 1, 8, 4]⟩
abbrev S4x4352x8x4x1 : Shape := ⟨5, ![4, 4352, 8, 4, 1]⟩
abbrev S4x256x8x4x64 : Shape := ⟨5, ![4, 256, 8, 4, 64]⟩
abbrev S4x4096x8x4x64 : Shape := ⟨5, ![4, 4096, 8, 4, 64]⟩
abbrev S8x4352x8x4x64 : Shape := ⟨5, ![8, 4352, 8, 4, 64]⟩
abbrev S4x256x8x4 : Shape := ⟨4, ![4, 256, 8, 4]⟩
abbrev S4x4096x8x4 : Shape := ⟨4, ![4, 4096, 8, 4]⟩
abbrev S8x4352x8x4 : Shape := ⟨4, ![8, 4352, 8, 4]⟩
abbrev S4x256x8x128 : Shape := ⟨4, ![4, 256, 8, 128]⟩
abbrev S4x4096x8x128 : Shape := ⟨4, ![4, 4096, 8, 128]⟩
abbrev S8x4352x8x128 : Shape := ⟨4, ![8, 4352, 8, 128]⟩
abbrev S8x34x128x8x4x64 : Shape := ⟨6, ![8, 34, 128, 8, 4, 64]⟩
abbrev S8x34x128x8x128 : Shape := ⟨5, ![8, 34, 128, 8, 128]⟩
abbrev S8x34x128x8x4 : Shape := ⟨5, ![8, 34, 128, 8, 4]⟩
abbrev S8x8x4x34x128 : Shape := ⟨5, ![8, 8, 4, 34, 128]⟩
abbrev S8x8x4x34x1 : Shape := ⟨5, ![8, 8, 4, 34, 1]⟩
abbrev S8x34x128x8x4x1 : Shape := ⟨6, ![8, 34, 128, 8, 4, 1]⟩
abbrev S8x34x8x4x64x128 : Shape := ⟨6, ![8, 34, 8, 4, 64, 128]⟩
abbrev S8x8x4x34 : Shape := ⟨4, ![8, 8, 4, 34]⟩
abbrev S34x8x8x4x64x128 : Shape := ⟨6, ![34, 8, 8, 4, 64, 128]⟩
abbrev S34x8x8x4 : Shape := ⟨4, ![34, 8, 8, 4]⟩
abbrev S1x8x8x4x64x128 : Shape := ⟨6, ![1, 8, 8, 4, 64, 128]⟩
abbrev S1x8x8x4 : Shape := ⟨4, ![1, 8, 8, 4]⟩
abbrev S8x8x4 : Shape := ⟨3, ![8, 8, 4]⟩
abbrev S8x8x4x1x1 : Shape := ⟨5, ![8, 8, 4, 1, 1]⟩
abbrev S128x128 : Shape := ⟨2, ![128, 128]⟩
abbrev S8x8x4x34x128x1 : Shape := ⟨6, ![8, 8, 4, 34, 128, 1]⟩
abbrev S8x8x4x34x1x128 : Shape := ⟨6, ![8, 8, 4, 34, 1, 128]⟩
abbrev S8x8x4x34x128x128 : Shape := ⟨6, ![8, 8, 4, 34, 128, 128]⟩
abbrev S8x8x34x128x128 : Shape := ⟨5, ![8, 8, 34, 128, 128]⟩
abbrev S8x8x1x34x128x128 : Shape := ⟨6, ![8, 8, 1, 34, 128, 128]⟩

abbrev nBuf : Space → Nat
  | .hbm => 212
  | .vmem => 0
  | .smem => 0
  | _ => 0

abbrev hbmTy0_0 (i : Nat) : BufTy := match i % 128 with
  | 0 => ⟨S4x4352x4096, .bf16⟩
  | 1 => ⟨S4x4352x6272, .bf16⟩
  | 2 => ⟨S2x32, .f32⟩
  | 3 => ⟨S2x32, .f32⟩
  | 4 => ⟨S4x4352x4096, .f32⟩
  | 5 => ⟨S4x4352x64, .bf16⟩
  | 6 => ⟨S4x4352x64, .f32⟩
  | 7 => ⟨S4x4352x2048, .f32⟩
  | 8 => ⟨S4x4352x1024, .f32⟩
  | 9 => ⟨S4x4352x1024, .f32⟩
  | 10 => ⟨S4x4352x8x4x64, .f32⟩
  | 11 => ⟨S4x4352x8x128, .f32⟩
  | 12 => ⟨S4x4352x8x128, .f32⟩
  | 13 => ⟨S4x4352x2x32, .f32⟩
  | 14 => ⟨S_, .f32⟩
  | 15 => ⟨S8x8x4x64x128, .f32⟩
  | 16 => ⟨S4x4352x1x32, .f32⟩
  | 17 => ⟨S4x4352x32, .f32⟩
  | 18 => ⟨S1x32, .f32⟩
  | 19 => ⟨S32, .f32⟩
  | 20 => ⟨S1x1x32, .f32⟩
  | 21 => ⟨S4x4352x32, .f32⟩
  | 22 => ⟨S4x4352x32, .f32⟩
  | 23 => ⟨S_, .f32⟩
  | 24 => ⟨S4x4352x32, .f32⟩
  | 25 => ⟨S4x4352x32, .f32⟩
  | 26 => ⟨S4x4352x32, .f32⟩
  | 27 => ⟨S4x4352x32, .f32⟩
  | 28 => ⟨S4x4352x32, .i1⟩
  | 29 => ⟨S4x4352x32, .f32⟩
  | 30 => ⟨S4x4352x32, .f32⟩
  | 31 => ⟨S4x4352x32, .f32⟩
  | 32 => ⟨S4x4352x32, .f32⟩
  | 33 => ⟨S4x4352x32, .f32⟩
  | 34 => ⟨S4x4352x32, .f32⟩
  | 35 => ⟨S4x4352x32, .f32⟩
  | 36 => ⟨S4x4352x32, .f32⟩
  | 37 => ⟨S4x4352x8x4, .f32⟩
  | 38 => ⟨S1x32, .f32⟩
  | 39 => ⟨S32, .f32⟩
  | 40 => ⟨S32, .f32⟩
  | 41 => ⟨S32, .f32⟩
  | 42 => ⟨S8x4, .f32⟩
  | 43 => ⟨S1x1x8x4, .f32⟩
  | 44 => ⟨S4x4352x8x4, .f32⟩
  | 45 => ⟨S4x4352x8x4, .f32⟩
  | 46 => ⟨S4x4352x8x4x1, .f32⟩
  | 47 => ⟨S4x4352x8x4x64, .f32⟩
  | 48 => ⟨S4x4352x8x4x64, .f32⟩
  | 49 => ⟨S4x4352x1x32, .f32⟩
  | 50 => ⟨S4x4352x32, .f32⟩
  | 51 => ⟨S1x32, .f32⟩
  | 52 => ⟨S32, .f32⟩
  | 53 => ⟨S1x1x32, .f32⟩
  | 54 => ⟨S4x4352x32, .f32⟩
  | 55 => ⟨S4x4352x32, .f32⟩
  | 56 => ⟨S_, .f32⟩
  | 57 => ⟨S4x4352x32, .f32⟩
  | 58 => ⟨S4x4352x32, .f32⟩
  | 59 => ⟨S4x4352x32, .f32⟩
  | 60 => ⟨S4x4352x32, .f32⟩
  | 61 => ⟨S4x4352x32, .i1⟩
  | 62 => ⟨S4x4352x32, .f32⟩
  | 63 => ⟨S4x4352x32, .f32⟩
  | 64 => ⟨S4x4352x32, .f32⟩
  | 65 => ⟨S4x4352x32, .f32⟩
  | 66 => ⟨S4x4352x32, .f32⟩
  | 67 => ⟨S4x4352x32, .f32⟩
  | 68 => ⟨S4x4352x32, .f32⟩
  | 69 => ⟨S4x4352x32, .f32⟩
  | 70 => ⟨S4x4352x8x4, .f32⟩
  | 71 => ⟨S1x32, .f32⟩
  | 72 => ⟨S32, .f32⟩
  | 73 => ⟨S32, .f32⟩
  | 74 => ⟨S32, .f32⟩
  | 75 => ⟨S8x4, .f32⟩
  | 76 => ⟨S1x1x8x4, .f32⟩
  | 77 => ⟨S4x4352x8x4, .f32⟩
  | 78 => ⟨S4x4352x8x4, .f32⟩
  | 79 => ⟨S4x4352x8x4x1, .f32⟩
  | 80 => ⟨S4x4352x8x4x64, .f32⟩
  | 81 => ⟨S4x4352x8x4x64, .f32⟩
  | 82 => ⟨S4x256x8x4x64, .f32⟩
  | 83 => ⟨S4x256x8x4x64, .f32⟩
  | 84 => ⟨S4x4096x8x4x64, .f32⟩
  | 85 => ⟨S4x4096x8x4x64, .f32⟩
  | 86 => ⟨S4x4352x8x4x64, .f32⟩
  | 87 => ⟨S8x4352x8x4x64, .f32⟩
  | 88 => ⟨S4x256x8x4, .f32⟩
  | 89 => ⟨S4x256x8x4, .f32⟩
  | 90 => ⟨S4x4096x8x4, .f32⟩
  | 91 => ⟨S4x4096x8x4, .f32⟩
  | 92 => ⟨S4x4352x8x4, .f32⟩
  | 93 => ⟨S8x4352x8x4, .f32⟩
  | 94 => ⟨S4x256x8x128, .f32⟩
  | 95 => ⟨S4x256x8x128, .f32⟩
  | 96 => ⟨S4x4096x8x128, .f32⟩
  | 97 => ⟨S4x4096x8x128, .f32⟩
  | 98 => ⟨S4x4352x8x128, .f32⟩
  | 99 => ⟨S8x4352x8x128, .f32⟩
  | 100 => ⟨S4x256x8x128, .f32⟩
  | 101 => ⟨S4x256x8x128, .f32⟩
  | 102 => ⟨S4x4096x8x128, .f32⟩
  | 103 => ⟨S4x4096x8x128, .f32⟩
  | 104 => ⟨S4x4352x8x128, .f32⟩
  | 105 => ⟨S8x4352x8x128, .f32⟩
  | 106 => ⟨S8x34x128x8x4x64, .f32⟩
  | 107 => ⟨S8x34x128x8x128, .f32⟩
  | 108 => ⟨S8x34x128x8x128, .f32⟩
  | 109 => ⟨S8x34x128x8x4, .f32⟩
  | 110 => ⟨S8x8x4x34x128, .f32⟩
  | 111 => ⟨S_, .f32⟩
  | 112 => ⟨S_, .f32⟩
  | 113 => ⟨S8x8x4x34x128, .f32⟩
  | 114 => ⟨S8x8x4x34x1, .f32⟩
  | 115 => ⟨S8x8x4x34x128, .f32⟩
  | 116 => ⟨S8x8x4x34x128, .f32⟩
  | 117 => ⟨S8x8x4x34x128, .f32⟩
  | 118 => ⟨S8x34x128x8x4, .f32⟩
  | 119 => ⟨S8x34x128x8x4x1, .f32⟩
  | 120 => ⟨S8x34x128x8x4x64, .f32⟩
  | 121 => ⟨S8x34x128x8x4x64, .f32⟩
  | 122 => ⟨S8x34x8x4x64x128, .f32⟩
  | 123 => ⟨S8x8x4x34x1, .f32⟩
  | 124 => ⟨S8x8x4x34, .f32⟩
  | 125 => ⟨S8x8x4x34, .f32⟩
  | 126 => ⟨S34x8x8x4x64x128, .f32⟩
  | 127 => ⟨S34x8x8x4, .f32⟩
  | _ => ⟨S4x4352x4096, .bf16⟩

abbrev hbmTy0_1 (i : Nat) : BufTy := match i % 128 with
  | 0 => ⟨S_, .f32⟩
  | 1 => ⟨S34x8x8x4x64x128, .f32⟩
  | 2 => ⟨S_, .i32⟩
  | 3 => ⟨S34x8x8x4x64x128, .f32⟩
  | 4 => ⟨S34x8x8x4, .f32⟩
  | 5 => ⟨S_, .i32⟩
  | 6 => ⟨S8x8x4x64x128, .f32⟩
  | 7 => ⟨S34x8x8x4x64x128, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S1x8x8x4x64x128, .f32⟩
  | 16 => ⟨S8x8x4x64x128, .f32⟩
  | 17 => ⟨S_, .i32⟩
  | 18 => ⟨S_, .i32⟩
  | 19 => ⟨S_, .i32⟩
  | 20 => ⟨S1x8x8x4, .f32⟩
  | 21 => ⟨S8x8x4, .f32⟩
  | 22 => ⟨S8x8x4x1x1, .f32⟩
  | 23 => ⟨S8x8x4x64x128, .f32⟩
  | 24 => ⟨S8x8x4x64x128, .f32⟩
  | 25 => ⟨S8x8x4x64x128, .f32⟩
  | 26 => ⟨S1x8x8x4x64x128, .f32⟩
  | 27 => ⟨S_, .i32⟩
  | 28 => ⟨S_, .i32⟩
  | 29 => ⟨S_, .i32⟩
  | 30 => ⟨S_, .i32⟩
  | 31 => ⟨S_, .i32⟩
  | 32 => ⟨S34x8x8x4x64x128, .f32⟩
  | 33 => ⟨S_, .i32⟩
  | 34 => ⟨S_, .i32⟩
  | 35 => ⟨S8x34x8x4x64x128, .f32⟩
  | 36 => ⟨S_, .i1⟩
  | 37 => ⟨S128x128, .i1⟩
  | 38 => ⟨S128x128, .i32⟩
  | 39 => ⟨S_, .i32⟩
  | 40 => ⟨S128x128, .i32⟩
  | 41 => ⟨S128x128, .i32⟩
  | 42 => ⟨S128x128, .i32⟩
  | 43 => ⟨S128x128, .i1⟩
  | 44 => ⟨S_, .i1⟩
  | 45 => ⟨S128x128, .i1⟩
  | 46 => ⟨S128x128, .i1⟩
  | 47 => ⟨S8x8x4x34x128x1, .f32⟩
  | 48 => ⟨S8x8x4x34x1x128, .f32⟩
  | 49 => ⟨S8x8x4x34x128x128, .f32⟩
  | 50 => ⟨S8x8x4x34x128x128, .f32⟩
  | 51 => ⟨S8x8x4x34x128x128, .f32⟩
  | 52 => ⟨S_, .f32⟩
  | 53 => ⟨S_, .f32⟩
  | 54 => ⟨S8x8x4x34x128x128, .i1⟩
  | 55 => ⟨S8x8x4x34x128x128, .f32⟩
  | 56 => ⟨S8x8x4x34x128x128, .f32⟩
  | 57 => ⟨S8x8x4x34x128x128, .f32⟩
  | 58 => ⟨S8x8x34x128x128, .f32⟩
  | 59 => ⟨S8x8x1x34x128x128, .f32⟩
  | 60 => ⟨S8x8x4x34x128x128, .f32⟩
  | 61 => ⟨S8x8x4x34x128x128, .f32⟩
  | 62 => ⟨S8x34x8x4x64x128, .f32⟩
  | 63 => ⟨S8x34x128x8x4x64, .f32⟩
  | 64 => ⟨S8x34x8x4x64x128, .f32⟩
  | 65 => ⟨S8x34x128x8x4x64, .f32⟩
  | 66 => ⟨S8x8x4x34x128, .f32⟩
  | 67 => ⟨S8x34x128x8x4, .f32⟩
  | 68 => ⟨S8x34x128x8x4x1, .f32⟩
  | 69 => ⟨S8x34x128x8x4x64, .f32⟩
  | 70 => ⟨S8x34x128x8x4x64, .f32⟩
  | 71 => ⟨S8x34x128x8x4x64, .f32⟩
  | 72 => ⟨S8x4352x8x4x64, .f32⟩
  | 73 => ⟨S4x4352x8x4x64, .f32⟩
  | 74 => ⟨S4x4352x2048, .f32⟩
  | 75 => ⟨S4x4352x2048, .bf16⟩
  | 76 => ⟨S4x4352x8x4x64, .f32⟩
  | 77 => ⟨S4x256x8x4x64, .f32⟩
  | 78 => ⟨S4x256x8x4x64, .f32⟩
  | 79 => ⟨S4x4096x8x4x64, .f32⟩
  | 80 => ⟨S4x4096x8x4x64, .f32⟩
  | 81 => ⟨S4x4352x8x4x64, .f32⟩
  | 82 => ⟨S4x4352x2048, .f32⟩
  | 83 => ⟨S4x4352x2048, .bf16⟩
  | _ => ⟨S4x4352x4096, .bf16⟩

abbrev hbmTy (i : Nat) : BufTy := match i / 128 with
  | 0 => hbmTy0_0 i
  | 1 => hbmTy0_1 i
  | _ => ⟨S4x4352x4096, .bf16⟩

abbrev bufTy : (tb : Table) → Fin (tcTables nBuf tb) → BufTy
  | .hbm, ⟨i, _⟩ => hbmTy i
  | _, _ => ⟨S4x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call10_call0_cst : Ref sig .tc := ⟨.hbm, 111, rfl⟩
abbrev main_call10_call0_v0 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_0 : Ref sig .tc := ⟨.hbm, 128, rfl⟩
abbrev main_v95 : Ref sig .tc := ⟨.hbm, 129, rfl⟩
abbrev main_c : Ref sig .tc := ⟨.hbm, 130, rfl⟩
abbrev main_v96_0 : Ref sig .tc := ⟨.hbm, 131, rfl⟩
abbrev main_v96_1 : Ref sig .tc := ⟨.hbm, 132, rfl⟩
abbrev main_v96_2 : Ref sig .tc := ⟨.hbm, 133, rfl⟩
abbrev main_v96_3 : Ref sig .tc := ⟨.hbm, 134, rfl⟩
abbrev main_v96_4 : Ref sig .tc := ⟨.hbm, 135, rfl⟩
abbrev main_while0c_c_7 : Ref sig .tc := ⟨.hbm, 136, rfl⟩
abbrev main_while0c_v133 : Ref sig .tc := ⟨.hbm, 137, rfl⟩
abbrev main_while0b_call11_c : Ref sig .tc := ⟨.hbm, 138, rfl⟩
abbrev main_while0b_call11_c_0 : Ref sig .tc := ⟨.hbm, 139, rfl⟩
abbrev main_while0b_call11_c_1 : Ref sig .tc := ⟨.hbm, 140, rfl⟩
abbrev main_while0b_call11_c_2 : Ref sig .tc := ⟨.hbm, 141, rfl⟩
abbrev main_while0b_call11_c_3 : Ref sig .tc := ⟨.hbm, 142, rfl⟩
abbrev main_while0b_call11_v0 : Ref sig .tc := ⟨.hbm, 143, rfl⟩
abbrev main_while0b_v133 : Ref sig .tc := ⟨.hbm, 144, rfl⟩
abbrev main_while0b_call12_c : Ref sig .tc := ⟨.hbm, 145, rfl⟩
abbrev main_while0b_call12_c_0 : Ref sig .tc := ⟨.hbm, 146, rfl⟩
abbrev main_while0b_call12_c_1 : Ref sig .tc := ⟨.hbm, 147, rfl⟩
abbrev main_while0b_call12_v0 : Ref sig .tc := ⟨.hbm, 148, rfl⟩
abbrev main_while0b_v134 : Ref sig .tc := ⟨.hbm, 149, rfl⟩
abbrev main_while0b_v135 : Ref sig .tc := ⟨.hbm, 150, rfl⟩
abbrev main_while0b_v136 : Ref sig .tc := ⟨.hbm, 151, rfl⟩
abbrev main_while0b_v137 : Ref sig .tc := ⟨.hbm, 152, rfl⟩
abbrev main_while0b_v138 : Ref sig .tc := ⟨.hbm, 153, rfl⟩
abbrev main_while0b_call13_v0 : Ref sig .tc := ⟨.hbm, 154, rfl⟩
abbrev main_while0b_call13_c : Ref sig .tc := ⟨.hbm, 155, rfl⟩
abbrev main_while0b_call13_c_0 : Ref sig .tc := ⟨.hbm, 156, rfl⟩
abbrev main_while0b_call13_c_1 : Ref sig .tc := ⟨.hbm, 157, rfl⟩
abbrev main_while0b_call13_c_2 : Ref sig .tc := ⟨.hbm, 158, rfl⟩
abbrev main_while0b_call13_c_3 : Ref sig .tc := ⟨.hbm, 159, rfl⟩
abbrev main_while0b_v139 : Ref sig .tc := ⟨.hbm, 160, rfl⟩
abbrev main_while0b_c_7 : Ref sig .tc := ⟨.hbm, 161, rfl⟩
abbrev main_while0b_v140 : Ref sig .tc := ⟨.hbm, 162, rfl⟩
abbrev main_v97 : Ref sig .tc := ⟨.hbm, 163, rfl⟩
abbrev main_c_1 : Ref sig .tc := ⟨.hbm, 164, rfl⟩
abbrev main_v98 : Ref sig .tc := ⟨.hbm, 165, rfl⟩
abbrev main_call14_v0 : Ref sig .tc := ⟨.hbm, 166, rfl⟩
abbrev main_call14_c : Ref sig .tc := ⟨.hbm, 167, rfl⟩
abbrev main_call14_v1 : Ref sig .tc := ⟨.hbm, 168, rfl⟩
abbrev main_call14_v2 : Ref sig .tc := ⟨.hbm, 169, rfl⟩
abbrev main_call14_v3 : Ref sig .tc := ⟨.hbm, 170, rfl⟩
abbrev main_call14_v4 : Ref sig .tc := ⟨.hbm, 171, rfl⟩
abbrev main_call14_c_0 : Ref sig .tc := ⟨.hbm, 172, rfl⟩
abbrev main_call14_v5 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_cst_2 : Ref sig .tc := ⟨.hbm, 180, rfl⟩
abbrev main_call15_v0 : Ref sig .tc := ⟨.hbm, 181, rfl⟩
abbrev main_call15_v1 : Ref sig .tc := ⟨.hbm, 182, rfl⟩
abbrev main_call15_v2 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩

abbrev nD : Nat := 1
abbrev τ : Topo := Topo.v7x

variable {F : FTy → Type} [FloatOps F]

abbrev main_while0_count : Scf.Loop 32 := ⟨0#32, 34#32, 1#32⟩
-- ==== Kernel2.lean ====
abbrev S4x4352x1024 : Shape := ⟨3, ![4, 4352, 1024]⟩
abbrev S1024x11744 : Shape := ⟨2, ![1024, 11744]⟩
abbrev S1024x1024 : Shape := ⟨2, ![1024, 1024]⟩
abbrev S1024x64 : Shape := ⟨2, ![1024, 64]⟩
abbrev S1024x256 : Shape := ⟨2, ![1024, 256]⟩
abbrev S_ : Shape := ⟨0, ![]⟩
abbrev S1024x160 : Shape := ⟨2, ![1024, 160]⟩
abbrev S1024x5632 : Shape := ⟨2, ![1024, 5632]⟩
abbrev S17408x1024 : Shape := ⟨2, ![17408, 1024]⟩
abbrev S17408x5632 : Shape := ⟨2, ![17408, 5632]⟩
abbrev S544x1024 : Shape := ⟨2, ![544, 1024]⟩
abbrev S544x5632 : Shape := ⟨2, ![544, 5632]⟩

abbrev nBuf : Space → Nat
  | .hbm => 23
  | .vmem => 5
  | .smem => 0
  | _ => 0

abbrev bufTy : (tb : Table) → Fin (tcTables nBuf tb) → BufTy
  | .hbm, ⟨0, _⟩ => ⟨S4x4352x1024, .bf16⟩
  | .hbm, ⟨1, _⟩ => ⟨S1024x11744, .f32⟩
  | .hbm, ⟨2, _⟩ => ⟨S1024x11744, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x64, .bf16⟩
  | .hbm, ⟨9, _⟩ => ⟨S1024x64, .bf16⟩
  | .hbm, ⟨10, _⟩ => ⟨S1024x64, .bf16⟩
  | .hbm, ⟨11, _⟩ => ⟨S1024x64, .bf16⟩
  | .hbm, ⟨12, _⟩ => ⟨S1024x256, .bf16⟩
  | .hbm, ⟨13, _⟩ => ⟨S_, .i32⟩
  | .hbm, ⟨14, _⟩ => ⟨S_, .bf16⟩
  | .hbm, ⟨15, _⟩ => ⟨S1024x256, .bf16⟩
  | .hbm, ⟨16, _⟩ => ⟨S1024x160, .bf16⟩
  | .hbm, ⟨17, _⟩ => ⟨S_, .i32⟩
  | .hbm, ⟨18, _⟩ => ⟨S_, .bf16⟩
  | .hbm, ⟨19, _⟩ => ⟨S1024x256, .bf16⟩
  | .hbm, ⟨20, _⟩ => ⟨S1024x5632, .bf16⟩
  | .hbm, ⟨21, _⟩ => ⟨S17408x1024, .bf16⟩
  | .hbm, ⟨22, _⟩ => ⟨S17408x5632, .bf16⟩
  | .local _ .vmem, ⟨0, _⟩ => ⟨S544x1024, .bf16⟩
  | .local _ .vmem, ⟨1, _⟩ => ⟨S544x1024, .bf16⟩
  | .local _ .vmem, ⟨2, _⟩ => ⟨S1024x5632, .bf16⟩
  | .local _ .vmem, ⟨3, _⟩ => ⟨S544x5632, .bf16⟩
  | .local _ .vmem, ⟨4, _⟩ => ⟨S544x5632, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x4352x1024 : Shape := ⟨3, ![4, 4352, 1024]⟩
abbrev S1024x11744 : Shape := ⟨2, ![1024, 11744]⟩
abbrev S4x4352x11744 : Shape := ⟨3, ![4, 4352, 11744]⟩
abbrev S4x4352x3488 : Shape := ⟨3, ![4, 4352, 3488]⟩
abbrev S4x4352x6208 : Shape := ⟨3, ![4, 4352, 6208]⟩
abbrev S4x4352x2048 : Shape := ⟨3, ![4, 4352, 2048]⟩
abbrev S4x4352x64 : Shape := ⟨3, ![4, 4352, 64]⟩
abbrev S4x4352x160 : Shape := ⟨3, ![4, 4352, 160]⟩
abbrev S_ : Shape := ⟨0, ![]⟩
abbrev S4x4352x96 : Shape := ⟨3, ![4, 4352, 96]⟩
abbrev S4x4352x5632 : Shape := ⟨3, ![4, 4352, 5632]⟩
abbrev S17408x5632 : Shape := ⟨2, ![17408, 5632]⟩

abbrev nBuf : Space → Nat
  | .hbm => 22
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S1024x11744, .f32⟩
  | .hbm, ⟨2, _⟩ => ⟨S4x4352x1024, .f32⟩
  | .hbm, ⟨3, _⟩ => ⟨S4x4352x11744, .f32⟩
  | .hbm, ⟨4, _⟩ => ⟨S4x4352x3488, .f32⟩
  | .hbm, ⟨5, _⟩ => ⟨S4x4352x6208, .f32⟩
  | .hbm, ⟨6, _⟩ => ⟨S4x4352x2048, .f32⟩
  | .hbm, ⟨7, _⟩ => ⟨S4x4352x1024, .f32⟩
  | .hbm, ⟨8, _⟩ => ⟨S4x4352x64, .f32⟩
  | .hbm, ⟨9, _⟩ => ⟨S4x4352x64, .f32⟩
  | .hbm, ⟨10, _⟩ => ⟨S4x4352x1024, .f32⟩
  | .hbm, ⟨11, _⟩ => ⟨S4x4352x1024, .f32⟩
  | .hbm, ⟨12, _⟩ => ⟨S4x4352x64, .f32⟩
  | .hbm, ⟨13, _⟩ => ⟨S4x4352x64, .f32⟩
  | .hbm, ⟨14, _⟩ => ⟨S4x4352x160, .f32⟩
  | .hbm, ⟨15, _⟩ => ⟨S4x4352x1024, .f32⟩
  | .hbm, ⟨16, _⟩ => ⟨S4x4352x1024, .f32⟩
  | .hbm, ⟨17, _⟩ => ⟨S_, .f32⟩
  | .hbm, ⟨18, _⟩ => ⟨S4x4352x96, .f32⟩
  | .hbm, ⟨19, _⟩ => ⟨S4x4352x5632, .f32⟩
  | .hbm, ⟨20, _⟩ => ⟨S17408x5632, .f32⟩
  | .hbm, ⟨21, _⟩ => ⟨S17408x5632, .bf16⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel3.lean ====
abbrev S4x4352x1024 : Shape := ⟨3, ![4, 4352, 1024]⟩
abbrev S1024x11744 : Shape := ⟨2, ![1024, 11744]⟩
abbrev S1024x4096 : Shape := ⟨2, ![1024, 4096]⟩
abbrev S1024x2048 : Shape := ⟨2, ![1024, 2048]⟩
abbrev S1024x64 : Shape := ⟨2, ![1024, 64]⟩
abbrev S_ : Shape := ⟨0, ![]⟩
abbrev S1024x128 : Shape := ⟨2, ![1024, 128]⟩
abbrev S1024x6272 : Shape := ⟨2, ![1024, 6272]⟩
abbrev S4x4096x1024 : Shape := ⟨3, ![4, 4096, 1024]⟩
abbrev S4x64x64x1024 : Shape := ⟨4, ![4, 64, 64, 1024]⟩
abbrev S4x256x1024 : Shape := ⟨3, ![4, 256, 1024]⟩
abbrev S17408x1024 : Shape := ⟨2, ![17408, 1024]⟩
abbrev S17408x6272 : Shape := ⟨2, ![17408, 6272]⟩
abbrev S544x1024 : Shape := ⟨2, ![544, 1024]⟩
abbrev S544x6272 : Shape := ⟨2, ![544, 6272]⟩

abbrev nBuf : Space → Nat
  | .hbm => 18
  | .vmem => 5
  | .smem => 0
  | _ => 0

abbrev bufTy : (tb : Table) → Fin (tcTables nBuf tb) → BufTy
  | .hbm, ⟨0, _⟩ => ⟨S4x4352x1024, .bf16⟩
  | .hbm, ⟨1, _⟩ => ⟨S1024x11744, .f32⟩
  | .hbm, ⟨2, _⟩ => ⟨S1024x11744, .bf16⟩
  | .hbm, ⟨3, _⟩ => ⟨S1024x4096, .bf16⟩
  | .hbm, ⟨4, _⟩ => ⟨S1024x2048, .bf16⟩
  | .hbm, ⟨5, _⟩ => ⟨S1024x64, .bf16⟩
  | .hbm, ⟨6, _⟩ => ⟨S_, .i32⟩
  | .hbm, ⟨7, _⟩ => ⟨S_, .bf16⟩
  | .hbm, ⟨8, _⟩ => ⟨S1024x128, .bf16⟩
  | .hbm, ⟨9, _⟩ => ⟨S1024x6272, .bf16⟩
  | .hbm, ⟨10, _⟩ => ⟨S4x4096x1024, .bf16⟩
  | .hbm, ⟨11, _⟩ => ⟨S4x64x64x1024, .bf16⟩
  | .hbm, ⟨12, _⟩ => ⟨S4x64x64x1024, .bf16⟩
  | .hbm, ⟨13, _⟩ => ⟨S4x4096x1024, .bf16⟩
  | .hbm, ⟨14, _⟩ => ⟨S4x256x1024, .bf16⟩
  | .hbm, ⟨15, _⟩ => ⟨S4x4352x1024, .bf16⟩
  | .hbm, ⟨16, _⟩ => ⟨S17408x1024, .bf16⟩
  | .hbm, ⟨17, _⟩ => ⟨S17408x6272, .bf16⟩
  | .local _ .vmem, ⟨0, _⟩ => ⟨S544x1024, .bf16⟩
  | .local _ .vmem, ⟨1, _⟩ => ⟨S544x1024, .bf16⟩
  | .local _ .vmem, ⟨2, _⟩ => ⟨S1024x6272, .bf16⟩
  | .local _ .vmem, ⟨3, _⟩ => ⟨S544x6272, .bf16⟩
  | .local _ .vmem, ⟨4, _⟩ => ⟨S544x6272, .bf16⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x6272 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S544x6272 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x4352x1024 : Shape := ⟨3, ![4, 4352, 1024]⟩
abbrev S1024x11744 : Shape := ⟨2, ![1024, 11744]⟩
abbrev S4x4352x11744 : Shape := ⟨3, ![4, 4352, 11744]⟩
abbrev S4x4352x3488 : Shape := ⟨3, ![4, 4352, 3488]⟩
abbrev S4x4352x6208 : Shape := ⟨3, ![4, 4352, 6208]⟩
abbrev S4x4352x2048 : Shape := ⟨3, ![4, 4352, 2048]⟩
abbrev S4x256x6208 : Shape := ⟨3, ![4, 256, 6208]⟩
abbrev S4x4096x6208 : Shape := ⟨3, ![4, 4096, 6208]⟩
abbrev S4x64x64x6208 : Shape := ⟨4, ![4, 64, 64, 6208]⟩
abbrev S4x4352x4096 : Shape := ⟨3, ![4, 4352, 4096]⟩
abbrev S4x4352x64 : Shape := ⟨3, ![4, 4352, 64]⟩
abbrev S_ : Shape := ⟨0, ![]⟩
abbrev S4x4352x6272 : Shape := ⟨3, ![4, 4352, 6272]⟩
abbrev S17408x6272 : Shape := ⟨2, ![17408, 6272]⟩

abbrev nBuf : Space → Nat
  | .hbm => 21
  | .vmem => 0
  | .smem => 0
  | _ => 0

abbrev bufTy : (tb : Table) → Fin (tcTables nBuf tb) → BufTy
  | .hbm, ⟨0, _⟩ => ⟨S4x4352x1024, .bf16⟩
  | .hbm, ⟨1, _⟩ => ⟨S1024x11744, .f32⟩
  | .hbm, ⟨2, _⟩ => ⟨S4x4352x1024, .f32⟩
  | .hbm, ⟨3, _⟩ => ⟨S4x4352x11744, .f32⟩
  | .hbm, ⟨4, _⟩ => ⟨S4x4352x3488, .f32⟩
  | .hbm, ⟨5, _⟩ => ⟨S4x4352x6208, .f32⟩
  | .hbm, ⟨6, _⟩ => ⟨S4x4352x2048, .f32⟩
  | .hbm, ⟨7, _⟩ => ⟨S4x256x6208, .f32⟩
  | .hbm, ⟨8, _⟩ => ⟨S4x4096x6208, .f32⟩
  | .hbm, ⟨9, _⟩ => ⟨S4x64x64x6208, .f32⟩
  | .hbm, ⟨10, _⟩ => ⟨S4x64x64x6208, .f32⟩
  | .hbm, ⟨11, _⟩ => ⟨S4x4096x6208, .f32⟩
  | .hbm, ⟨12, _⟩ => ⟨S4x4352x6208, .f32⟩
  | .hbm, ⟨13, _⟩ => ⟨S4x4352x2048, .f32⟩
  | .hbm, ⟨14, _⟩ => ⟨S4x4352x4096, .f32⟩
  | .hbm, ⟨15, _⟩ => ⟨S4x4352x64, .f32⟩
  | .hbm, ⟨16, _⟩ => ⟨S_, .f32⟩
  | .hbm, ⟨17, _⟩ => ⟨S4x4352x64, .f32⟩
  | .hbm, ⟨18, _⟩ => ⟨S4x4352x6272, .f32⟩
  | .hbm, ⟨19, _⟩ => ⟨S17408x6272, .f32⟩
  | .hbm, ⟨20, _⟩ => ⟨S17408x6272, .bf16⟩
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel4.lean ====
abbrev S4x4352x2048 : Shape := ⟨3, ![4, 4352, 2048]⟩
abbrev S4x4352x4096 : Shape := ⟨3, ![4, 4352, 4096]⟩
abbrev S4x4352x6272 : Shape := ⟨3, ![4, 4352, 6272]⟩
abbrev S2x32 : Shape := ⟨2, ![2, 32]⟩
abbrev S2048 : Shape := ⟨1, ![2048]⟩
abbrev S2048x1024 : Shape := ⟨2, ![2048, 1024]⟩
abbrev S1x32 : Shape := ⟨2, ![1, 32]⟩
abbrev S32 : Shape := ⟨1, ![32]⟩
abbrev S32x64 : Shape := ⟨2, ![32, 64]⟩
abbrev S17408x2048 : Shape := ⟨2, ![17408, 2048]⟩
abbrev S17408x4096 : Shape := ⟨2, ![17408, 4096]⟩
abbrev S17408x6272 : Shape := ⟨2, ![17408, 6272]⟩
abbrev S1x2048 : Shape := ⟨2, ![1, 2048]⟩
abbrev S17408x1024 : Shape := ⟨2, ![17408, 1024]⟩
abbrev S272x2048 : Shape := ⟨2, ![272, 2048]⟩
abbrev S272x1024 : Shape := ⟨2, ![272, 1024]⟩
abbrev S256x256 : Shape := ⟨2, ![256, 256]⟩
abbrev S272x256 : Shape := ⟨2, ![272, 256]⟩

abbrev nBuf : Space → Nat
  | .hbm => 22
  | .vmem => 13
  | .smem => 0
  | _ => 0

abbrev bufTy : (tb : Table) → Fin (tcTables nBuf tb) → BufTy
  | .hbm, ⟨0, _⟩ => ⟨S4x4352x2048, .bf16⟩
  | .hbm, ⟨1, _⟩ => ⟨S4x4352x2048, .bf16⟩
  | .hbm, ⟨2, _⟩ => ⟨S4x4352x4096, .bf16⟩
  | .hbm, ⟨3, _⟩ => ⟨S4x4352x6272, .bf16⟩
  | .hbm, ⟨4, _⟩ => ⟨S2x32, .f32⟩
  | .hbm, ⟨5, _⟩ => ⟨S2048, .f32⟩
  | .hbm, ⟨6, _⟩ => ⟨S2048x1024, .f32⟩
  | .hbm, ⟨7, _⟩ => ⟨S1x32, .f32⟩
  | .hbm, ⟨8, _⟩ => ⟨S32, .f32⟩
  | .hbm, ⟨9, _⟩ => ⟨S1x32, .f32⟩
  | .hbm, ⟨10, _⟩ => ⟨S32, .f32⟩
  | .hbm, ⟨11, _⟩ => ⟨S32, .f32⟩
  | .hbm, ⟨12, _⟩ => ⟨S32x64, .f32⟩
  | .hbm, ⟨13, _⟩ => ⟨S2048, .f32⟩
  | .hbm, ⟨14, _⟩ => ⟨S2048x1024, .bf16⟩
  | .hbm, ⟨15, _⟩ => ⟨S17408x2048, .bf16⟩
  | .hbm, ⟨16, _⟩ => ⟨S17408x2048, .bf16⟩
  | .hbm, ⟨17, _⟩ => ⟨S17408x4096, .bf16⟩
  | .hbm, ⟨18, _⟩ => ⟨S17408x6272, .bf16⟩
  | .hbm, ⟨19, _⟩ => ⟨S1x2048, .f32⟩
  | .hbm, ⟨20, _⟩ => ⟨S1x2048, .f32⟩
  | .hbm, ⟨21, _⟩ => ⟨S17408x1024, .bf16⟩
  | .local _ .vmem, ⟨0, _⟩ => ⟨S272x2048, .bf16⟩
  | .local _ .vmem, ⟨1, _⟩ => ⟨S272x2048, .bf16⟩
  | .local _ .vmem, ⟨2, _⟩ => ⟨S272x2048, .bf16⟩
  | .local _ .vmem, ⟨3, _⟩ => ⟨S272x2048, .bf16⟩
  | .local _ .vmem, ⟨4, _⟩ => ⟨S272x2048, .bf16⟩
  | .local _ .vmem, ⟨5, _⟩ => ⟨S272x2048, .bf16⟩
  | .local _ .vmem, ⟨6, _⟩ => ⟨S272x2048, .bf16⟩
  | .local _ .vmem, ⟨7, _⟩ => ⟨S272x2048, .bf16⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S272x1024, .bf16⟩
  | .local _ .vmem, ⟨12, _⟩ => ⟨S272x1024, .bf16⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S272x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4x4352x2048 : Shape := ⟨3, ![4, 4352, 2048]⟩
abbrev S4x4352x4096 : Shape := ⟨3, ![4, 4352, 4096]⟩
abbrev S4x4352x6272 : Shape := ⟨3, ![4, 4352, 6272]⟩
abbrev S2x32 : Shape := ⟨2, ![2, 32]⟩
abbrev S2048 : Shape := ⟨1, ![2048]⟩
abbrev S2048x1024 : Shape := ⟨2, ![2048, 1024]⟩
abbrev S4x4352x8x4x64 : Shape := ⟨5, ![4, 4352, 8, 4, 64]⟩
abbrev S1x32 : Shape := ⟨2, ![1, 32]⟩
abbrev S32 : Shape := ⟨1, ![32]⟩
abbrev S8x4 : Shape := ⟨2, ![8, 4]⟩
abbrev S8x4x1 : Shape := ⟨3, ![8, 4, 1]⟩
abbrev S1x1x8x4x1 : Shape := ⟨5, ![1, 1, 8, 4, 1]⟩
abbrev S_ : Shape := ⟨0, ![]⟩
abbrev S4x4352x8x256 : Shape := ⟨4, ![4, 4352, 8, 256]⟩
abbrev S4x4352x8 : Shape := ⟨3, ![4, 4352, 8]⟩
abbrev S4x4352x8x1 : Shape := ⟨4, ![4, 4352, 8, 1]⟩
abbrev S1x1x2048 : Shape := ⟨3, ![1, 1, 2048]⟩
abbrev S4x4352x1024 : Shape := ⟨3, ![4, 4352, 1024]⟩
abbrev S17408x1024 : Shape := ⟨2, ![17408, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4352x2048, .bf16⟩
  | .hbm, ⟨1, _⟩ => ⟨S4x4352x2048, .bf16⟩
  | .hbm, ⟨2, _⟩ => ⟨S4x4352x4096, .bf16⟩
  | .hbm, ⟨3, _⟩ => ⟨S4x4352x6272, .bf16⟩
  | .hbm, ⟨4, _⟩ => ⟨S2x32, .f32⟩
  | .hbm, ⟨5, _⟩ => ⟨S2048, .f32⟩
  | .hbm, ⟨6, _⟩ => ⟨S2048x1024, .f32⟩
  | .hbm, ⟨7, _⟩ => ⟨S4x4352x2048, .bf16⟩
  | .hbm, ⟨8, _⟩ => ⟨S4x4352x2048, .f32⟩
  | .hbm, ⟨9, _⟩ => ⟨S4x4352x8x4x64, .f32⟩
  | .hbm, ⟨10, _⟩ => ⟨S4x4352x2048, .bf16⟩
  | .hbm, ⟨11, _⟩ => ⟨S4x4352x2048, .f32⟩
  | .hbm, ⟨12, _⟩ => ⟨S4x4352x2048, .f32⟩
  | .hbm, ⟨13, _⟩ => ⟨S4x4352x2048, .f32⟩
  | .hbm, ⟨14, _⟩ => ⟨S4x4352x8x4x64, .f32⟩
  | .hbm, ⟨15, _⟩ => ⟨S1x32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S32, .f32⟩
  | .hbm, ⟨20, _⟩ => ⟨S8x4, .f32⟩
  | .hbm, ⟨21, _⟩ => ⟨S8x4x1, .f32⟩
  | .hbm, ⟨22, _⟩ => ⟨S1x1x8x4x1, .f32⟩
  | .hbm, ⟨23, _⟩ => ⟨S4x4352x8x4x64, .f32⟩
  | .hbm, ⟨24, _⟩ => ⟨S4x4352x8x4x64, .f32⟩
  | .hbm, ⟨25, _⟩ => ⟨S4x4352x8x4x64, .f32⟩
  | .hbm, ⟨26, _⟩ => ⟨S4x4352x2048, .f32⟩
  | .hbm, ⟨27, _⟩ => ⟨S4x4352x2048, .f32⟩
  | .hbm, ⟨28, _⟩ => ⟨S4x4352x2048, .f32⟩
  | .hbm, ⟨29, _⟩ => ⟨S4x4352x2048, .f32⟩
  | .hbm, ⟨30, _⟩ => ⟨S_, .f32⟩
  | .hbm, ⟨31, _⟩ => ⟨S4x4352x2048, .f32⟩
  | .hbm, ⟨32, _⟩ => ⟨S4x4352x2048, .f32⟩
  | .hbm, ⟨33, _⟩ => ⟨S_, .f32⟩
  | .hbm, ⟨34, _⟩ => ⟨S4x4352x2048, .f32⟩
  | .hbm, ⟨35, _⟩ => ⟨S4x4352x2048, .f32⟩
  | .hbm, ⟨36, _⟩ => ⟨S4x4352x2048, .f32⟩
  | .hbm, ⟨37, _⟩ => ⟨S4x4352x2048, .f32⟩
  | .hbm, ⟨38, _⟩ => ⟨S4x4352x8x256, .f32⟩
  | .hbm, ⟨39, _⟩ => ⟨S4x4352x8x256, .f32⟩
  | .hbm, ⟨40, _⟩ => ⟨S_, .f32⟩
  | .hbm, ⟨41, _⟩ => ⟨S4x4352x8, .f32⟩
  | .hbm, ⟨42, _⟩ => ⟨S4x4352x8x1, .f32⟩
  | .hbm, ⟨43, _⟩ => ⟨S_, .f32⟩
  | .hbm, ⟨44, _⟩ => ⟨S4x4352x8x1, .f32⟩
  | .hbm, ⟨45, _⟩ => ⟨S4x4352x8x1, .f32⟩
  | .hbm, ⟨46, _⟩ => ⟨S_, .f32⟩
  | .hbm, ⟨47, _⟩ => ⟨S4x4352x8x1, .f32⟩
  | .hbm, ⟨48, _⟩ => ⟨S4x4352x8x1, .f32⟩
  | .hbm, ⟨49, _⟩ => ⟨S4x4352x8x1, .f32⟩
  | .hbm, ⟨50, _⟩ => ⟨S4x4352x8x256, .f32⟩
  | .hbm, ⟨51, _⟩ => ⟨S4x4352x8x256, .f32⟩
  | .hbm, ⟨52, _⟩ => ⟨S4x4352x2048, .f32⟩
  | .hbm, ⟨53, _⟩ => ⟨S1x1x2048, .f32⟩
  | .hbm, ⟨54, _⟩ => ⟨S4x4352x2048, .f32⟩
  | .hbm, ⟨55, _⟩ => ⟨S4x4352x2048, .f32⟩
  | .hbm, ⟨56, _⟩ => ⟨S4x4352x1024, .f32⟩
  | .hbm, ⟨57, _⟩ => ⟨S17408x1024, .f32⟩
  | .hbm, ⟨58, _⟩ => ⟨S17408x1024, .bf16⟩
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel5.lean ====
abbrev S4x4352x1024 : Shape := ⟨3, ![4, 4352, 1024]⟩
abbrev S4x4352x5632 : Shape := ⟨3, ![4, 4352, 5632]⟩
abbrev S4x1024 : Shape := ⟨2, ![4, 1024]⟩
abbrev S1024 : Shape := ⟨1, ![1024]⟩
abbrev S16x64 : Shape := ⟨2, ![16, 64]⟩
abbrev S1024x1024 : Shape := ⟨2, ![1024, 1024]⟩
abbrev S17408x1024 : Shape := ⟨2, ![17408, 1024]⟩
abbrev S17408x5632 : Shape := ⟨2, ![17408, 5632]⟩
abbrev S4x1x1024 : Shape := ⟨3, ![4, 1, 1024]⟩
abbrev S1x1024 : Shape := ⟨2, ![1, 1024]⟩
abbrev S272x1024 : Shape := ⟨2, ![272, 1024]⟩
abbrev S1x1x1024 : Shape := ⟨3, ![1, 1, 1024]⟩
abbrev S128x128 : Shape := ⟨2, ![128, 128]⟩
abbrev S272x128 : Shape := ⟨2, ![272, 128]⟩
abbrev S272x1 : Shape := ⟨2, ![272, 1]⟩

abbrev nBuf : Space → Nat
  | .hbm => 34
  | .vmem => 30
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .bf16⟩
  | .hbm, ⟨2, _⟩ => ⟨S4x4352x1024, .bf16⟩
  | .hbm, ⟨3, _⟩ => ⟨S4x4352x1024, .bf16⟩
  | .hbm, ⟨4, _⟩ => ⟨S4x4352x1024, .bf16⟩
  | .hbm, ⟨5, _⟩ => ⟨S4x4352x1024, .bf16⟩
  | .hbm, ⟨6, _⟩ => ⟨S4x4352x1024, .f32⟩
  | .hbm, ⟨7, _⟩ => ⟨S4x4352x1024, .bf16⟩
  | .hbm, ⟨8, _⟩ => ⟨S4x4352x5632, .bf16⟩
  | .hbm, ⟨9, _⟩ => ⟨S4x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S16x64, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S17408x1024, .f32⟩
  | .hbm, ⟨19, _⟩ => ⟨S17408x1024, .bf16⟩
  | .hbm, ⟨20, _⟩ => ⟨S17408x1024, .bf16⟩
  | .hbm, ⟨21, _⟩ => ⟨S17408x1024, .bf16⟩
  | .hbm, ⟨22, _⟩ => ⟨S17408x1024, .bf16⟩
  | .hbm, ⟨23, _⟩ => ⟨S17408x1024, .bf16⟩
  | .hbm, ⟨24, _⟩ => ⟨S17408x1024, .f32⟩
  | .hbm, ⟨25, _⟩ => ⟨S17408x1024, .bf16⟩
  | .hbm, ⟨26, _⟩ => ⟨S17408x5632, .bf16⟩
  | .hbm, ⟨27, _⟩ => ⟨S17408x5632, .bf16⟩
  | .hbm, ⟨28, _⟩ => ⟨S4x1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S17408x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .bf16⟩
  | .local _ .vmem, ⟨3, _⟩ => ⟨S272x1024, .bf16⟩
  | .local _ .vmem, ⟨4, _⟩ => ⟨S272x1024, .bf16⟩
  | .local _ .vmem, ⟨5, _⟩ => ⟨S272x1024, .bf16⟩
  | .local _ .vmem, ⟨6, _⟩ => ⟨S272x1024, .bf16⟩
  | .local _ .vmem, ⟨7, _⟩ => ⟨S272x1024, .bf16⟩
  | .local _ .vmem, ⟨8, _⟩ => ⟨S272x1024, .bf16⟩
  | .local _ .vmem, ⟨9, _⟩ => ⟨S272x1024, .bf16⟩
  | .local _ .vmem, ⟨10, _⟩ => ⟨S272x1024, .bf16⟩
  | .local _ .vmem, ⟨11, _⟩ => ⟨S272x1024, .bf16⟩
  | .local _ .vmem, ⟨12, _⟩ => ⟨S272x1024, .f32⟩
  | .local _ .vmem, ⟨13, _⟩ => ⟨S272x1024, .f32⟩
  | .local _ .vmem, ⟨14, _⟩ => ⟨S272x1024, .bf16⟩
  | .local _ .vmem, ⟨15, _⟩ => ⟨S272x1024, .bf16⟩
  | .local _ .vmem, ⟨16, _⟩ => ⟨S272x1024, .bf16⟩
  | .local _ .vmem, ⟨17, _⟩ => ⟨S272x1024, .bf16⟩
  | .local _ .vmem, ⟨18, _⟩ => ⟨S272x1024, .bf16⟩
  | .local _ .vmem, ⟨19, _⟩ => ⟨S272x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1024x1024, .bf16⟩
  | .local _ .vmem, ⟨27, _⟩ => ⟨S1024x1024, .bf16⟩
  | .local _ .vmem, ⟨28, _⟩ => ⟨S272x1024, .f32⟩
  | .local _ .vmem, ⟨29, _⟩ => ⟨S272x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S272x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference5Ideal.lean ====
abbrev S4x4352x1024 : Shape := ⟨3, ![4, 4352, 1024]⟩
abbrev S4x4352x5632 : Shape := ⟨3, ![4, 4352, 5632]⟩
abbrev S4x1024 : Shape := ⟨2, ![4, 1024]⟩
abbrev S1024 : Shape := ⟨1, ![1024]⟩
abbrev S16x64 : Shape := ⟨2, ![16, 64]⟩
abbrev S1024x1024 : Shape := ⟨2, ![1024, 1024]⟩
abbrev S4x4352x16x64 : Shape := ⟨4, ![4, 4352, 16, 64]⟩
abbrev S_ : Shape := ⟨0, ![]⟩
abbrev S4x4352x16 : Shape := ⟨3, ![4, 4352, 16]⟩
abbrev S4x4352x16x1 : Shape := ⟨4, ![4, 4352, 16, 1]⟩
abbrev S1x1x1024 : Shape := ⟨3, ![1, 1, 1024]⟩
abbrev S1x1x16x64 : Shape := ⟨4, ![1, 1, 16, 64]⟩
abbrev S4x4352x2048 : Shape := ⟨3, ![4, 4352, 2048]⟩
abbrev S4x4096x1024 : Shape := ⟨3, ![4, 4096, 1024]⟩
abbrev S4x1x1024 : Shape := ⟨3, ![4, 1, 1024]⟩
abbrev S4x256x1024 : Shape := ⟨3, ![4, 256, 1024]⟩
abbrev S17408x1024 : Shape := ⟨2, ![17408, 1024]⟩

abbrev nBuf : Space → Nat
  | .hbm => 109
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .bf16⟩
  | .hbm, ⟨2, _⟩ => ⟨S4x4352x1024, .bf16⟩
  | .hbm, ⟨3, _⟩ => ⟨S4x4352x1024, .bf16⟩
  | .hbm, ⟨4, _⟩ => ⟨S4x4352x1024, .bf16⟩
  | .hbm, ⟨5, _⟩ => ⟨S4x4352x1024, .bf16⟩
  | .hbm, ⟨6, _⟩ => ⟨S4x4352x1024, .f32⟩
  | .hbm, ⟨7, _⟩ => ⟨S4x4352x1024, .bf16⟩
  | .hbm, ⟨8, _⟩ => ⟨S4x4352x5632, .bf16⟩
  | .hbm, ⟨9, _⟩ => ⟨S4x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S16x64, .f32⟩
  | .hbm, ⟨14, _⟩ => ⟨S1024x1024, .f32⟩
  | .hbm, ⟨15, _⟩ => ⟨S1024x1024, .f32⟩
  | .hbm, ⟨16, _⟩ => ⟨S4x4352x1024, .f32⟩
  | .hbm, ⟨17, _⟩ => ⟨S4x4352x16x64, .f32⟩
  | .hbm, ⟨18, _⟩ => ⟨S4x4352x1024, .f32⟩
  | .hbm, ⟨19, _⟩ => ⟨S4x4352x16x64, .f32⟩
  | .hbm, ⟨20, _⟩ => ⟨S4x4352x1024, .f32⟩
  | .hbm, ⟨21, _⟩ => ⟨S4x4352x16x64, .f32⟩
  | .hbm, ⟨22, _⟩ => ⟨S4x4352x1024, .f32⟩
  | .hbm, ⟨23, _⟩ => ⟨S4x4352x16x64, .f32⟩
  | .hbm, ⟨24, _⟩ => ⟨S4x4352x1024, .f32⟩
  | .hbm, ⟨25, _⟩ => ⟨S4x4352x16x64, .f32⟩
  | .hbm, ⟨26, _⟩ => ⟨S4x4352x16x64, .f32⟩
  | .hbm, ⟨27, _⟩ => ⟨S_, .f32⟩
  | .hbm, ⟨28, _⟩ => ⟨S4x4352x16, .f32⟩
  | .hbm, ⟨29, _⟩ => ⟨S4x4352x16x1, .f32⟩
  | .hbm, ⟨30, _⟩ => ⟨S_, .f32⟩
  | .hbm, ⟨31, _⟩ => ⟨S4x4352x16x1, .f32⟩
  | .hbm, ⟨32, _⟩ => ⟨S4x4352x16x1, .f32⟩
  | .hbm, ⟨33, _⟩ => ⟨S4x4352x16x64, .f32⟩
  | .hbm, ⟨34, _⟩ => ⟨S4x4352x16x64, .f32⟩
  | .hbm, ⟨35, _⟩ => ⟨S4x4352x16x64, .f32⟩
  | .hbm, ⟨36, _⟩ => ⟨S_, .f32⟩
  | .hbm, ⟨37, _⟩ => ⟨S4x4352x16, .f32⟩
  | .hbm, ⟨38, _⟩ => ⟨S4x4352x16x1, .f32⟩
  | .hbm, ⟨39, _⟩ => ⟨S_, .f32⟩
  | .hbm, ⟨40, _⟩ => ⟨S4x4352x16x1, .f32⟩
  | .hbm, ⟨41, _⟩ => ⟨S4x4352x16x1, .f32⟩
  | .hbm, ⟨42, _⟩ => ⟨S4x4352x16x64, .f32⟩
  | .hbm, ⟨43, _⟩ => ⟨S4x4352x16x64, .f32⟩
  | .hbm, ⟨44, _⟩ => ⟨S_, .f32⟩
  | .hbm, ⟨45, _⟩ => ⟨S4x4352x16x1, .f32⟩
  | .hbm, ⟨46, _⟩ => ⟨S4x4352x16x1, .f32⟩
  | .hbm, ⟨47, _⟩ => ⟨S4x4352x16x1, .f32⟩
  | .hbm, ⟨48, _⟩ => ⟨S4x4352x16x64, .f32⟩
  | .hbm, ⟨49, _⟩ => ⟨S4x4352x16x64, .f32⟩
  | .hbm, ⟨50, _⟩ => ⟨S4x4352x1024, .f32⟩
  | .hbm, ⟨51, _⟩ => ⟨S1x1x1024, .f32⟩
  | .hbm, ⟨52, _⟩ => ⟨S4x4352x1024, .f32⟩
  | .hbm, ⟨53, _⟩ => ⟨S4x4352x1024, .f32⟩
  | .hbm, ⟨54, _⟩ => ⟨S1x1x1024, .f32⟩
  | .hbm, ⟨55, _⟩ => ⟨S4x4352x1024, .f32⟩
  | .hbm, ⟨56, _⟩ => ⟨S4x4352x1024, .f32⟩
  | .hbm, ⟨57, _⟩ => ⟨S4x4352x16x64, .f32⟩
  | .hbm, ⟨58, _⟩ => ⟨S1x1x16x64, .f32⟩
  | .hbm, ⟨59, _⟩ => ⟨S4x4352x16x64, .f32⟩
  | .hbm, ⟨60, _⟩ => ⟨S4x4352x16x64, .f32⟩
  | .hbm, ⟨61, _⟩ => ⟨S_, .f32⟩
  | .hbm, ⟨62, _⟩ => ⟨S4x4352x16, .f32⟩
  | .hbm, ⟨63, _⟩ => ⟨S4x4352x16x1, .f32⟩
  | .hbm, ⟨64, _⟩ => ⟨S4x4352x16x64, .f32⟩
  | .hbm, ⟨65, _⟩ => ⟨S4x4352x16x64, .f32⟩
  | .hbm, ⟨66, _⟩ => ⟨S4x4352x1024, .f32⟩
  | .hbm, ⟨67, _⟩ => ⟨S4x4352x1024, .f32⟩
  | .hbm, ⟨68, _⟩ => ⟨S4x4352x1024, .f32⟩
  | .hbm, ⟨69, _⟩ => ⟨S4x4352x2048, .bf16⟩
  | .hbm, ⟨70, _⟩ => ⟨S4x4352x2048, .f32⟩
  | .hbm, ⟨71, _⟩ => ⟨S4x4352x1024, .f32⟩
  | .hbm, ⟨72, _⟩ => ⟨S4x4352x1024, .f32⟩
  | .hbm, ⟨73, _⟩ => ⟨S4x4352x1024, .f32⟩
  | .hbm, ⟨74, _⟩ => ⟨S4x4352x1024, .f32⟩
  | .hbm, ⟨75, _⟩ => ⟨S_, .f32⟩
  | .hbm, ⟨76, _⟩ => ⟨S4x4352x1024, .f32⟩
  | .hbm, ⟨77, _⟩ => ⟨S4x4352x1024, .f32⟩
  | .hbm, ⟨78, _⟩ => ⟨S_, .f32⟩
  | .hbm, ⟨79, _⟩ => ⟨S4x4352x1024, .f32⟩
  | .hbm, ⟨80, _⟩ => ⟨S4x4352x1024, .f32⟩
  | .hbm, ⟨81, _⟩ => ⟨S4x4352x1024, .f32⟩
  | .hbm, ⟨82, _⟩ => ⟨S4x4352x1024, .f32⟩
  | .hbm, ⟨83, _⟩ => ⟨S4x4352x1024, .f32⟩
  | .hbm, ⟨84, _⟩ => ⟨S4x4352x1024, .f32⟩
  | .hbm, ⟨85, _⟩ => ⟨S_, .f32⟩
  | .hbm, ⟨86, _⟩ => ⟨S4x4352x1024, .f32⟩
  | .hbm, ⟨87, _⟩ => ⟨S4x4352x1024, .f32⟩
  | .hbm, ⟨88, _⟩ => ⟨S_, .f32⟩
  | .hbm, ⟨89, _⟩ => ⟨S4x4352x1024, .f32⟩
  | .hbm, ⟨90, _⟩ => ⟨S4x4352x1024, .f32⟩
  | .hbm, ⟨91, _⟩ => ⟨S4x4352x1024, .f32⟩
  | .hbm, ⟨92, _⟩ => ⟨S4x4352x1024, .f32⟩
  | .hbm, ⟨93, _⟩ => ⟨S4x4352x1024, .f32⟩
  | .hbm, ⟨94, _⟩ => ⟨S4x4352x1024, .f32⟩
  | .hbm, ⟨95, _⟩ => ⟨S4x4096x1024, .f32⟩
  | .hbm, ⟨96, _⟩ => ⟨S4x1x1024, .f32⟩
  | .hbm, ⟨97, _⟩ => ⟨S4x4096x1024, .f32⟩
  | .hbm, ⟨98, _⟩ => ⟨S4x4096x1024, .f32⟩
  | .hbm, ⟨99, _⟩ => ⟨S4x4096x1024, .f32⟩
  | .hbm, ⟨100, _⟩ => ⟨S4x4096x1024, .f32⟩
  | .hbm, ⟨101, _⟩ => ⟨S4x256x1024, .f32⟩
  | .hbm, ⟨102, _⟩ => ⟨S4x256x1024, .f32⟩
  | .hbm, ⟨103, _⟩ => ⟨S1x1x1024, .f32⟩
  | .hbm, ⟨104, _⟩ => ⟨S4x256x1024, .f32⟩
  | .hbm, ⟨105, _⟩ => ⟨S4x256x1024, .f32⟩
  | .hbm, ⟨106, _⟩ => ⟨S4x256x1024, .f32⟩
  | .hbm, ⟨107, _⟩ => ⟨S4x4352x1024, .f32⟩
  | .hbm, ⟨108, _⟩ => ⟨S17408x1024, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pointwise
public import Idealize.ShloMosaic.Lib.ValueIdxCore

@[expose] public section

set_option maxRecDepth 16384

noncomputable section

/-! One group of four heads in one direction, as a function of the vectors the body loads for it: the block of the output
    and the block of the state it stores. The body is the same text for every group and direction. -/

namespace Cert.Proof.Block

open Cert.KernelIdeal Cert.KernelIdeal.Gen Idealize.ShloMosaic Idealize.ShloMosaic.TcCoe Idealize.SL.Sem
open Idealize.ShloMosaic.ValueIdx

section Vectors
variable {F : FTy → Type} [FloatOps F]

/-- The 128 lanes' numbers. -/
def lane : IVec S128x128 32 := iota .tc S128x128 32 [1] iota_S128x128_d1_w32

/-- Which lanes belong to the first head of a pair. -/
def firstHead : IVec S128x128 1 := cmpi .slt lane (broadcast S128x128 64#32)

/-- The running sums of the group's four heads, each spread over 128 lanes. -/
def wide (w : Vec F S1x1x384x512 .bf16) (p : Vec F S1x128x384 .bf16) : FVec F S128x512 .f32 :=
  matmul dot_S128x384_S384x512_S128x512_1_0_0_1_n_n none (shapeCast S128x384 p shapeCasts_S1x128x384_S128x384)
    (shapeCast S384x512 w shapeCasts_S1x1x384x512_S384x512) (constant S128x512 .f32 0x00000000#32)

/-- The step sizes spread over the group's 256 lanes. -/
def steps (w : Vec F S1x1x256x256 .bf16) (p : Vec F S1x128x256 .bf16) : FVec F S128x256 .f32 :=
  matmul dot_S128x256_S256x256_S128x256_1_0_0_1_n_n none (shapeCast S128x256 p shapeCasts_S1x128x256_S128x256)
    (shapeCast S256x256 w shapeCasts_S1x1x256x256_S256x256) (constant S128x256 .f32 0x00000000#32)

/-- The inputs times their step sizes. -/
def scaled (x : Vec F S1x128x256 .bf16) (dt : FVec F S128x256 .f32) : FVec F S128x256 .f32 :=
  mulf (extf .f32 (shapeCast S128x256 x shapeCasts_S1x128x256_S128x256) bitsLt_bf16_f32) dt

/-- The running sums of the group's four heads, each spread over its own 64 lanes. -/
def narrow (cw : FVec F S128x512 .f32) : FVec F S128x256 .f32 :=
  concatenate S128x256 1
    [⟨S128x128, select firstHead (extractStridedSlice S128x128 ![0, 0] cw slices_S128x512_o0_0_S128x128)
      (extractStridedSlice S128x128 ![0, 128] cw slices_S128x512_o0_128_S128x128)⟩,
     ⟨S128x128, select firstHead (extractStridedSlice S128x128 ![0, 256] cw slices_S128x512_o0_256_S128x128)
      (extractStridedSlice S128x128 ![0, 384] cw slices_S128x512_o0_384_S128x128)⟩]
    concatenates_S128x128_S128x128_S128x256_d1

/-- The masked products of the tokens' output and input directions. -/
def scores (mask : IVec S128x128 1) (b c : Vec F S1x128x128 .bf16) : FVec F S128x128 .f32 :=
  select mask
    (matmul dot_S128x128_S128x128_S128x128_1_1_0_0_n_n none (shapeCast S128x128 c shapeCasts_S1x128x128_S128x128)
      (truncf .bf16 (extf .f32 (shapeCast S128x128 b shapeCasts_S1x128x128_S128x128) bitsLt_bf16_f32) bitsLt_bf16_f32)
      (constant S128x128 .f32 0x00000000#32))
    (broadcast S128x128 (Scalar.ofBits .f32 0x00000000#32))

/-- One head's scores times the decays between the tokens. -/
def mat (cw : FVec F S128x128 .f32) (cbm : FVec F S128x128 .f32) (row : Vec F S1x1x128 .f32) : FVec F S128x128 .bf16 :=
  truncf .bf16 (mulf cbm (exp (minimumf
    (subf cw (broadcastTo S128x128 (shapeCast S1x128 row shapeCasts_S1x1x128_S1x128) broadcasts_S1x128_S128x128))
    (broadcast S128x128 (Scalar.ofBits .f32 0x00000000#32))))) bitsLt_bf16_f32

/-- Two heads' inputs, each beside zeros in the other's lanes, one below the other. -/
def stacked (slab : FVec F S128x128 .f32) : FVec F S256x128 .bf16 :=
  truncf .bf16 (concatenate S256x128 0
    [⟨S128x128, select firstHead slab (broadcast S128x128 (Scalar.ofBits .f32 0x00000000#32))⟩,
     ⟨S128x128, select firstHead (broadcast S128x128 (Scalar.ofBits .f32 0x00000000#32)) slab⟩]
    concatenates_S128x128_S128x128_S256x128_d0) bitsLt_bf16_f32

/-- Two heads' part of the output within the chunk. -/
def pair (m0 m1 : FVec F S128x128 .bf16) (slab : FVec F S128x128 .f32) : FVec F S128x128 .f32 :=
  matmul dot_S128x256_S256x128_S128x128_1_0_0_1_n_n none
    (concatenate S128x256 1 [⟨S128x128, m0⟩, ⟨S128x128, m1⟩] concatenates_S128x128_S128x128_S128x256_d1)
    (stacked slab) (constant S128x128 .f32 0x00000000#32)

/-- The output of the state the chunk began with, before its decay. -/
def carried (c : Vec F S1x128x128 .bf16) (s : Vec F S1x1x128x256 .f32) : FVec F S128x256 .f32 :=
  matmul dot_S128x128_S128x256_S128x256_1_0_0_1_n_n none (shapeCast S128x128 c shapeCasts_S1x128x128_S128x128)
    (truncf .bf16 (shapeCast S128x256 s shapeCasts_S1x1x128x256_S128x256) bitsLt_bf16_f32)
    (constant S128x256 .f32 0x00000000#32)

/-- The output block from its parts. -/
def outOf (cr : FVec F S128x256 .f32) (cx : FVec F S128x256 .f32) (p0 p1 : FVec F S128x128 .f32) : FVec F S1x128x256 .bf16 :=
  shapeCast S1x128x256 (truncf .bf16 (addf (mulf cr (exp cx))
    (concatenate S128x256 1 [⟨S128x128, p0⟩, ⟨S128x128, p1⟩] concatenates_S128x128_S128x128_S128x256_d1))
    bitsLt_bf16_f32) shapeCasts_S128x256_S1x128x256

/-- The block of the output. -/
def out (mask : IVec S128x128 1) (x : Vec F S1x128x256 .bf16) (b c : Vec F S1x128x128 .bf16)
    (tw : Vec F S1x1x384x512 .bf16) (tx : Vec F S1x1x256x256 .bf16) (pw : Vec F S1x128x384 .bf16) (px : Vec F S1x128x256 .bf16)
    (s : Vec F S1x1x128x256 .f32) (r0 r1 r2 r3 : Vec F S1x1x128 .f32) : FVec F S1x128x256 .bf16 :=
  outOf (carried c s) (narrow (wide tw pw))
    (pair (mat (extractStridedSlice S128x128 ![0, 0] (wide tw pw) slices_S128x512_o0_0_S128x128) (scores mask b c) r0)
      (mat (extractStridedSlice S128x128 ![0, 128] (wide tw pw) slices_S128x512_o0_128_S128x128) (scores mask b c) r1)
      (extractStridedSlice S128x128 ![0, 0] (scaled x (steps tx px)) slices_S128x256_o0_0_S128x128))
    (pair (mat (extractStridedSlice S128x128 ![0, 256] (wide tw pw) slices_S128x512_o0_256_S128x128) (scores mask b c) r2)
      (mat (extractStridedSlice S128x128 ![0, 384] (wide tw pw) slices_S128x512_o0_384_S128x128) (scores mask b c) r3)
      (extractStridedSlice S128x128 ![0, 128] (scaled x (steps tx px)) slices_S128x256_o0_128_S128x128))

/-- The block of the state, from the chunk's last running sums. -/
def stateOf (b : Vec F S1x128x128 .bf16) (s : Vec F S1x1x128x256 .f32) (xdt cx : FVec F S128x256 .f32) (tot : FVec F S1x256 .f32) :
    FVec F S1x1x128x256 .f32 :=
  shapeCast S1x1x128x256 (addf
    (mulf (shapeCast S128x256 s shapeCasts_S1x1x128x256_S128x256) (broadcastTo S128x256 (exp tot) broadcasts_S1x256_S128x256))
    (matmul dot_S128x128_S128x256_S128x256_1_0_0_1_n_n none
      (truncf .bf16 (transpose S128x128 [1, 0] (extf .f32 (shapeCast S128x128 b shapeCasts_S1x128x128_S128x128) bitsLt_bf16_f32)
        transposes_S128x128_p1_0_S128x128) bitsLt_bf16_f32)
      (truncf .bf16 (mulf xdt (exp (subf (broadcastTo S128x256 tot broadcasts_S1x256_S128x256) cx))) bitsLt_bf16_f32)
      (constant S128x256 .f32 0x00000000#32))) shapeCasts_S128x256_S1x1x128x256

/-- The block of the forward state. -/
def stateF (x : Vec F S1x128x256 .bf16) (b : Vec F S1x128x128 .bf16)
    (tw : Vec F S1x1x384x512 .bf16) (tx : Vec F S1x1x256x256 .bf16) (pw : Vec F S1x128x384 .bf16) (px : Vec F S1x128x256 .bf16)
    (s : Vec F S1x1x128x256 .f32) : FVec F S1x1x128x256 .f32 :=
  stateOf b s (scaled x (steps tx px)) (narrow (wide tw pw))
    (extractStridedSlice S1x256 ![127, 0] (narrow (wide tw pw)) slices_S128x256_o127_0_S1x256)

/-- The block of the backward state. -/
def stateB (x : Vec F S1x128x256 .bf16) (b : Vec F S1x128x128 .bf16)
    (tw : Vec F S1x1x384x512 .bf16) (tx : Vec F S1x1x256x256 .bf16) (pw : Vec F S1x128x384 .bf16) (px : Vec F S1x128x256 .bf16)
    (s : Vec F S1x1x128x256 .f32) : FVec F S1x1x128x256 .f32 :=
  stateOf b s (scaled x (steps tx px)) (narrow (wide tw pw))
    (extractStridedSlice S1x256 ![0, 0] (narrow (wide tw pw)) slices_S128x256_o0_0_S1x256)

end Vectors

end Cert.Proof.Block
-- ==== Proof.Pieces.lean ====
module

public import proofs.«01_k».proof.Proof.Block
public import Idealize.ShloMosaic.Lib.Pipeline.ReadBack

@[expose] public section

set_option maxRecDepth 16384

noncomputable section

/-! What the body stores at a grid point, as one function of the group's number. -/

namespace Cert.Proof.Block

open Cert.KernelIdeal Cert.KernelIdeal.Gen Idealize.ShloMosaic Idealize.ShloMosaic.TcCoe Idealize.SL.Sem
open Idealize.ShloMosaic.ValueIdx

section Loads
variable {F : FTy → Type} [FloatOps F]

/-- The group's columns of the tokens' inputs. -/
def ldX (a : Memref sig .tc .vmem S1x128x4096 .bf16) (ha : a.IsWhole) (x : Vec F S1x128x4096 .bf16) (g : Fin 8) : Vec F S1x128x256 .bf16 :=
  View.readAt (Elt F) a.view (Rect.unit (s := S1x128x4096) ![0, 0, 256 * g.val] S1x128x256.size (by fin_cases g <;> decide)).toLoadRect (ha.unread x)

/-- The group's input directions. -/
def ldB (a : Memref sig .tc .vmem S1x128x4096 .bf16) (ha : a.IsWhole) (x : Vec F S1x128x4096 .bf16) (g : Fin 8) : Vec F S1x128x128 .bf16 :=
  View.readAt (Elt F) a.view (Rect.unit (s := S1x128x4096) ![0, 0, 2048 + 128 * g.val] S1x128x128.size (by fin_cases g <;> decide)).toLoadRect (ha.unread x)

/-- The group's output directions. -/
def ldC (a : Memref sig .tc .vmem S1x128x4096 .bf16) (ha : a.IsWhole) (x : Vec F S1x128x4096 .bf16) (g : Fin 8) : Vec F S1x128x128 .bf16 :=
  View.readAt (Elt F) a.view (Rect.unit (s := S1x128x4096) ![0, 0, 3072 + 128 * g.val] S1x128x128.size (by fin_cases g <;> decide)).toLoadRect (ha.unread x)

/-- The group's table of heads, for 128 lanes a head. -/
def ldW (a : Memref sig .tc .vmem S2x8x384x512 .bf16) (ha : a.IsWhole) (x : Vec F S2x8x384x512 .bf16) (d : Fin 2) (g : Fin 8) : Vec F S1x1x384x512 .bf16 :=
  View.readAt (Elt F) a.view (Rect.unit (s := S2x8x384x512) ![d.val, g.val, 0, 0] S1x1x384x512.size (by fin_cases d <;> fin_cases g <;> decide)).toLoadRect (ha.unread x)

/-- The group's table of heads, for 64 lanes a head. -/
def ldT (a : Memref sig .tc .vmem S2x8x256x256 .bf16) (ha : a.IsWhole) (x : Vec F S2x8x256x256 .bf16) (d : Fin 2) (g : Fin 8) : Vec F S1x1x256x256 .bf16 :=
  View.readAt (Elt F) a.view (Rect.unit (s := S2x8x256x256) ![d.val, g.val, 0, 0] S1x1x256x256.size (by fin_cases d <;> fin_cases g <;> decide)).toLoadRect (ha.unread x)

/-- The group's state from the point before. -/
def ldS (a : Memref sig .tc .vmem S2x8x128x256 .f32) (ha : a.IsWhole) (x : Vec F S2x8x128x256 .f32) (d : Fin 2) (g : Fin 8) : Vec F S1x1x128x256 .f32 :=
  View.readAt (Elt F) a.view (Rect.unit (s := S2x8x128x256) ![d.val, g.val, 0, 0] S1x1x128x256.size (by fin_cases d <;> fin_cases g <;> decide)).toLoadRect (ha.unread x)

/-- The running sums' pieces. -/
def ldPw (a : Memref sig .tc .vmem S2x128x640 .bf16) (L : List (View.Piece (Elt F) S2x128x640 .bf16)) (d : Fin 2) : Vec F S1x128x384 .bf16 :=
  a.view.readCov L (Rect.unit (s := S2x128x640) ![d.val, 0, 0] S1x128x384.size (by fin_cases d <;> decide)).toLoadRect

/-- The step sizes' pieces. -/
def ldPx (a : Memref sig .tc .vmem S2x128x640 .bf16) (L : List (View.Piece (Elt F) S2x128x640 .bf16)) (d : Fin 2) : Vec F S1x128x256 .bf16 :=
  a.view.readCov L (Rect.unit (s := S2x128x640) ![d.val, 0, 384] S1x128x256.size (by fin_cases d <;> decide)).toLoadRect

/-- One head's running sums, a row. -/
def ldR (a : Memref sig .tc .vmem S2x128x128 .f32) (L : List (View.Piece (Elt F) S2x128x128 .f32)) (d : Fin 2) (g : Fin 8) (e : Fin 4) : Vec F S1x1x128 .f32 :=
  a.view.readCov L (Rect.unit (s := S2x128x128) ![d.val, 32 * d.val + 4 * g.val + e.val, 0] S1x1x128.size (by fin_cases d <;> fin_cases g <;> fin_cases e <;> decide)).toLoadRect

/-- The pieces of an output block, the last group's first. -/
def outPieces (B : Fin 8 → Vec F S1x128x256 .bf16) : List (View.Piece (Elt F) S1x128x2048 .bf16) :=
  let P : Fin 8 → View.Piece (Elt F) S1x128x2048 .bf16 := fun g => ⟨Rect.unit (s := S1x128x2048) ![0, 0, 256 * g.val] S1x128x256.size (by fin_cases g <;> decide), B g⟩
  [P 7, P 6, P 5, P 4, P 3, P 2, P 1, P 0]

/-- The pieces of the state, the last group's first. -/
def statePieces (B : Fin 2 → Fin 8 → Vec F S1x1x128x256 .f32) : List (View.Piece (Elt F) S2x8x128x256 .f32) :=
  let P : Fin 2 → Fin 8 → View.Piece (Elt F) S2x8x128x256 .f32 := fun d g =>
    ⟨Rect.unit (s := S2x8x128x256) ![d.val, g.val, 0, 0] S1x1x128x256.size (by fin_cases d <;> fin_cases g <;> decide), B d g⟩
  [P 1 7, P 0 7, P 1 6, P 0 6, P 1 5, P 0 5, P 1 4, P 0 4, P 1 3, P 0 3, P 1 2, P 0 2, P 1 1, P 0 1, P 1 0, P 0 0]

end Loads

section Runs
variable {F : FTy → Type} [FloatOps F]
  (c : Dev nD) (i : grid0.Coords) (arg2 : Memref sig .tc .vmem S1x128x4096 .bf16) (harg2 : arg2.IsWhole) (arg3 : Memref sig .tc .vmem S1x128x128 .bf16) (harg3 : arg3.IsWhole) (arg4 : Memref sig .tc .vmem S1x128x4096 .bf16) (harg4 : arg4.IsWhole) (arg5 : Memref sig .tc .vmem S1x128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2x8x384x512 .bf16) (harg8 : arg8.IsWhole) (arg9 : Memref sig .tc .vmem S2x8x256x256 .bf16) (harg9 : arg9.IsWhole) (arg10 : Memref sig .tc .vmem S1x128x2048 .bf16) (harg10 : arg10.IsWhole) (arg11 : Memref sig .tc .vmem S1x128x2048 .bf16) (harg11 : arg11.IsWhole) (arg12 : Memref sig .tc .vmem S2x8x128x256 .f32) (harg12 : arg12.IsWhole) (arg13 : Memref sig .tc .vmem S2x128x128 .f32) (harg13 : arg13.IsWhole) (arg14 : Memref sig .tc .vmem S2x128x640 .bf16) (harg14 : arg14.IsWhole) (hc0 : ¬cond0_0 i)
  (x0 : Vec F S1x128x4096 .bf16) (x1 : Vec F S1x128x128 .bf16) (x2 : Vec F S1x128x4096 .bf16) (x3 : Vec F S1x128x128 .bf16) (x4 : Vec F S1x128 .f32) (x5 : Vec F S1x128 .f32) (x6 : Vec F S2x8x384x512 .bf16) (x7 : Vec F S2x8x256x256 .bf16) (xs0 : Vec F S2x8x128x256 .f32)

/-- A whole load of the step sizes' inputs. -/
def ldD (a : Memref sig .tc .vmem S1x128x128 .bf16) (ha : a.IsWhole) (x : Vec F S1x128x128 .bf16) : Vec F S1x128x128 .bf16 :=
  View.readAt (Elt F) a.view (Rect.unit ![0, 0, 0] S1x128x128.size inb_S1x128x128_S1x128x128_0_0_0).toLoadRect (ha.unread x)

/-- A whole load of a row of heads. -/
def ldH (a : Memref sig .tc .vmem S1x128 .f32) (ha : a.IsWhole) (x : Vec F S1x128 .f32) : Vec F S1x128 .f32 :=
  View.readAt (Elt F) a.view (Rect.unit ![0, 0] S1x128.size inb_S1x128_S1x128_0_0).toLoadRect (ha.unread x)

/-- The running sums, stored transposed. -/
def rowPieces : List (View.Piece (Elt F) S2x128x128 .f32) :=
  [⟨Rect.unit ![1, 0, 0] S1x128x128.size inb_S2x128x128_S1x128x128_1_0_0,
      k0_pay16 (k0_pay15 k0_pay6 (ldD arg5 harg5 x3) (ldH arg6 harg6 x4) (ldH arg7 harg7 x5))⟩,
    ⟨Rect.unit ![0, 0, 0] S1x128x128.size inb_S2x128x128_S1x128x128_0_0_0,
      k0_pay9 (ldD arg3 harg3 x1) (ldH arg6 harg6 x4) (ldH arg7 harg7 x5)⟩]

/-- The pieces of the running sums and of the step sizes. -/
def colPieces : List (View.Piece (Elt F) S2x128x640 .bf16) :=
  [⟨Rect.unit ![1, 0, 0] S1x128x640.size inb_S2x128x640_S1x128x640_1_0_0,
      k0_pay17 (k0_pay13 (ldD arg5 harg5 x3) (ldH arg6 harg6 x4)) (k0_pay14 k0_pay6 (ldD arg5 harg5 x3) (ldH arg6 harg6 x4) (ldH arg7 harg7 x5))⟩,
    ⟨Rect.unit ![0, 0, 0] S1x128x640.size inb_S2x128x640_S1x128x640_0_0_0,
      k0_pay12 (k0_pay7 (ldD arg3 harg3 x1) (ldH arg6 harg6 x4)) (k0_pay8 (ldD arg3 harg3 x1) (ldH arg6 harg6 x4) (ldH arg7 harg7 x5))
        (k0_pay10 (ldD arg3 harg3 x1) (ldH arg6 harg6 x4) (ldH arg7 harg7 x5)) (k0_pay11 (ldD arg3 harg3 x1) (ldH arg6 harg6 x4) (ldH arg7 harg7 x5))⟩]

/-- The forward output's block, over a state. -/
def outF (st : Fin 2 → Fin 8 → Vec F S1x1x128x256 .f32) (g : Fin 8) : Vec F S1x128x256 .bf16 :=
  out k0_pay5 (ldX arg2 harg2 x0 g) (ldB arg2 harg2 x0 g) (ldC arg2 harg2 x0 g) (ldW arg8 harg8 x6 0 g) (ldT arg9 harg9 x7 0 g)
    (ldPw arg14 (colPieces arg3 harg3 arg5 harg5 arg6 harg6 arg7 harg7 x1 x3 x4 x5) 0)
    (ldPx arg14 (colPieces arg3 harg3 arg5 harg5 arg6 harg6 arg7 harg7 x1 x3 x4 x5) 0) (st 0 g)
    (ldR arg13 (rowPieces arg3 harg3 arg5 harg5 arg6 harg6 arg7 harg7 x1 x3 x4 x5) 0 g 0)
    (ldR arg13 (rowPieces arg3 harg3 arg5 harg5 arg6 harg6 arg7 harg7 x1 x3 x4 x5) 0 g 1)
    (ldR arg13 (rowPieces arg3 harg3 arg5 harg5 arg6 harg6 arg7 harg7 x1 x3 x4 x5) 0 g 2)
    (ldR arg13 (rowPieces arg3 harg3 arg5 harg5 arg6 harg6 arg7 harg7 x1 x3 x4 x5) 0 g 3)

/-- The backward output's block, over a state. -/
def outB (st : Fin 2 → Fin 8 → Vec F S1x1x128x256 .f32) (g : Fin 8) : Vec F S1x128x256 .bf16 :=
  out k0_pay6 (ldX arg4 harg4 x2 g) (ldB arg4 harg4 x2 g) (ldC arg4 harg4 x2 g) (ldW arg8 harg8 x6 1 g) (ldT arg9 harg9 x7 1 g)
    (ldPw arg14 (colPieces arg3 harg3 arg5 harg5 arg6 harg6 arg7 harg7 x1 x3 x4 x5) 1)
    (ldPx arg14 (colPieces arg3 harg3 arg5 harg5 arg6 harg6 arg7 harg7 x1 x3 x4 x5) 1) (st 1 g)
    (ldR arg13 (rowPieces arg3 harg3 arg5 harg5 arg6 harg6 arg7 harg7 x1 x3 x4 x5) 1 g 0)
    (ldR arg13 (rowPieces arg3 harg3 arg5 harg5 arg6 harg6 arg7 harg7 x1 x3 x4 x5) 1 g 1)
    (ldR arg13 (rowPieces arg3 harg3 arg5 harg5 arg6 harg6 arg7 harg7 x1 x3 x4 x5) 1 g 2)
    (ldR arg13 (rowPieces arg3 harg3 arg5 harg5 arg6 harg6 arg7 harg7 x1 x3 x4 x5) 1 g 3)

/-- The state's block, over the state before. -/
def stateAt (st : Fin 2 → Fin 8 → Vec F S1x1x128x256 .f32) (d : Fin 2) (g : Fin 8) : Vec F S1x1x128x256 .f32 :=
  match d with
  | 0 => stateF (ldX arg2 harg2 x0 g) (ldB arg2 harg2 x0 g) (ldW arg8 harg8 x6 0 g) (ldT arg9 harg9 x7 0 g)
    (ldPw arg14 (colPieces arg3 harg3 arg5 harg5 arg6 harg6 arg7 harg7 x1 x3 x4 x5) 0)
    (ldPx arg14 (colPieces arg3 harg3 arg5 harg5 arg6 harg6 arg7 harg7 x1 x3 x4 x5) 0) (st 0 g)
  | 1 => stateB (ldX arg4 harg4 x2 g) (ldB arg4 harg4 x2 g) (ldW arg8 harg8 x6 1 g) (ldT arg9 harg9 x7 1 g)
    (ldPw arg14 (colPieces arg3 harg3 arg5 harg5 arg6 harg6 arg7 harg7 x1 x3 x4 x5) 1)
    (ldPx arg14 (colPieces arg3 harg3 arg5 harg5 arg6 harg6 arg7 harg7 x1 x3 x4 x5) 1) (st 1 g)

theorem pieces_later_forward :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).1
      = outPieces (outF arg2 harg2 arg3 harg3 arg5 harg5 arg6 harg6 arg7 harg7 arg8 harg8 arg9 harg9 arg13 arg14 x0 x1 x3 x4 x5 x6 x7 (ldS arg12 harg12 xs0)) := rfl

theorem pieces_later_backward :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.1
      = outPieces (outB arg3 harg3 arg4 harg4 arg5 harg5 arg6 harg6 arg7 harg7 arg8 harg8 arg9 harg9 arg13 arg14 x1 x2 x3 x4 x5 x6 x7 (ldS arg12 harg12 xs0)) := rfl

theorem pieces_later_state :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0).2.2.1
      = statePieces (stateAt arg2 harg2 arg3 harg3 arg4 harg4 arg5 harg5 arg6 harg6 arg7 harg7 arg8 harg8 arg9 harg9 arg14 x0 x1 x2 x3 x4 x5 x6 x7 (ldS arg12 harg12 xs0)) := rfl

/-- What a first point's loads of the state read. -/
def ldZ (d : Fin 2) (g : Fin 8) : Vec F S1x1x128x256 .f32 :=
  match d, g with
  | 0, 0 => kernelRun0_A.sl.v157 c arg12
  | 0, 1 => kernelRun0_A.sl.v469 c arg2 harg2 arg3 harg3 arg4 harg4 arg5 harg5 arg6 harg6 arg7 harg7 arg8 harg8 arg9 harg9 arg12 arg14 x0 x1 x2 x3 x4 x5 x6 x7
  | 0, 2 => kernelRun0_A.sl.v781 c arg2 harg2 arg3 harg3 arg4 harg4 arg5 harg5 arg6 harg6 arg7 harg7 arg8 harg8 arg9 harg9 arg12 arg14 x0 x1 x2 x3 x4 x5 x6 x7
  | 0, 3 => kernelRun0_A.sl.v1093 c arg2 harg2 arg3 harg3 arg4 harg4 arg5 harg5 arg6 harg6 arg7 harg7 arg8 harg8 arg9 harg9 arg12 arg14 x0 x1 x2 x3 x4 x5 x6 x7
  | 0, 4 => kernelRun0_A.sl.v1405 c arg2 harg2 arg3 harg3 arg4 harg4 arg5 harg5 arg6 harg6 arg7 harg7 arg8 harg8 arg9 harg9 arg12 arg14 x0 x1 x2 x3 x4 x5 x6 x7
  | 0, 5 => kernelRun0_A.sl.v1717 c arg2 harg2 arg3 harg3 arg4 harg4 arg5 harg5 arg6 harg6 arg7 harg7 arg8 harg8 arg9 harg9 arg12 arg14 x0 x1 x2 x3 x4 x5 x6 x7
  | 0, 6 => kernelRun0_A.sl.v2029 c arg2 harg2 arg3 harg3 arg4 harg4 arg5 harg5 arg6 harg6 arg7 harg7 arg8 harg8 arg9 harg9 arg12 arg14 x0 x1 x2 x3 x4 x5 x6 x7
  | 0, 7 => kernelRun0_A.sl.v2341 c arg2 harg2 arg3 harg3 arg4 harg4 arg5 harg5 arg6 harg6 arg7 harg7 arg8 harg8 arg9 harg9 arg12 arg14 x0 x1 x2 x3 x4 x5 x6 x7
  | 1, 0 => kernelRun0_A.sl.v160 c arg12
  | 1, 1 => kernelRun0_A.sl.v472 c arg2 harg2 arg3 harg3 arg4 harg4 arg5 harg5 arg6 harg6 arg7 harg7 arg8 harg8 arg9 harg9 arg12 arg14 x0 x1 x2 x3 x4 x5 x6 x7
  | 1, 2 => kernelRun0_A.sl.v784 c arg2 harg2 arg3 harg3 arg4 harg4 arg5 harg5 arg6 harg6 arg7 harg7 arg8 harg8 arg9 harg9 arg12 arg14 x0 x1 x2 x3 x4 x5 x6 x7
  | 1, 3 => kernelRun0_A.sl.v1096 c arg2 harg2 arg3 harg3 arg4 harg4 arg5 harg5 arg6 harg6 arg7 harg7 arg8 harg8 arg9 harg9 arg12 arg14 x0 x1 x2 x3 x4 x5 x6 x7
  | 1, 4 => kernelRun0_A.sl.v1408 c arg2 harg2 arg3 harg3 arg4 harg4 arg5 harg5 arg6 harg6 arg7 harg7 arg8 harg8 arg9 harg9 arg12 arg14 x0 x1 x2 x3 x4 x5 x6 x7
  | 1, 5 => kernelRun0_A.sl.v1720 c arg2 harg2 arg3 harg3 arg4 harg4 arg5 harg5 arg6 harg6 arg7 harg7 arg8 harg8 arg9 harg9 arg12 arg14 x0 x1 x2 x3 x4 x5 x6 x7
  | 1, 6 => kernelRun0_A.sl.v2032 c arg2 harg2 arg3 harg3 arg4 harg4 arg5 harg5 arg6 harg6 arg7 harg7 arg8 harg8 arg9 harg9 arg12 arg14 x0 x1 x2 x3 x4 x5 x6 x7
  | 1, 7 => kernelRun0_A.sl.v2344 c arg2 harg2 arg3 harg3 arg4 harg4 arg5 harg5 arg6 harg6 arg7 harg7 arg8 harg8 arg9 harg9 arg12 arg14 x0 x1 x2 x3 x4 x5 x6 x7

/-- The zeros a first point stores over the whole state. -/
def zeroPiece : View.Piece (Elt F) S2x8x128x256 .f32 :=
  ⟨Rect.unit ![0, 0, 0, 0] S2x8x128x256.size inb_S2x8x128x256_S2x8x128x256_0_0_0_0, k0_pay4⟩

theorem pieces_first_forward (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1
      = outPieces (outF arg2 harg2 arg3 harg3 arg5 harg5 arg6 harg6 arg7 harg7 arg8 harg8 arg9 harg9 arg13 arg14 x0 x1 x3 x4 x5 x6 x7 (ldZ c arg2 harg2 arg3 harg3 arg4 harg4 arg5 harg5 arg6 harg6 arg7 harg7 arg8 harg8 arg9 harg9 arg12 arg14 x0 x1 x2 x3 x4 x5 x6 x7)) := rfl

theorem pieces_first_backward (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1
      = outPieces (outB arg3 harg3 arg4 harg4 arg5 harg5 arg6 harg6 arg7 harg7 arg8 harg8 arg9 harg9 arg13 arg14 x1 x2 x3 x4 x5 x6 x7 (ldZ c arg2 harg2 arg3 harg3 arg4 harg4 arg5 harg5 arg6 harg6 arg7 harg7 arg8 harg8 arg9 harg9 arg12 arg14 x0 x1 x2 x3 x4 x5 x6 x7)) := rfl

theorem pieces_first_state (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1
      = statePieces (stateAt arg2 harg2 arg3 harg3 arg4 harg4 arg5 harg5 arg6 harg6 arg7 harg7 arg8 harg8 arg9 harg9 arg14 x0 x1 x2 x3 x4 x5 x6 x7 (ldZ c arg2 harg2 arg3 harg3 arg4 harg4 arg5 harg5 arg6 harg6 arg7 harg7 arg8 harg8 arg9 harg9 arg12 arg14 x0 x1 x2 x3 x4 x5 x6 x7)) ++ [zeroPiece] := rfl

/-- A first point's loads of the state read zeros: no group's load meets an earlier group's store. -/
theorem ldZ_apply (d : Fin 2) (g : Fin 8) (y : S1x1x128x256.Idx) :
    ldZ c arg2 harg2 arg3 harg3 arg4 harg4 arg5 harg5 arg6 harg6 arg7 harg7 arg8 harg8 arg9 harg9 arg12 arg14 x0 x1 x2 x3 x4 x5 x6 x7 d g y = Scalar.ofBits .f32 0x00000000#32 := by
  have key : ∀ (r : Rect S2x8x128x256) (y : r.shape.Idx), (arg12.view.readCov [zeroPiece] r.toLoadRect : r.shape.Idx → F .f32) y
      = Scalar.ofBits .f32 0x00000000#32 := by
    intro r y
    rw [zeroPiece, View.readCov_fill _ _ _ _ _ (by decide)]
    rfl
  have key' : ∀ (L : List (View.Piece (Elt F) S2x8x128x256 .f32)) (r : Rect S2x8x128x256) (y : r.shape.Idx),
      (∀ p ∈ L, LoadRect.disj p.1 r.toLoadRect = true) →
      (arg12.view.readCov (L ++ [zeroPiece]) r.toLoadRect : r.shape.Idx → F .f32) y = Scalar.ofBits .f32 0x00000000#32 := by
    intro L r y hL
    induction L with
    | nil => exact key r y
    | cons p L ih =>
      rw [List.cons_append, View.readCov_skip _ p.1 p.2 _ _ (hL p (List.mem_cons_self ..))]
      exact ih fun q hq => hL q (List.mem_cons_of_mem _ hq)
  let S := statePieces (stateAt arg2 harg2 arg3 harg3 arg4 harg4 arg5 harg5 arg6 harg6 arg7 harg7 arg8 harg8 arg9 harg9 arg14 x0 x1 x2 x3 x4 x5 x6 x7 (ldZ c arg2 harg2 arg3 harg3 arg4 harg4 arg5 harg5 arg6 harg6 arg7 harg7 arg8 harg8 arg9 harg9 arg12 arg14 x0 x1 x2 x3 x4 x5 x6 x7))
  have e : ldZ c arg2 harg2 arg3 harg3 arg4 harg4 arg5 harg5 arg6 harg6 arg7 harg7 arg8 harg8 arg9 harg9 arg12 arg14 x0 x1 x2 x3 x4 x5 x6 x7 d g y
      = arg12.view.readCov (S.drop (16 - 2 * g.val) ++ [zeroPiece]) (Rect.unit (s := S2x8x128x256) ![d.val, g.val, 0, 0] S1x1x128x256.size (by fin_cases d <;> fin_cases g <;> decide)).toLoadRect y := by
    fin_cases d <;> fin_cases g <;> rfl
  rw [e]
  have hd : (S.drop (16 - 2 * g.val)).all (fun p => LoadRect.disj p.1 (Rect.unit (s := S2x8x128x256) ![d.val, g.val, 0, 0] S1x1x128x256.size (by fin_cases d <;> fin_cases g <;> decide)).toLoadRect) = true := by
    fin_cases d <;> fin_cases g <;> rfl
  exact key' _ _ _ fun p hp => List.all_eq_true.mp hd p hp

end Runs

end Cert.Proof.Block
-- ==== Proof.BlockValue.lean ====
module

public import proofs.«01_k».proof.Proof.Block

@[expose] public section

set_option maxRecDepth 16384

noncomputable section

/-! The parts of one group's work, read at an index over the extended reals. -/

namespace Cert.Proof.Block

open Cert.KernelIdeal Cert.KernelIdeal.Gen Idealize.ShloMosaic Idealize.ShloMosaic.TcCoe Idealize.SL.Sem

/-- Which of 128 lanes come before the 64th. -/
theorem lane_slt (a : Fin 128) : IntOp.cmpi .slt (BitVec.ofNat 32 a.val) 64#32 = if a.val < 64 then 1#1 else 0#1 := by
  revert a; decide +kernel

theorem select_one {α : Type} (p : Prop) [Decidable p] (x y : α) : Scalar.select (if p then 1#1 else 0#1) x y = if p then x else y := by
  by_cases h : p <;> simp [h, Scalar.select]

theorem wide_apply (w : Vec Ideal S1x1x384x512 .bf16) (p : Vec Ideal S1x128x384 .bf16) (r : Fin 128) (j : Fin 512) :
    wide (F := Ideal) w p (ix2 r j) = ∑ k : Fin 384, (p (ix3 0 r k) * w (ix4 0 0 k j) : EReal) := by
  unfold wide
  pointwise

theorem steps_apply (w : Vec Ideal S1x1x256x256 .bf16) (p : Vec Ideal S1x128x256 .bf16) (r : Fin 128) (j : Fin 256) :
    steps (F := Ideal) w p (ix2 r j) = ∑ k : Fin 256, (p (ix3 0 r k) * w (ix4 0 0 k j) : EReal) := by
  unfold steps
  pointwise

theorem scaled_apply (x : Vec Ideal S1x128x256 .bf16) (dt : FVec Ideal S128x256 .f32) (r : Fin 128) (j : Fin 256) :
    scaled (F := Ideal) x dt (ix2 r j) = (x (ix3 0 r j) * dt (ix2 r j) : EReal) := by
  unfold scaled
  pointwise

theorem narrow_apply (cw : FVec Ideal S128x512 .f32) (f : Fin 128 → Fin 4 → EReal)
    (hf : ∀ (r : Fin 128) (k : Fin 512), cw (ix2 r k) = f r ⟨k.val / 128, by omega⟩) (r : Fin 128) (j : Fin 256) :
    narrow (F := Ideal) cw (ix2 r j) = f r ⟨j.val / 64, by omega⟩ := by
  unfold narrow firstHead lane
  pointwise
  simp only [hf]
  split
  · rename_i h
    rw [lane_slt ⟨j.val, h⟩, select_one]
    split
    · congr 1; apply Fin.ext; show j.val / 128 = j.val / 64; simp only at *; omega
    · congr 1; apply Fin.ext; show (128 + j.val) / 128 = j.val / 64; simp only at *; omega
  · rename_i h
    rw [lane_slt ⟨j.val - 128, by omega⟩, select_one]
    split
    · congr 1; apply Fin.ext; show (256 + (j.val - 128)) / 128 = j.val / 64; simp only at *; omega
    · congr 1; apply Fin.ext; show (384 + (j.val - 128)) / 128 = j.val / 64; simp only at *; omega

theorem scores_apply (mask : IVec S128x128 1) (b c : Vec Ideal S1x128x128 .bf16) (r k : Fin 128) :
    scores (F := Ideal) mask b c (ix2 r k)
      = if mask (ix2 r k) = 1#1 then (∑ n : Fin 128, (c (ix3 0 r n) * b (ix3 0 k n) : EReal)) else 0 := by
  unfold scores
  pointwise
  rfl

theorem mat_apply (cw : FVec Ideal S128x128 .f32) (cbm : FVec Ideal S128x128 .f32) (row : Vec Ideal S1x1x128 .f32) (r k : Fin 128) :
    mat (F := Ideal) cw cbm row (ix2 r k) = (cbm (ix2 r k) * Ideal.exp (min (cw (ix2 r k) - row (ix3 0 0 k) : EReal) 0) : EReal) := by
  unfold mat
  pointwise

theorem carried_apply (c : Vec Ideal S1x128x128 .bf16) (s : Vec Ideal S1x1x128x256 .f32) (r : Fin 128) (j : Fin 256) :
    carried (F := Ideal) c s (ix2 r j) = ∑ n : Fin 128, (c (ix3 0 r n) * s (ix4 0 0 n j) : EReal) := by
  unfold carried
  pointwise

theorem pair_apply (m0 m1 : FVec Ideal S128x128 .bf16) (slab : FVec Ideal S128x128 .f32) (r j : Fin 128) :
    pair (F := Ideal) m0 m1 slab (ix2 r j)
      = ∑ k : Fin 128, ((if j.val < 64 then m0 (ix2 r k) else m1 (ix2 r k)) * slab (ix2 k j) : EReal) := by
  unfold pair stacked firstHead lane
  pointwise
  simp only [lane_slt j, select_one]
  by_cases h : j.val < 64 <;> simp [h]

theorem outOf_apply (cr : FVec Ideal S128x256 .f32) (cx : FVec Ideal S128x256 .f32) (p0 p1 : FVec Ideal S128x128 .f32) (r : Fin 128) (j : Fin 256) :
    outOf (F := Ideal) cr cx p0 p1 (ix3 0 r j)
      = (cr (ix2 r j) * Ideal.exp (cx (ix2 r j)) + (if h : j.val < 128 then p0 (ix2 r ⟨j.val, h⟩) else p1 (ix2 r ⟨j.val - 128, by omega⟩)) : EReal) := by
  unfold outOf
  pointwise

theorem stateOf_apply (b : Vec Ideal S1x128x128 .bf16) (s : Vec Ideal S1x1x128x256 .f32) (xdt cx : FVec Ideal S128x256 .f32) (tot : FVec Ideal S1x256 .f32)
    (n : Fin 128) (j : Fin 256) :
    stateOf (F := Ideal) b s xdt cx tot (ix4 0 0 n j)
      = (s (ix4 0 0 n j) * Ideal.exp (tot (ix2 0 j)) + ∑ r : Fin 128, b (ix3 0 r n) * (xdt (ix2 r j) * Ideal.exp (tot (ix2 0 j) - cx (ix2 r j))) : EReal) := by
  unfold stateOf
  pointwise

end Cert.Proof.Block
-- ==== Proof.Spec.lean ====
module

public import Idealize.ShloMosaic.Lib.Pointwise
public import Idealize.ShloMosaic.Lib.ValueIdxCore

@[expose] public section

noncomputable section

/-! The scan of one chunk of 128 tokens, over the extended reals. -/

namespace Cert.Proof.Spec

open Idealize.ShloMosaic

/-- `log (1 + e ^ x)`, as the programs compute it. -/
def softplus (x : EReal) : EReal := max x 0 + Ideal.log1p (Ideal.exp (-(max x (-x))))

/-- The tokens of a chunk read up to row `r`: the rows before it, or after it when the chunk is read backwards. -/
def upTo (d : Fin 2) (r k : Fin 128) : Prop := if d = 0 then k ≤ r else r ≤ k

instance (d : Fin 2) (r k : Fin 128) : Decidable (upTo d r k) := by unfold upTo; infer_instance

/-- The last row a chunk's scan reads. -/
def last (d : Fin 2) : Fin 128 := if d = 0 then 127 else 0

/-- A sum over the tokens up to a row. -/
def running (d : Fin 2) (f : Fin 128 → EReal) (r : Fin 128) : EReal := ∑ k, (if upTo d r k then 1 else 0) * f k

/-- The sum of a number's three roundings, each of what the ones before left. -/
def three (x : EReal) : EReal := x + (x - x + (x - x - (x - x)))

/-- The sum of a number's two roundings. -/
def two (x : EReal) : EReal := x + (x - x)

/-- The head of a lane of a group. -/
def headOf (j : Fin 256) : Fin 4 := ⟨j.val / 64, by omega⟩

/-- A chunk's output in one group: of the state it began with, and of its own tokens up to the row. -/
def chunkOut (d : Fin 2) (X : Fin 128 → Fin 256 → EReal) (B C : Fin 128 → Fin 128 → EReal) (cum dt : Fin 128 → Fin 4 → EReal)
    (S : Fin 128 → Fin 256 → EReal) (r : Fin 128) (j : Fin 256) : EReal :=
  (∑ n, C r n * S n j) * Ideal.exp (three (cum r (headOf j)))
    + ∑ k, ((if upTo d r k then ∑ n, C r n * B k n else 0) * Ideal.exp (min (three (cum r (headOf j)) - cum k (headOf j)) 0))
        * (X k j * two (dt k (headOf j)))

/-- The state a chunk ends with in one group, from the state it began with. -/
def chunkState (d : Fin 2) (X : Fin 128 → Fin 256 → EReal) (B : Fin 128 → Fin 128 → EReal) (cum dt : Fin 128 → Fin 4 → EReal)
    (S : Fin 128 → Fin 256 → EReal) (n : Fin 128) (j : Fin 256) : EReal :=
  S n j * Ideal.exp (three (cum (last d) (headOf j)))
    + ∑ r, B r n * ((X r j * two (dt r (headOf j))) * Ideal.exp (three (cum (last d) (headOf j)) - three (cum r (headOf j))))

/-- The place, in the sequence of chunks, of the chunk read at step `s`: backwards, the first 256 tokens first. -/
def blk (d : Fin 2) (s : ℕ) : ℕ := if d = 0 then s else if s < 2 then 1 - s else 35 - s

/-- The token at row `r` of the chunk read at step `s`. -/
def tok (d : Fin 2) (s : ℕ) (r : Fin 128) : Fin 4352 := Fin.ofNat 4352 (128 * blk d s + r.val)

theorem tok_val (d : Fin 2) (s : ℕ) (r : Fin 128) (h : s < 34) : (tok d s r).val = 128 * blk d s + r.val := by
  show (128 * blk d s + r.val) % 4352 = _
  apply Nat.mod_eq_of_lt
  unfold blk
  split
  · omega
  · split <;> omega

/-- The number of head `e` of group `g`. -/
def head (g : Fin 8) (e : Fin 4) : Fin 32 := ⟨4 * g.val + e.val, by omega⟩

section Walk

variable (x : Fin 4 → Fin 4352 → Fin 4096 → EReal) (p : Fin 4 → Fin 4352 → Fin 6272 → EReal) (b a : Fin 2 → Fin 32 → EReal)

/-- The inputs of a group's chunk. -/
def xAt (d : Fin 2) (i : Fin 4) (g : Fin 8) (s : ℕ) (r : Fin 128) (j : Fin 256) : EReal := x i (tok d s r) ⟨256 * g.val + j.val, by omega⟩

/-- The input directions of a group's chunk. -/
def bAt (d : Fin 2) (i : Fin 4) (g : Fin 8) (s : ℕ) (r n : Fin 128) : EReal := x i (tok d s r) ⟨2048 + 128 * g.val + n.val, by omega⟩

/-- The output directions of a group's chunk. -/
def cAt (d : Fin 2) (i : Fin 4) (g : Fin 8) (s : ℕ) (r n : Fin 128) : EReal := x i (tok d s r) ⟨3072 + 128 * g.val + n.val, by omega⟩

/-- The step sizes of a group's chunk. -/
def dtAt (d : Fin 2) (i : Fin 4) (g : Fin 8) (s : ℕ) (r : Fin 128) (e : Fin 4) : EReal :=
  softplus (p i (tok d s r) ⟨6144 + (32 * d.val + 4 * g.val + e.val), by omega⟩ + b d (head g e))

/-- The running sums of a group's chunk. -/
def cumAt (d : Fin 2) (i : Fin 4) (g : Fin 8) (s : ℕ) (r : Fin 128) (e : Fin 4) : EReal :=
  running d (fun k => dtAt p b d i g s k e * -Ideal.exp (a d (head g e))) r

/-- A group's state before step `s`. -/
def carriedTo (d : Fin 2) (i : Fin 4) (g : Fin 8) : ℕ → Fin 128 → Fin 256 → EReal
  | 0 => fun _ _ => 0
  | s + 1 => chunkState d (xAt x d i g s) (bAt x d i g s) (cumAt p b a d i g s) (dtAt p b d i g s) (carriedTo d i g s)

/-- A group's outputs of the chunk read at step `s`. -/
def yAt (d : Fin 2) (i : Fin 4) (g : Fin 8) (s : ℕ) (r : Fin 128) (j : Fin 256) : EReal :=
  chunkOut d (xAt x d i g s) (bAt x d i g s) (cAt x d i g s) (cumAt p b a d i g s) (dtAt p b d i g s) (carriedTo x p b a d i g s) r j

end Walk

end Cert.Proof.Spec
-- ==== Proof.Heads.lean ====
module

public import proofs.«01_k».proof.Proof.Block
public import proofs.«01_k».proof.Proof.Spec

@[expose] public section

set_option maxRecDepth 16384

noncomputable section

/-! The step sizes of a chunk's tokens and their running sums, read at an index. -/

namespace Cert.Proof.Block

open Cert.KernelIdeal Cert.KernelIdeal.Gen Idealize.ShloMosaic Idealize.ShloMosaic.TcCoe Idealize.SL.Sem
open Cert.Proof.Spec

theorem mask_forward (r k : Fin 128) : (k0_pay5 (ix2 r k) : BitVec 1) = if upTo 0 r k then 1#1 else 0#1 := by
  have h : ∀ r k : Fin 128, IntOp.cmpi .sge (BitVec.ofNat 32 r.val) (BitVec.ofNat 32 k.val) = if upTo 0 r k then 1#1 else 0#1 := by
    decide +kernel
  unfold k0_pay5
  pointwise
  exact h r k

theorem mask_backward (r k : Fin 128) : (k0_pay6 (ix2 r k) : BitVec 1) = if upTo 1 r k then 1#1 else 0#1 := by
  have h : ∀ r k : Fin 128, IntOp.cmpi .sle (BitVec.ofNat 32 r.val) (BitVec.ofNat 32 k.val) = if upTo 1 r k then 1#1 else 0#1 := by
    decide +kernel
  unfold k0_pay6
  pointwise
  exact h r k

theorem bit_value (p : Prop) [Decidable p] :
    (FloatOps.sitofp .f32 (BitVec.setWidth 32 (if p then 1#1 else 0#1)) : Ideal .f32) = if p then (1 : EReal) else 0 := by
  split
  · show (((1#32 : BitVec 32).toInt : ℝ) : EReal) = 1
    simp
  · show (((0#32 : BitVec 32).toInt : ℝ) : EReal) = 0
    simp

theorem step_forward (D : Vec Ideal S1x128x128 .bf16) (b : Vec Ideal S1x128 .f32) (r l : Fin 128) :
    k0_pay7 (F := Ideal) D b (ix2 r l) = softplus (D (ix3 0 r l) + b (ix2 0 l)) := by
  unfold k0_pay7 softplus
  pointwise
  rw [if_neg (by simp), zero_sub]
  rfl

theorem step_backward (D : Vec Ideal S1x128x128 .bf16) (b : Vec Ideal S1x128 .f32) (r l : Fin 128) :
    k0_pay13 (F := Ideal) D b (ix2 r l) = softplus (D (ix3 0 r l) + b (ix2 0 l)) := step_forward D b r l

theorem sum_forward (D : Vec Ideal S1x128x128 .bf16) (b a : Vec Ideal S1x128 .f32) (r l : Fin 128) :
    k0_pay8 (F := Ideal) D b a (ix2 r l) = running 0 (fun k => softplus (D (ix3 0 k l) + b (ix2 0 l)) * a (ix2 0 l)) r := by
  unfold k0_pay8 running
  pointwise
  simp only [mask_forward, bit_value, step_forward]

theorem sum_backward (D : Vec Ideal S1x128x128 .bf16) (b a : Vec Ideal S1x128 .f32) (r l : Fin 128) :
    k0_pay14 (F := Ideal) k0_pay6 D b a (ix2 r l) = running 1 (fun k => softplus (D (ix3 0 k l) + b (ix2 0 l)) * a (ix2 0 l)) r := by
  unfold k0_pay14 running
  pointwise
  simp only [mask_backward, bit_value, step_backward]

theorem row_forward (D : Vec Ideal S1x128x128 .bf16) (b a : Vec Ideal S1x128 .f32) (l r : Fin 128) :
    k0_pay9 (F := Ideal) D b a (ix3 0 l r) = k0_pay8 D b a (ix2 r l) := by
  unfold k0_pay9
  pointwise

theorem row_backward (D : Vec Ideal S1x128x128 .bf16) (b a : Vec Ideal S1x128 .f32) (l r : Fin 128) :
    k0_pay16 (F := Ideal) (k0_pay15 k0_pay6 D b a) (ix3 0 l r) = k0_pay14 k0_pay6 D b a (ix2 r l) := by
  unfold k0_pay16 k0_pay15
  pointwise

/-- The pieces of the running sums and of the step sizes, beside one another. -/
def pieces (c t : Fin 128 → EReal) (k : Fin 640) : EReal :=
  let l : Fin 128 := ⟨k.val % 128, Nat.mod_lt _ (by decide)⟩
  if k.val < 128 then c l else if k.val < 256 then c l - c l else if k.val < 384 then c l - c l - (c l - c l)
  else if k.val < 512 then t l else t l - t l

theorem pieces_of (c t : Fin 128 → EReal) (k : Fin 640) :
    (if h : k.val < 128 then c ⟨k.val, h⟩
    else
      if h : k.val - 128 < 128 then c ⟨k.val - 128, h⟩ - c ⟨k.val - 128, h⟩
      else
        if h : k.val - 128 - 128 < 128 then
          c ⟨k.val - 128 - 128, h⟩ - c ⟨k.val - 128 - 128, h⟩ - (c ⟨k.val - 128 - 128, h⟩ - c ⟨k.val - 128 - 128, h⟩)
        else
          if h : k.val - 128 - 128 - 128 < 128 then t ⟨k.val - 128 - 128 - 128, h⟩
          else t ⟨k.val - 128 - 128 - 128 - 128, by omega⟩ - t ⟨k.val - 128 - 128 - 128 - 128, by omega⟩) = pieces c t k := by
  have key : ∀ (n : ℕ) (h : n < 128), n = k.val % 128 → (⟨n, h⟩ : Fin 128) = ⟨k.val % 128, Nat.mod_lt _ (by decide)⟩ :=
    fun n h e => Fin.ext e
  unfold pieces
  by_cases h1 : k.val < 128
  · rw [dif_pos h1, if_pos h1, key _ _ (by omega)]
  rw [dif_neg h1, if_neg h1]
  by_cases h2 : k.val < 256
  · rw [dif_pos (by omega), if_pos h2, key _ _ (by omega)]
  rw [dif_neg (by omega), if_neg h2]
  by_cases h3 : k.val < 384
  · rw [dif_pos (by omega), if_pos h3, key _ _ (by omega)]
  rw [dif_neg (by omega), if_neg h3]
  by_cases h4 : k.val < 512
  · rw [dif_pos (by omega), if_pos h4, key _ _ (by omega)]
  rw [dif_neg (by omega), if_neg h4, key _ _ (by omega)]

theorem cols_backward (t c : FVec Ideal S128x128 .f32) (r : Fin 128) (k : Fin 640) :
    k0_pay17 (F := Ideal) t c (ix3 0 r k) = pieces (fun l => c (ix2 r l)) (fun l => t (ix2 r l)) k := by
  rw [← pieces_of]
  unfold k0_pay17
  pointwise

theorem cols_forward (D : Vec Ideal S1x128x128 .bf16) (b a : Vec Ideal S1x128 .f32) (r : Fin 128) (k : Fin 640) :
    k0_pay12 (F := Ideal) (k0_pay7 D b) (k0_pay8 D b a) (k0_pay10 D b a) (k0_pay11 D b a) (ix3 0 r k)
      = pieces (fun l => k0_pay8 (F := Ideal) D b a (ix2 r l)) (fun l => k0_pay7 (F := Ideal) D b (ix2 r l)) k := by
  rw [← pieces_of]
  unfold k0_pay12 k0_pay11 k0_pay10
  pointwise

/-- Three pieces of the running sums, each times the same choice of a head. -/
theorem sum_three (c t : Fin 128 → EReal) (f : Fin 384 → EReal) (h : Fin 128)
    (hf : ∀ k, f k = if k.val % 128 = h.val then 1 else 0) :
    ∑ k : Fin 384, pieces c t ⟨k.val, by omega⟩ * f k = three (c h) := by
  have one : ∀ (g : Fin 128 → EReal), ∑ k : Fin 128, g k * (if k.val = h.val then 1 else 0) = g h := by
    intro g
    rw [Finset.sum_eq_single h]
    · simp
    · intro b _ hb; rw [if_neg (fun e => hb (Fin.ext e)), mul_zero]
    · intro hh; exact absurd (Finset.mem_univ _) hh
  have e : ∀ F : Fin 384 → EReal, ∑ k, F k = (∑ k : Fin 128, F ⟨k.val, by omega⟩) + ((∑ k : Fin 128, F ⟨128 + k.val, by omega⟩) + ∑ k : Fin 128, F ⟨256 + k.val, by omega⟩) := by
    intro F
    rw [← add_assoc]
    exact (Fin.sum_univ_add (a := 256) (b := 128) F).trans (congrArg (· + _) (Fin.sum_univ_add (a := 128) (b := 128) fun i => F (Fin.castAdd 128 i)))
  rw [e, three]
  simp only [hf, pieces]
  congr 1
  · rw [← one c]
    refine Finset.sum_congr rfl fun k _ => ?_
    simp [Nat.mod_eq_of_lt k.2]
  congr 1
  · rw [← one fun l => c l - c l]
    refine Finset.sum_congr rfl fun k _ => ?_
    have : (128 + k.val) % 128 = k.val := by omega
    simp only [this]
    rw [if_neg (by omega), if_pos (by omega)]
  · rw [← one fun l => c l - c l - (c l - c l)]
    refine Finset.sum_congr rfl fun k _ => ?_
    have : (256 + k.val) % 128 = k.val := by omega
    simp only [this]
    rw [if_neg (by omega), if_neg (by omega), if_pos (by omega)]

/-- Two pieces of the step sizes, each times the same choice of a head. -/
theorem sum_two (c t : Fin 128 → EReal) (f : Fin 256 → EReal) (h : Fin 128)
    (hf : ∀ k, f k = if k.val % 128 = h.val then 1 else 0) :
    ∑ k : Fin 256, pieces c t ⟨384 + k.val, by omega⟩ * f k = two (t h) := by
  have one : ∀ (g : Fin 128 → EReal), ∑ k : Fin 128, g k * (if k.val = h.val then 1 else 0) = g h := by
    intro g
    rw [Finset.sum_eq_single h]
    · simp
    · intro b _ hb; rw [if_neg (fun e => hb (Fin.ext e)), mul_zero]
    · intro hh; exact absurd (Finset.mem_univ _) hh
  have e : ∀ F : Fin 256 → EReal, ∑ k, F k = (∑ k : Fin 128, F ⟨k.val, by omega⟩) + ∑ k : Fin 128, F ⟨128 + k.val, by omega⟩ := by
    intro F
    exact Fin.sum_univ_add (a := 128) (b := 128) F
  rw [e, two]
  simp only [hf, pieces]
  congr 1
  · rw [← one t]
    refine Finset.sum_congr rfl fun k _ => ?_
    have : (384 + k.val) % 128 = k.val := by omega
    simp only [this, Nat.mod_eq_of_lt k.2]
    rw [if_neg (by omega), if_neg (by omega), if_neg (by omega), if_pos (by omega)]
  · rw [← one fun l => t l - t l]
    refine Finset.sum_congr rfl fun k _ => ?_
    have : (384 + (128 + k.val)) % 128 = k.val := by omega
    have : (128 + k.val) % 128 = k.val := by omega
    simp only [*]
    rw [if_neg (by omega), if_neg (by omega), if_neg (by omega), if_neg (by omega)]

end Cert.Proof.Block
-- ==== Proof.Loads.lean ====
module

public import proofs.«01_k».proof.Proof.Pieces
public import proofs.«01_k».proof.Proof.BlockValue
public import proofs.«01_k».proof.Proof.Heads
public import Idealize.ShloMosaic.Lib.WholeRead

@[expose] public section

set_option maxRecDepth 16384

noncomputable section

/-! What a group loads, read at an index. -/

namespace Cert.Proof.Block

open Cert.KernelIdeal Cert.KernelIdeal.Gen Idealize.ShloMosaic Idealize.ShloMosaic.TcCoe Idealize.SL.Sem
open Cert.Proof.Spec

theorem ldX_apply (a : Memref sig .tc .vmem S1x128x4096 .bf16) (ha : a.IsWhole) (x : Vec Ideal S1x128x4096 .bf16) (g : Fin 8) (r : Fin 128) (j : Fin 256) :
    ldX a ha x g (ix3 0 r j) = x (ix3 0 r ⟨256 * g.val + j.val, by omega⟩) := by
  unfold ldX
  rw [Memref.IsWhole.readAt_unread]
  congr 1
  pointwise

theorem ldB_apply (a : Memref sig .tc .vmem S1x128x4096 .bf16) (ha : a.IsWhole) (x : Vec Ideal S1x128x4096 .bf16) (g : Fin 8) (r : Fin 128) (j : Fin 128) :
    ldB a ha x g (ix3 0 r j) = x (ix3 0 r ⟨2048 + 128 * g.val + j.val, by omega⟩) := by
  unfold ldB
  rw [Memref.IsWhole.readAt_unread]
  congr 1
  pointwise

theorem ldC_apply (a : Memref sig .tc .vmem S1x128x4096 .bf16) (ha : a.IsWhole) (x : Vec Ideal S1x128x4096 .bf16) (g : Fin 8) (r : Fin 128) (j : Fin 128) :
    ldC a ha x g (ix3 0 r j) = x (ix3 0 r ⟨3072 + 128 * g.val + j.val, by omega⟩) := by
  unfold ldC
  rw [Memref.IsWhole.readAt_unread]
  congr 1
  pointwise

theorem ldW_apply (a : Memref sig .tc .vmem S2x8x384x512 .bf16) (ha : a.IsWhole) (x : Vec Ideal S2x8x384x512 .bf16) (d : Fin 2) (g : Fin 8) (r : Fin 384) (j : Fin 512) :
    ldW a ha x d g (ix4 0 0 r j) = x (ix4 d g r j) := by
  unfold ldW
  rw [Memref.IsWhole.readAt_unread]
  congr 1
  pointwise

theorem ldT_apply (a : Memref sig .tc .vmem S2x8x256x256 .bf16) (ha : a.IsWhole) (x : Vec Ideal S2x8x256x256 .bf16) (d : Fin 2) (g : Fin 8) (r : Fin 256) (j : Fin 256) :
    ldT a ha x d g (ix4 0 0 r j) = x (ix4 d g r j) := by
  unfold ldT
  rw [Memref.IsWhole.readAt_unread]
  congr 1
  pointwise

theorem ldS_apply (a : Memref sig .tc .vmem S2x8x128x256 .f32) (ha : a.IsWhole) (x : Vec Ideal S2x8x128x256 .f32) (d : Fin 2) (g : Fin 8) (r : Fin 128) (j : Fin 256) :
    ldS a ha x d g (ix4 0 0 r j) = x (ix4 d g r j) := by
  unfold ldS
  rw [Memref.IsWhole.readAt_unread]
  congr 1
  pointwise

theorem ldD_apply (a : Memref sig .tc .vmem S1x128x128 .bf16) (ha : a.IsWhole) (x : Vec Ideal S1x128x128 .bf16)  (r l : Fin 128) :
    ldD a ha x (ix3 0 r l) = x (ix3 0 r l) := by
  unfold ldD
  rw [Memref.IsWhole.readAt_unread]
  congr 1
  pointwise

theorem ldH_apply (a : Memref sig .tc .vmem S1x128 .f32) (ha : a.IsWhole) (x : Vec Ideal S1x128 .f32)  (l : Fin 128) :
    ldH a ha x (ix2 0 l) = x (ix2 0 l) := by
  unfold ldH
  rw [Memref.IsWhole.readAt_unread]
  congr 1
  pointwise

/-- An index of a box of a rank-3 array, placed in the array. -/
theorem emb3 {a b c a' b' c' : ℕ} (off : Fin 3 → ℕ) (inb : ∀ i, off i + ![a', b', c'] i ≤ ![a, b, c] i) (x : Fin a') (y : Fin b') (z : Fin c')
    (X : Fin a) (Y : Fin b) (Z : Fin c) (hx : off 0 + x.val = X.val) (hy : off 1 + y.val = Y.val) (hz : off 2 + z.val = Z.val) :
    (Rect.unit (s := ⟨3, ![a, b, c]⟩) off ![a', b', c'] inb).emb (ix3 x y z) = ix3 X Y Z := by
  funext i
  apply Fin.ext
  rw [Rect.emb_apply]
  show off i + 1 * _ = _
  rw [Nat.one_mul]
  fin_cases i
  · exact hx
  · exact hy
  · exact hz

/-- An index of a box of a rank-4 array, placed in the array. -/
theorem emb4 {a b c d a' b' c' d' : ℕ} (off : Fin 4 → ℕ) (inb : ∀ i, off i + ![a', b', c', d'] i ≤ ![a, b, c, d] i) (x : Fin a') (y : Fin b') (z : Fin c') (w : Fin d')
    (X : Fin a) (Y : Fin b) (Z : Fin c) (W : Fin d) (hx : off 0 + x.val = X.val) (hy : off 1 + y.val = Y.val) (hz : off 2 + z.val = Z.val) (hw : off 3 + w.val = W.val) :
    (Rect.unit (s := ⟨4, ![a, b, c, d]⟩) off ![a', b', c', d'] inb).emb (ix4 x y z w) = ix4 X Y Z W := by
  funext i
  apply Fin.ext
  rw [Rect.emb_apply]
  show off i + 1 * _ = _
  rw [Nat.one_mul]
  fin_cases i
  · exact hx
  · exact hy
  · exact hz
  · exact hw

theorem canon_cols (p q : FVec Ideal S1x128x640 .bf16) (d : Fin 2) (r : Fin 128) (k : Fin 640) :
    View.canon [(⟨Rect.unit ![1, 0, 0] S1x128x640.size inb_S2x128x640_S1x128x640_1_0_0, p⟩ : View.Piece (Elt Ideal) S2x128x640 .bf16),
      ⟨Rect.unit ![0, 0, 0] S1x128x640.size inb_S2x128x640_S1x128x640_0_0_0, q⟩] (ix3 d r k)
      = if d = 0 then q (ix3 0 r k) else p (ix3 0 r k) := by
  have e1 : ix3 (1 : Fin 2) r k = (Rect.unit (s := S2x128x640) ![1, 0, 0] S1x128x640.size inb_S2x128x640_S1x128x640_1_0_0).emb (ix3 (0 : Fin 1) r k) :=
    (emb3 _ _ _ _ _ _ _ _ (by simp) (by simp) (by simp)).symm
  have e0 : ix3 (0 : Fin 2) r k = (Rect.unit (s := S2x128x640) ![0, 0, 0] S1x128x640.size inb_S2x128x640_S1x128x640_0_0_0).emb (ix3 (0 : Fin 1) r k) :=
    (emb3 _ _ _ _ _ _ _ _ (by simp) (by simp) (by simp)).symm
  have n : ix3 (0 : Fin 2) r k ∉ (Rect.unit (s := S2x128x640) ![1, 0, 0] S1x128x640.size inb_S2x128x640_S1x128x640_1_0_0).set := by
    intro h
    exact absurd ((Rect.mem_set_unit.mp h) 0).1 (show ¬ (1 ≤ 0) by decide)
  match d with
  | 0 =>
    refine (View.canon_cons_of_not_mem _ _ ?_).trans ?_
    · exact n
    rw [e0, View.canon_cons_emb, if_pos rfl]
  | 1 =>
    rw [e1, View.canon_cons_emb, if_neg (show ¬ (1 : Fin 2) = 0 by decide)]

theorem canon_rows (p q : FVec Ideal S1x128x128 .f32) (d : Fin 2) (r : Fin 128) (k : Fin 128) :
    View.canon [(⟨Rect.unit ![1, 0, 0] S1x128x128.size inb_S2x128x128_S1x128x128_1_0_0, p⟩ : View.Piece (Elt Ideal) S2x128x128 .f32),
      ⟨Rect.unit ![0, 0, 0] S1x128x128.size inb_S2x128x128_S1x128x128_0_0_0, q⟩] (ix3 d r k)
      = if d = 0 then q (ix3 0 r k) else p (ix3 0 r k) := by
  have e1 : ix3 (1 : Fin 2) r k = (Rect.unit (s := S2x128x128) ![1, 0, 0] S1x128x128.size inb_S2x128x128_S1x128x128_1_0_0).emb (ix3 (0 : Fin 1) r k) :=
    (emb3 _ _ _ _ _ _ _ _ (by simp) (by simp) (by simp)).symm
  have e0 : ix3 (0 : Fin 2) r k = (Rect.unit (s := S2x128x128) ![0, 0, 0] S1x128x128.size inb_S2x128x128_S1x128x128_0_0_0).emb (ix3 (0 : Fin 1) r k) :=
    (emb3 _ _ _ _ _ _ _ _ (by simp) (by simp) (by simp)).symm
  have n : ix3 (0 : Fin 2) r k ∉ (Rect.unit (s := S2x128x128) ![1, 0, 0] S1x128x128.size inb_S2x128x128_S1x128x128_1_0_0).set := by
    intro h
    exact absurd ((Rect.mem_set_unit.mp h) 0).1 (show ¬ (1 ≤ 0) by decide)
  match d with
  | 0 =>
    refine (View.canon_cons_of_not_mem _ _ ?_).trans ?_
    · exact n
    rw [e0, View.canon_cons_emb, if_pos rfl]
  | 1 =>
    rw [e1, View.canon_cons_emb, if_neg (show ¬ (1 : Fin 2) = 0 by decide)]

end Cert.Proof.Block
-- ==== Proof.Group.lean ====
module

public import proofs.«01_k».proof.Proof.Loads

@[expose] public section

set_option maxRecDepth 16384

noncomputable section

/-! One group's output and state in one direction, as the chunk's scan. -/

namespace Cert.Proof.Block

open Cert.KernelIdeal Cert.KernelIdeal.Gen Idealize.ShloMosaic Idealize.ShloMosaic.TcCoe Idealize.SL.Sem
open Cert.Proof.Spec

/-- The column of a head of a group in a direction. -/
def headCol (d : Fin 2) (g : Fin 8) (e : Fin 4) : Fin 128 := ⟨32 * d.val + 4 * g.val + e.val, by omega⟩

/-- A token's step size. -/
def stepOf (D : Vec Ideal S1x128x128 .bf16) (b : Vec Ideal S1x128 .f32) (r l : Fin 128) : EReal := softplus (D (ix3 0 r l) + b (ix2 0 l))

/-- The running sum of the decays' logarithms. -/
def sumOf (d : Fin 2) (D : Vec Ideal S1x128x128 .bf16) (b a : Vec Ideal S1x128 .f32) (r l : Fin 128) : EReal :=
  running d (fun k => stepOf D b k l * a (ix2 0 l)) r

section Group
variable (arg2 : Memref sig .tc .vmem S1x128x4096 .bf16) (harg2 : arg2.IsWhole) (arg3 : Memref sig .tc .vmem S1x128x128 .bf16) (harg3 : arg3.IsWhole) (arg4 : Memref sig .tc .vmem S1x128x4096 .bf16) (harg4 : arg4.IsWhole) (arg5 : Memref sig .tc .vmem S1x128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2x8x384x512 .bf16) (harg8 : arg8.IsWhole) (arg9 : Memref sig .tc .vmem S2x8x256x256 .bf16) (harg9 : arg9.IsWhole) (arg13 : Memref sig .tc .vmem S2x128x128 .f32) (arg14 : Memref sig .tc .vmem S2x128x640 .bf16)
  (x0 : Vec Ideal S1x128x4096 .bf16) (x1 : Vec Ideal S1x128x128 .bf16) (x2 : Vec Ideal S1x128x4096 .bf16) (x3 : Vec Ideal S1x128x128 .bf16) (x4 : Vec Ideal S1x128 .f32) (x5 : Vec Ideal S1x128 .f32) (x6 : Vec Ideal S2x8x384x512 .bf16) (x7 : Vec Ideal S2x8x256x256 .bf16)

theorem canon_colPieces (d : Fin 2) (r : Fin 128) (k : Fin 640) :
    View.canon (colPieces arg3 harg3 arg5 harg5 arg6 harg6 arg7 harg7 x1 x3 x4 x5) (ix3 d r k)
      = pieces (sumOf d (if d = 0 then x1 else x3) x4 x5 r) (stepOf (if d = 0 then x1 else x3) x4 r) k := by
  unfold colPieces
  rw [canon_cols]
  match d with
  | 0 =>
    rw [if_pos rfl, if_pos rfl, cols_forward]
    simp only [sum_forward, step_forward, ldD_apply, ldH_apply]
    rfl
  | 1 =>
    rw [if_neg (show ¬ (1 : Fin 2) = 0 by decide), if_neg (show ¬ (1 : Fin 2) = 0 by decide), cols_backward]
    simp only [sum_backward, step_backward, ldD_apply, ldH_apply]
    rfl

theorem canon_rowPieces (d : Fin 2) (l r : Fin 128) :
    View.canon (rowPieces arg3 harg3 arg5 harg5 arg6 harg6 arg7 harg7 x1 x3 x4 x5) (ix3 d l r)
      = sumOf d (if d = 0 then x1 else x3) x4 x5 r l := by
  unfold rowPieces
  rw [canon_rows]
  match d with
  | 0 =>
    rw [if_pos rfl, if_pos rfl, row_forward, sum_forward]
    simp only [ldD_apply, ldH_apply]
    rfl
  | 1 =>
    rw [if_neg (show ¬ (1 : Fin 2) = 0 by decide), if_neg (show ¬ (1 : Fin 2) = 0 by decide), row_backward, sum_backward]
    simp only [ldD_apply, ldH_apply]
    rfl

theorem ldPw_apply (d : Fin 2) (r : Fin 128) (k : Fin 384) :
    ldPw arg14 (colPieces arg3 harg3 arg5 harg5 arg6 harg6 arg7 harg7 x1 x3 x4 x5) d (ix3 0 r k)
      = pieces (sumOf d (if d = 0 then x1 else x3) x4 x5 r) (stepOf (if d = 0 then x1 else x3) x4 r) ⟨k.val, by omega⟩ := by
  unfold ldPw
  rw [View.readCov_eq_canon', ← canon_colPieces arg3 harg3 arg5 harg5 arg6 harg6 arg7 harg7]
  exact congrArg _ (emb3 _ _ _ _ _ _ _ _ (by simp) (by simp) (by simp))

theorem ldPx_apply (d : Fin 2) (r : Fin 128) (k : Fin 256) :
    ldPx arg14 (colPieces arg3 harg3 arg5 harg5 arg6 harg6 arg7 harg7 x1 x3 x4 x5) d (ix3 0 r k)
      = pieces (sumOf d (if d = 0 then x1 else x3) x4 x5 r) (stepOf (if d = 0 then x1 else x3) x4 r) ⟨384 + k.val, by omega⟩ := by
  unfold ldPx
  rw [View.readCov_eq_canon', ← canon_colPieces arg3 harg3 arg5 harg5 arg6 harg6 arg7 harg7]
  exact congrArg _ (emb3 _ _ _ _ _ _ _ _ (by simp) (by simp) (by simp))

theorem ldR_apply (d : Fin 2) (g : Fin 8) (e : Fin 4) (r : Fin 128) :
    ldR arg13 (rowPieces arg3 harg3 arg5 harg5 arg6 harg6 arg7 harg7 x1 x3 x4 x5) d g e (ix3 0 0 r)
      = sumOf d (if d = 0 then x1 else x3) x4 x5 r (headCol d g e) := by
  unfold ldR
  rw [View.readCov_eq_canon', ← canon_rowPieces arg3 harg3 arg5 harg5 arg6 harg6 arg7 harg7]
  exact congrArg _ (emb3 _ _ _ _ _ _ _ _ (by simp) (by simp [headCol]) (by simp))

/-- The tables choose each lane's head. -/
structure Tables (x6 : Vec Ideal S2x8x384x512 .bf16) (x7 : Vec Ideal S2x8x256x256 .bf16) : Prop where
  wide : ∀ (d : Fin 2) (g : Fin 8) (k : Fin 384) (j : Fin 512),
    (x6 (ix4 d g k j) : EReal) = if k.val % 128 = 32 * d.val + 4 * g.val + j.val / 128 then 1 else 0
  steps : ∀ (d : Fin 2) (g : Fin 8) (k : Fin 256) (j : Fin 256),
    (x7 (ix4 d g k j) : EReal) = if k.val % 128 = 32 * d.val + 4 * g.val + j.val / 64 then 1 else 0

variable (T : Tables x6 x7)
include T

theorem wide_eq (d : Fin 2) (g : Fin 8) (r : Fin 128) (k : Fin 512) :
    wide (F := Ideal) (ldW arg8 harg8 x6 d g) (ldPw arg14 (colPieces arg3 harg3 arg5 harg5 arg6 harg6 arg7 harg7 x1 x3 x4 x5) d) (ix2 r k)
      = three (sumOf d (if d = 0 then x1 else x3) x4 x5 r (headCol d g ⟨k.val / 128, by omega⟩)) := by
  rw [wide_apply]
  simp only [ldPw_apply, ldW_apply]
  exact sum_three _ _ _ _ fun i => T.wide d g i k

theorem steps_eq (d : Fin 2) (g : Fin 8) (r : Fin 128) (j : Fin 256) :
    steps (F := Ideal) (ldT arg9 harg9 x7 d g) (ldPx arg14 (colPieces arg3 harg3 arg5 harg5 arg6 harg6 arg7 harg7 x1 x3 x4 x5) d) (ix2 r j)
      = two (stepOf (if d = 0 then x1 else x3) x4 r (headCol d g (headOf j))) := by
  rw [steps_apply]
  simp only [ldPx_apply, ldT_apply]
  exact sum_two _ _ _ _ fun i => T.steps d g i j

omit T in
theorem slice_sum0 (v : FVec Ideal S128x512 .f32) (r k : Fin 128) :
    extractStridedSlice S128x128 ![0, 0] v slices_S128x512_o0_0_S128x128 (ix2 r k) = v (ix2 r ⟨k.val, by omega⟩) := by
  pointwise

omit T in
theorem slice_sum1 (v : FVec Ideal S128x512 .f32) (r k : Fin 128) :
    extractStridedSlice S128x128 ![0, 128] v slices_S128x512_o0_128_S128x128 (ix2 r k) = v (ix2 r ⟨128 + k.val, by omega⟩) := by
  pointwise

omit T in
theorem slice_sum2 (v : FVec Ideal S128x512 .f32) (r k : Fin 128) :
    extractStridedSlice S128x128 ![0, 256] v slices_S128x512_o0_256_S128x128 (ix2 r k) = v (ix2 r ⟨256 + k.val, by omega⟩) := by
  pointwise

omit T in
theorem slice_sum3 (v : FVec Ideal S128x512 .f32) (r k : Fin 128) :
    extractStridedSlice S128x128 ![0, 384] v slices_S128x512_o0_384_S128x128 (ix2 r k) = v (ix2 r ⟨384 + k.val, by omega⟩) := by
  pointwise

omit T in
theorem slice_input0 (v : FVec Ideal S128x256 .f32) (r k : Fin 128) :
    extractStridedSlice S128x128 ![0, 0] v slices_S128x256_o0_0_S128x128 (ix2 r k) = v (ix2 r ⟨k.val, by omega⟩) := by
  pointwise

omit T in
theorem slice_input1 (v : FVec Ideal S128x256 .f32) (r k : Fin 128) :
    extractStridedSlice S128x128 ![0, 128] v slices_S128x256_o0_128_S128x128 (ix2 r k) = v (ix2 r ⟨128 + k.val, by omega⟩) := by
  pointwise

omit T in
theorem slice_last (v : FVec Ideal S128x256 .f32) (j : Fin 256) :
    extractStridedSlice S1x256 ![127, 0] v slices_S128x256_o127_0_S1x256 (ix2 0 j) = v (ix2 127 j) := by
  pointwise

omit T in
theorem slice_first (v : FVec Ideal S128x256 .f32) (j : Fin 256) :
    extractStridedSlice S1x256 ![0, 0] v slices_S128x256_o0_0_S1x256 (ix2 0 j) = v (ix2 0 j) := by
  pointwise

omit T in
/-- The output block from what its loads read. -/
theorem out_apply (d : Fin 2) (mask : IVec S128x128 1) (hmask : ∀ r k : Fin 128, mask (ix2 r k) = if upTo d r k then 1#1 else 0#1)
    (x : Vec Ideal S1x128x256 .bf16) (b c : Vec Ideal S1x128x128 .bf16)
    (tw : Vec Ideal S1x1x384x512 .bf16) (tx : Vec Ideal S1x1x256x256 .bf16) (pw : Vec Ideal S1x128x384 .bf16) (px : Vec Ideal S1x128x256 .bf16)
    (s : Vec Ideal S1x1x128x256 .f32) (r0 r1 r2 r3 : Vec Ideal S1x1x128 .f32) (cum dt : Fin 128 → Fin 4 → EReal)
    (hw : ∀ (r : Fin 128) (k : Fin 512), wide (F := Ideal) tw pw (ix2 r k) = three (cum r ⟨k.val / 128, by omega⟩))
    (hx : ∀ (r : Fin 128) (j : Fin 256), steps (F := Ideal) tx px (ix2 r j) = two (dt r (headOf j)))
    (h0 : ∀ k : Fin 128, r0 (ix3 0 0 k) = cum k 0) (h1 : ∀ k : Fin 128, r1 (ix3 0 0 k) = cum k 1)
    (h2 : ∀ k : Fin 128, r2 (ix3 0 0 k) = cum k 2) (h3 : ∀ k : Fin 128, r3 (ix3 0 0 k) = cum k 3) (r : Fin 128) (j : Fin 256) :
    out (F := Ideal) mask x b c tw tx pw px s r0 r1 r2 r3 (ix3 0 r j)
      = chunkOut d (fun r j => x (ix3 0 r j)) (fun r n => b (ix3 0 r n)) (fun r n => c (ix3 0 r n)) cum dt (fun n j => s (ix4 0 0 n j)) r j := by
  unfold out
  rw [outOf_apply, carried_apply, narrow_apply _ (fun r e => three (cum r e)) hw]
  unfold chunkOut
  congr 1
  have hm : ∀ (cw : FVec Ideal S128x128 .f32) (row : Vec Ideal S1x1x128 .f32) (e : Fin 4) (_ : ∀ r k : Fin 128, cw (ix2 r k) = three (cum r e))
      (_ : ∀ k : Fin 128, row (ix3 0 0 k) = cum k e) (r k : Fin 128), mat (F := Ideal) cw (scores mask b c) row (ix2 r k)
        = (if upTo d r k then ∑ n : Fin 128, (c (ix3 0 r n) * b (ix3 0 k n) : EReal) else 0) * Ideal.exp (min (three (cum r e) - cum k e) 0) := by
    intro cw row e h h' r k
    rw [mat_apply, scores_apply, h, h', hmask]
    by_cases hu : upTo d r k
    · rw [if_pos hu, if_pos rfl, if_pos hu]
    · rw [if_neg hu, if_neg (show ¬ (0#1 = 1#1) by decide), if_neg hu]
  have h0' := hm (extractStridedSlice S128x128 ![0, 0] (wide tw pw) slices_S128x512_o0_0_S128x128) r0 0
    (fun r k => by rw [slice_sum0, hw]; congr 2; apply Fin.ext; show k.val / 128 = 0; omega) h0
  have h1' := hm (extractStridedSlice S128x128 ![0, 128] (wide tw pw) slices_S128x512_o0_128_S128x128) r1 1
    (fun r k => by rw [slice_sum1, hw]; congr 2; apply Fin.ext; show (128 + k.val) / 128 = 1; omega) h1
  have h2' := hm (extractStridedSlice S128x128 ![0, 256] (wide tw pw) slices_S128x512_o0_256_S128x128) r2 2
    (fun r k => by rw [slice_sum2, hw]; congr 2; apply Fin.ext; show (256 + k.val) / 128 = 2; omega) h2
  have h3' := hm (extractStridedSlice S128x128 ![0, 384] (wide tw pw) slices_S128x512_o0_384_S128x128) r3 3
    (fun r k => by rw [slice_sum3, hw]; congr 2; apply Fin.ext; show (384 + k.val) / 128 = 3; omega) h3
  split
  · rename_i hj
    rw [pair_apply]
    refine Finset.sum_congr rfl fun k _ => ?_
    rw [h0', h1', slice_input0, scaled_apply, hx]
    by_cases hq : j.val < 64
    · rw [if_pos hq, show headOf j = 0 from Fin.ext (show j.val / 64 = 0 by omega)]
    · rw [if_neg hq, show headOf j = 1 from Fin.ext (show j.val / 64 = 1 by omega)]
  · rename_i hj
    have ej : (⟨128 + (j.val - 128), by omega⟩ : Fin 256) = j := Fin.ext (show 128 + (j.val - 128) = j.val by omega)
    rw [pair_apply]
    refine Finset.sum_congr rfl fun k _ => ?_
    rw [h2', h3', slice_input1, scaled_apply, hx]
    simp only [ej]
    by_cases hq : j.val - 128 < 64
    · rw [if_pos hq, show headOf j = 2 from Fin.ext (show j.val / 64 = 2 by omega)]
    · rw [if_neg hq, show headOf j = 3 from Fin.ext (show j.val / 64 = 3 by omega)]

omit T in
/-- The state block from what its loads read. -/
theorem stateOf_eq (d : Fin 2) (x : Vec Ideal S1x128x256 .bf16) (b : Vec Ideal S1x128x128 .bf16)
    (tw : Vec Ideal S1x1x384x512 .bf16) (tx : Vec Ideal S1x1x256x256 .bf16) (pw : Vec Ideal S1x128x384 .bf16) (px : Vec Ideal S1x128x256 .bf16)
    (s : Vec Ideal S1x1x128x256 .f32) (cum dt : Fin 128 → Fin 4 → EReal)
    (hw : ∀ (r : Fin 128) (k : Fin 512), wide (F := Ideal) tw pw (ix2 r k) = three (cum r ⟨k.val / 128, by omega⟩))
    (hx : ∀ (r : Fin 128) (j : Fin 256), steps (F := Ideal) tx px (ix2 r j) = two (dt r (headOf j)))
    (tot : FVec Ideal S1x256 .f32) (ht : ∀ j : Fin 256, tot (ix2 0 j) = narrow (F := Ideal) (wide tw pw) (ix2 (last d) j)) (n : Fin 128) (j : Fin 256) :
    stateOf (F := Ideal) b s (scaled x (steps tx px)) (narrow (wide tw pw)) tot (ix4 0 0 n j)
      = chunkState d (fun r j => x (ix3 0 r j)) (fun r n => b (ix3 0 r n)) cum dt (fun n j => s (ix4 0 0 n j)) n j := by
  rw [stateOf_apply]
  simp only [ht, narrow_apply _ (fun r e => three (cum r e)) hw, scaled_apply, hx]
  rfl

/-- A group's inputs in a block of tokens. -/
def inX (x : Vec Ideal S1x128x4096 .bf16) (g : Fin 8) (r : Fin 128) (j : Fin 256) : EReal := x (ix3 0 r ⟨256 * g.val + j.val, by omega⟩)

/-- A group's input directions in a block of tokens. -/
def inB (x : Vec Ideal S1x128x4096 .bf16) (g : Fin 8) (r n : Fin 128) : EReal := x (ix3 0 r ⟨2048 + 128 * g.val + n.val, by omega⟩)

/-- A group's output directions in a block of tokens. -/
def inC (x : Vec Ideal S1x128x4096 .bf16) (g : Fin 8) (r n : Fin 128) : EReal := x (ix3 0 r ⟨3072 + 128 * g.val + n.val, by omega⟩)

theorem outF_apply (st : Fin 2 → Fin 8 → Vec Ideal S1x1x128x256 .f32) (g : Fin 8) (r : Fin 128) (j : Fin 256) :
    outF arg2 harg2 arg3 harg3 arg5 harg5 arg6 harg6 arg7 harg7 arg8 harg8 arg9 harg9 arg13 arg14 x0 x1 x3 x4 x5 x6 x7 st g (ix3 0 r j)
      = chunkOut 0 (inX x0 g) (inB x0 g) (inC x0 g) (fun r e => sumOf 0 x1 x4 x5 r (headCol 0 g e)) (fun r e => stepOf x1 x4 r (headCol 0 g e))
        (fun n j => st 0 g (ix4 0 0 n j)) r j := by
  unfold outF
  rw [out_apply 0 _ mask_forward _ _ _ _ _ _ _ _ _ _ _ _ (fun r e => sumOf 0 x1 x4 x5 r (headCol 0 g e)) (fun r e => stepOf x1 x4 r (headCol 0 g e))
    (wide_eq _ _ _ _ _ _ _ _ _ _ _ x1 x3 x4 x5 x6 x7 T 0 g) (steps_eq _ _ _ _ _ _ _ _ _ _ _ x1 x3 x4 x5 x6 x7 T 0 g)
    (ldR_apply _ _ _ _ _ _ _ _ _ x1 x3 x4 x5 0 g 0) (ldR_apply _ _ _ _ _ _ _ _ _ x1 x3 x4 x5 0 g 1)
    (ldR_apply _ _ _ _ _ _ _ _ _ x1 x3 x4 x5 0 g 2) (ldR_apply _ _ _ _ _ _ _ _ _ x1 x3 x4 x5 0 g 3)]
  simp only [ldX_apply, ldB_apply, ldC_apply]
  rfl

theorem outB_apply (st : Fin 2 → Fin 8 → Vec Ideal S1x1x128x256 .f32) (g : Fin 8) (r : Fin 128) (j : Fin 256) :
    outB arg3 harg3 arg4 harg4 arg5 harg5 arg6 harg6 arg7 harg7 arg8 harg8 arg9 harg9 arg13 arg14 x1 x2 x3 x4 x5 x6 x7 st g (ix3 0 r j)
      = chunkOut 1 (inX x2 g) (inB x2 g) (inC x2 g) (fun r e => sumOf 1 x3 x4 x5 r (headCol 1 g e)) (fun r e => stepOf x3 x4 r (headCol 1 g e))
        (fun n j => st 1 g (ix4 0 0 n j)) r j := by
  unfold outB
  rw [out_apply 1 _ mask_backward _ _ _ _ _ _ _ _ _ _ _ _ (fun r e => sumOf 1 x3 x4 x5 r (headCol 1 g e)) (fun r e => stepOf x3 x4 r (headCol 1 g e))
    (wide_eq _ _ _ _ _ _ _ _ _ _ _ x1 x3 x4 x5 x6 x7 T 1 g) (steps_eq _ _ _ _ _ _ _ _ _ _ _ x1 x3 x4 x5 x6 x7 T 1 g)
    (ldR_apply _ _ _ _ _ _ _ _ _ x1 x3 x4 x5 1 g 0) (ldR_apply _ _ _ _ _ _ _ _ _ x1 x3 x4 x5 1 g 1)
    (ldR_apply _ _ _ _ _ _ _ _ _ x1 x3 x4 x5 1 g 2) (ldR_apply _ _ _ _ _ _ _ _ _ x1 x3 x4 x5 1 g 3)]
  simp only [ldX_apply, ldB_apply, ldC_apply]
  rfl

theorem stateAt_apply (st : Fin 2 → Fin 8 → Vec Ideal S1x1x128x256 .f32) (d : Fin 2) (g : Fin 8) (n : Fin 128) (j : Fin 256) :
    stateAt arg2 harg2 arg3 harg3 arg4 harg4 arg5 harg5 arg6 harg6 arg7 harg7 arg8 harg8 arg9 harg9 arg14 x0 x1 x2 x3 x4 x5 x6 x7 st d g (ix4 0 0 n j)
      = chunkState d (inX (if d = 0 then x0 else x2) g) (inB (if d = 0 then x0 else x2) g)
        (fun r e => sumOf d (if d = 0 then x1 else x3) x4 x5 r (headCol d g e)) (fun r e => stepOf (if d = 0 then x1 else x3) x4 r (headCol d g e))
        (fun n j => st d g (ix4 0 0 n j)) n j := by
  match d with
  | 0 =>
    refine (stateOf_eq 0 _ _ _ _ _ _ _ (fun r e => sumOf 0 x1 x4 x5 r (headCol 0 g e)) (fun r e => stepOf x1 x4 r (headCol 0 g e)) (wide_eq _ _ _ _ _ _ _ _ _ _ _ x1 x3 x4 x5 x6 x7 T 0 g) (steps_eq _ _ _ _ _ _ _ _ _ _ _ x1 x3 x4 x5 x6 x7 T 0 g) _
      (fun j => slice_last _ j) n j).trans ?_
    simp only [ldX_apply, ldB_apply]
    rfl
  | 1 =>
    refine (stateOf_eq 1 _ _ _ _ _ _ _ (fun r e => sumOf 1 x3 x4 x5 r (headCol 1 g e)) (fun r e => stepOf x3 x4 r (headCol 1 g e)) (wide_eq _ _ _ _ _ _ _ _ _ _ _ x1 x3 x4 x5 x6 x7 T 1 g) (steps_eq _ _ _ _ _ _ _ _ _ _ _ x1 x3 x4 x5 x6 x7 T 1 g) _
      (fun j => slice_first _ j) n j).trans ?_
    simp only [ldX_apply, ldB_apply]
    rfl

end Group

end Cert.Proof.Block
-- ==== Proof.Whole.lean ====
module

public import proofs.«01_k».proof.Proof.Group

@[expose] public section

set_option maxRecDepth 16384

noncomputable section

/-! The groups' blocks, put together. -/

namespace Cert.Proof.Block

open Cert.KernelIdeal Cert.KernelIdeal.Gen Idealize.ShloMosaic Idealize.ShloMosaic.TcCoe Idealize.SL.Sem
open Cert.Proof.Spec

theorem outPieces_apply (B : Fin 8 → Vec Ideal S1x128x256 .bf16) (g : Fin 8) (r : Fin 128) (j : Fin 256) :
    View.canon (outPieces B) (ix3 (0 : Fin 1) r (⟨256 * g.val + j.val, by omega⟩ : Fin 2048)) = B g (ix3 0 r j) := by
  let P : Fin 8 → View.Piece (Elt Ideal) S1x128x2048 .bf16 := fun g =>
    ⟨Rect.unit (s := S1x128x2048) ![0, 0, 256 * g.val] S1x128x256.size (by fin_cases g <;> decide), B g⟩
  have key : ∀ gs : List (Fin 8), g ∈ gs →
      View.canon (gs.map P) (ix3 (0 : Fin 1) r (⟨256 * g.val + j.val, by omega⟩ : Fin 2048)) = B g (ix3 0 r j) := by
    intro gs
    induction gs with
    | nil => intro h; simp at h
    | cons q gs ih =>
      intro h
      by_cases hq : q = g
      · subst hq
        have e : ix3 (0 : Fin 1) r (⟨256 * q.val + j.val, by omega⟩ : Fin 2048)
            = (Rect.unit (s := S1x128x2048) ![0, 0, 256 * q.val] S1x128x256.size (by fin_cases q <;> decide)).emb (ix3 (0 : Fin 1) r j) :=
          (emb3 _ _ _ _ _ _ _ _ (by simp) (by simp) (by simp)).symm
        rw [List.map_cons, e]
        exact View.canon_cons_emb _ _ _ _
      · rw [List.map_cons]
        refine (View.canon_cons_of_not_mem (P q) _ ?_).trans (ih ((List.mem_cons.mp h).resolve_left fun e => hq e.symm))
        intro hm
        have h2 := (Rect.mem_set_unit (s := S1x128x2048) (off := ![0, 0, 256 * q.val]) (size := S1x128x256.size) (inb := by fin_cases q <;> decide)).mp hm 2
        have a1 : 256 * q.val ≤ 256 * g.val + j.val := h2.1
        have a2 : 256 * g.val + j.val < 256 * q.val + 256 := h2.2
        exact hq (Fin.ext (by omega))
  exact key [7, 6, 5, 4, 3, 2, 1, 0] (by fin_cases g <;> simp)

theorem statePieces_apply (B : Fin 2 → Fin 8 → Vec Ideal S1x1x128x256 .f32) (L : List (View.Piece (Elt Ideal) S2x8x128x256 .f32))
    (d : Fin 2) (g : Fin 8) (n : Fin 128) (j : Fin 256) :
    View.canon (statePieces B ++ L) (ix4 d g n j) = B d g (ix4 0 0 n j) := by
  let P : Fin 2 × Fin 8 → View.Piece (Elt Ideal) S2x8x128x256 .f32 := fun p =>
    ⟨Rect.unit (s := S2x8x128x256) ![p.1.val, p.2.val, 0, 0] S1x1x128x256.size (by obtain ⟨d, g⟩ := p; fin_cases d <;> fin_cases g <;> decide), B p.1 p.2⟩
  have key : ∀ gs : List (Fin 2 × Fin 8), (d, g) ∈ gs → View.canon (gs.map P ++ L) (ix4 d g n j) = B d g (ix4 0 0 n j) := by
    intro gs
    induction gs with
    | nil => intro h; simp at h
    | cons q gs ih =>
      intro h
      by_cases hq : q = (d, g)
      · subst hq
        have e : ix4 d g n j = (Rect.unit (s := S2x8x128x256) ![d.val, g.val, 0, 0] S1x1x128x256.size (by fin_cases d <;> fin_cases g <;> decide)).emb
            (ix4 (0 : Fin 1) (0 : Fin 1) n j) :=
          (emb4 _ _ _ _ _ _ _ _ _ _ (by simp) (by simp) (by simp) (by simp)).symm
        rw [List.map_cons, List.cons_append, e]
        exact View.canon_cons_emb _ _ _ _
      · rw [List.map_cons, List.cons_append]
        refine (View.canon_cons_of_not_mem (P q) _ ?_).trans (ih ((List.mem_cons.mp h).resolve_left fun e => hq e.symm))
        intro hm
        have h0 := (Rect.mem_set_unit (s := S2x8x128x256) (off := ![q.1.val, q.2.val, 0, 0]) (size := S1x1x128x256.size)
          (inb := by obtain ⟨d, g⟩ := q; fin_cases d <;> fin_cases g <;> decide)).mp hm 0
        have h1 := (Rect.mem_set_unit (s := S2x8x128x256) (off := ![q.1.val, q.2.val, 0, 0]) (size := S1x1x128x256.size)
          (inb := by obtain ⟨d, g⟩ := q; fin_cases d <;> fin_cases g <;> decide)).mp hm 1
        have a1 : q.1.val ≤ d.val := h0.1
        have a2 : d.val < q.1.val + 1 := h0.2
        have b1 : q.2.val ≤ g.val := h1.1
        have b2 : g.val < q.2.val + 1 := h1.2
        exact hq (Prod.ext (Fin.ext (by show q.1.val = d.val; omega)) (Fin.ext (by show q.2.val = g.val; omega)))
  exact key [(1, 7), (0, 7), (1, 6), (0, 6), (1, 5), (0, 5), (1, 4), (0, 4), (1, 3), (0, 3), (1, 2), (0, 2), (1, 1), (0, 1), (1, 0), (0, 0)]
    (by fin_cases d <;> fin_cases g <;> simp)

end Cert.Proof.Block
-- ==== Proof.Case.lean ====
module

public import proofs.«01_k».proof.Proof.Whole
public import proofs.«01_k».proof.Proof.Gen.KernelIdeal.Frame

@[expose] public section

set_option maxRecDepth 16384

noncomputable section

/-! What one grid point leaves in its buffers. -/

namespace Cert.Proof.Block

open Cert.KernelIdeal Cert.KernelIdeal.Gen Idealize.ShloMosaic Idealize.ShloMosaic.TcCoe Idealize.SL.Sem
open Cert.Proof.Spec

/-- One group's output from a block of tokens and the state before it. -/
def chunkOf (d : Fin 2) (x : Vec Ideal S1x128x4096 .bf16) (p : Vec Ideal S1x128x128 .bf16) (b a : Vec Ideal S1x128 .f32) (g : Fin 8)
    (S : Fin 128 → Fin 256 → EReal) (r : Fin 128) (j : Fin 256) : EReal :=
  chunkOut d (inX x g) (inB x g) (inC x g) (fun r e => sumOf d p b a r (headCol d g e)) (fun r e => stepOf p b r (headCol d g e)) S r j

/-- One group's state after a block of tokens. -/
def nextOf (d : Fin 2) (x : Vec Ideal S1x128x4096 .bf16) (p : Vec Ideal S1x128x128 .bf16) (b a : Vec Ideal S1x128 .f32) (g : Fin 8)
    (S : Fin 128 → Fin 256 → EReal) (n : Fin 128) (j : Fin 256) : EReal :=
  chunkState d (inX x g) (inB x g) (fun r e => sumOf d p b a r (headCol d g e)) (fun r e => stepOf p b r (headCol d g e)) S n j

/-- The word of a stored zero is zero. -/
theorem zero_word : (Scalar.ofBits .f32 0x00000000#32 : Ideal .f32) = 0 := Idealize.ShloMosaic.Ideal.ofBits_zero_f32

section Case
variable  (c : Dev nD) (i : grid0.Coords) (arg2 : Memref sig .tc .vmem S1x128x4096 .bf16) (harg2 : arg2.IsWhole) (arg3 : Memref sig .tc .vmem S1x128x128 .bf16) (harg3 : arg3.IsWhole) (arg4 : Memref sig .tc .vmem S1x128x4096 .bf16) (harg4 : arg4.IsWhole) (arg5 : Memref sig .tc .vmem S1x128x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S2x8x384x512 .bf16) (harg8 : arg8.IsWhole) (arg9 : Memref sig .tc .vmem S2x8x256x256 .bf16) (harg9 : arg9.IsWhole) (arg10 : Memref sig .tc .vmem S1x128x2048 .bf16) (harg10 : arg10.IsWhole) (arg11 : Memref sig .tc .vmem S1x128x2048 .bf16) (harg11 : arg11.IsWhole) (arg12 : Memref sig .tc .vmem S2x8x128x256 .f32) (harg12 : arg12.IsWhole) (arg13 : Memref sig .tc .vmem S2x128x128 .f32) (harg13 : arg13.IsWhole) (arg14 : Memref sig .tc .vmem S2x128x640 .bf16) (harg14 : arg14.IsWhole)
  (x0 : Vec Ideal S1x128x4096 .bf16) (x1 : Vec Ideal S1x128x128 .bf16) (x2 : Vec Ideal S1x128x4096 .bf16) (x3 : Vec Ideal S1x128x128 .bf16) (x4 : Vec Ideal S1x128 .f32) (x5 : Vec Ideal S1x128 .f32) (x6 : Vec Ideal S2x8x384x512 .bf16) (x7 : Vec Ideal S2x8x256x256 .bf16) (T : Tables x6 x7)

include T

theorem first_forward (hc0 : cond0_0 i) (g : Fin 8) (r : Fin 128) (j : Fin 256) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 (0 : Fin 1) r (⟨256 * g.val + j.val, by omega⟩ : Fin 2048))
      = chunkOf 0 x0 x1 x4 x5 g (fun _ _ => 0) r j := by
  unfold out0_A_8
  rw [View.read_writes_junk_eq_canon, pieces_first_forward, outPieces_apply, outF_apply (T := T)]
  simp only [ldZ_apply, zero_word]
  rfl

theorem first_backward (hc0 : cond0_0 i) (g : Fin 8) (r : Fin 128) (j : Fin 256) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 (0 : Fin 1) r (⟨256 * g.val + j.val, by omega⟩ : Fin 2048))
      = chunkOf 1 x2 x3 x4 x5 g (fun _ _ => 0) r j := by
  unfold out0_A_9
  rw [View.read_writes_junk_eq_canon, pieces_first_backward, outPieces_apply, outB_apply (T := T)]
  simp only [ldZ_apply, zero_word]
  rfl

theorem first_state (hc0 : cond0_0 i) (d : Fin 2) (g : Fin 8) (n : Fin 128) (j : Fin 256) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix4 d g n j)
      = nextOf d (if d = 0 then x0 else x2) (if d = 0 then x1 else x3) x4 x5 g (fun _ _ => 0) n j := by
  unfold sout0_A_0
  rw [View.read_writes_junk_eq_canon, pieces_first_state, statePieces_apply, stateAt_apply (T := T)]
  simp only [ldZ_apply, zero_word]
  rfl

theorem later_forward (hc0 : ¬cond0_0 i) (xs0 : Vec Ideal S2x8x128x256 .f32) (g : Fin 8) (r : Fin 128) (j : Fin 256) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix3 (0 : Fin 1) r (⟨256 * g.val + j.val, by omega⟩ : Fin 2048))
      = chunkOf 0 x0 x1 x4 x5 g (fun n j => xs0 (ix4 0 g n j)) r j := by
  unfold out0_B_8
  rw [View.read_writes_junk_eq_canon, pieces_later_forward, outPieces_apply, outF_apply (T := T)]
  simp only [ldS_apply]
  rfl

theorem later_backward (hc0 : ¬cond0_0 i) (xs0 : Vec Ideal S2x8x128x256 .f32) (g : Fin 8) (r : Fin 128) (j : Fin 256) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix3 (0 : Fin 1) r (⟨256 * g.val + j.val, by omega⟩ : Fin 2048))
      = chunkOf 1 x2 x3 x4 x5 g (fun n j => xs0 (ix4 1 g n j)) r j := by
  unfold out0_B_9
  rw [View.read_writes_junk_eq_canon, pieces_later_backward, outPieces_apply, outB_apply (T := T)]
  simp only [ldS_apply]
  rfl

theorem later_state (hc0 : ¬cond0_0 i) (xs0 : Vec Ideal S2x8x128x256 .f32) (d : Fin 2) (g : Fin 8) (n : Fin 128) (j : Fin 256) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix4 d g n j)
      = nextOf d (if d = 0 then x0 else x2) (if d = 0 then x1 else x3) x4 x5 g (fun n j => xs0 (ix4 d g n j)) n j := by
  unfold sout0_B_0
  rw [View.read_writes_junk_eq_canon, pieces_later_state, ← List.append_nil (statePieces _), statePieces_apply, stateAt_apply (T := T)]
  simp only [ldS_apply]
  rfl

end Case

end Cert.Proof.Block
-- ==== Proof.Windows.lean ====
module

public import proofs.«01_k».proof.Proof.Case
public import proofs.«01_k».proof.Proof.Gen.KernelIdeal.Value

@[expose] public section

set_option maxRecDepth 16384

noncomputable section

/-! What a grid point's windows show of the arguments. -/

namespace Cert.Proof.Block

open Cert.KernelIdeal Cert.KernelIdeal.Gen Idealize.ShloMosaic Idealize.ShloMosaic.TcCoe Idealize.SL.Sem
open Cert.Proof.Spec

variable (m : (ℓ : Loc nD τ sig) → Buf (Elt Ideal) ℓ) (c : Dev nD)

/-- The samples and chunks of the grid's points. -/
theorem idx_forward : ∀ t : Fin grid0.N, (win0_0.index t 0 = t.val / 34 ∧ win0_0.index t 1 = t.val % 34 ∧ win0_0.index t 2 = 0)
    ∧ (win0_1.index t 0 = t.val / 34 ∧ win0_1.index t 1 = t.val % 34 ∧ win0_1.index t 2 = 48)
    ∧ (win0_8.index t 0 = t.val / 34 ∧ win0_8.index t 1 = t.val % 34 ∧ win0_8.index t 2 = 0) := by decide +kernel

theorem idx_backward : ∀ t : Fin grid0.N, (win0_2.index t 0 = t.val / 34 ∧ win0_2.index t 1 = blk 1 (t.val % 34) ∧ win0_2.index t 2 = 0)
    ∧ (win0_3.index t 0 = t.val / 34 ∧ win0_3.index t 1 = blk 1 (t.val % 34) ∧ win0_3.index t 2 = 48)
    ∧ (win0_9.index t 0 = t.val / 34 ∧ win0_9.index t 1 = blk 1 (t.val % 34) ∧ win0_9.index t 2 = 0) := by decide +kernel

theorem idx_whole : ∀ t : Fin grid0.N, (win0_4.index t 0 = 0 ∧ win0_4.index t 1 = 0) ∧ (win0_5.index t 0 = 0 ∧ win0_5.index t 1 = 0)
    ∧ (win0_6.index t 0 = 0 ∧ win0_6.index t 1 = 0 ∧ win0_6.index t 2 = 0 ∧ win0_6.index t 3 = 0)
    ∧ (win0_7.index t 0 = 0 ∧ win0_7.index t 1 = 0 ∧ win0_7.index t 2 = 0 ∧ win0_7.index t 3 = 0) := by decide +kernel

/-- The sample a point reads. -/
def sample (t : Fin cfg0.N) : Fin 4 := ⟨t.val / 34, by have := t.isLt; have h : cfg0.N = 136 := N_0; omega⟩

theorem read_0 (t : Fin cfg0.N) (r : Fin 128) (j : Fin 4096) :
    (iblk m c 0 t : Vec Ideal S1x128x4096 .bf16) (ix3 0 r j) = m ((c : Thread nD τ).loc main_arg0) (ix3 (sample t) (tok 0 (t.val % 34) r) j) := by
  obtain ⟨h0, h1, h2⟩ := (idx_forward t).1
  unfold iblk
  rw [View.read_apply]
  show V m c main_arg0 _ = _
  rw [V_main_arg0]
  congr 1
  funext a
  apply Fin.ext
  match a with
  | ⟨0, _⟩ => show win0_0.index t 0 * 1 + 1 * 0 = t.val / 34; rw [h0]; omega
  | ⟨1, _⟩ => show win0_0.index t 1 * 128 + 1 * r.val = (tok 0 (t.val % 34) r).val; rw [h1, tok_val _ _ _ (Nat.mod_lt _ (by decide))]; unfold blk; rw [if_pos rfl]; omega
  | ⟨2, _⟩ => show win0_0.index t 2 * 4096 + 1 * j.val = j.val; rw [h2]; omega

theorem read_1 (t : Fin cfg0.N) (r : Fin 128) (j : Fin 128) :
    (iblk m c 1 t : Vec Ideal S1x128x128 .bf16) (ix3 0 r j) = m ((c : Thread nD τ).loc main_arg1) (ix3 (sample t) (tok 0 (t.val % 34) r) ⟨6144 + j.val, by omega⟩) := by
  obtain ⟨h0, h1, h2⟩ := (idx_forward t).2.1
  unfold iblk
  rw [View.read_apply]
  show V m c main_arg1 _ = _
  rw [V_main_arg1]
  congr 1
  funext a
  apply Fin.ext
  match a with
  | ⟨0, _⟩ => show win0_1.index t 0 * 1 + 1 * 0 = t.val / 34; rw [h0]; omega
  | ⟨1, _⟩ => show win0_1.index t 1 * 128 + 1 * r.val = (tok 0 (t.val % 34) r).val; rw [h1, tok_val _ _ _ (Nat.mod_lt _ (by decide))]; unfold blk; rw [if_pos rfl]; omega
  | ⟨2, _⟩ => show win0_1.index t 2 * 128 + 1 * j.val = 6144 + j.val; rw [h2]; omega

theorem read_2 (t : Fin cfg0.N) (r : Fin 128) (j : Fin 4096) :
    (iblk m c 2 t : Vec Ideal S1x128x4096 .bf16) (ix3 0 r j) = m ((c : Thread nD τ).loc main_arg0) (ix3 (sample t) (tok 1 (t.val % 34) r) j) := by
  obtain ⟨h0, h1, h2⟩ := (idx_backward t).1
  unfold iblk
  rw [View.read_apply]
  show V m c main_arg0 _ = _
  rw [V_main_arg0]
  congr 1
  funext a
  apply Fin.ext
  match a with
  | ⟨0, _⟩ => show win0_2.index t 0 * 1 + 1 * 0 = t.val / 34; rw [h0]; omega
  | ⟨1, _⟩ => show win0_2.index t 1 * 128 + 1 * r.val = (tok 1 (t.val % 34) r).val; rw [h1, tok_val _ _ _ (Nat.mod_lt _ (by decide))]; omega
  | ⟨2, _⟩ => show win0_2.index t 2 * 4096 + 1 * j.val = j.val; rw [h2]; omega

theorem read_3 (t : Fin cfg0.N) (r : Fin 128) (j : Fin 128) :
    (iblk m c 3 t : Vec Ideal S1x128x128 .bf16) (ix3 0 r j) = m ((c : Thread nD τ).loc main_arg1) (ix3 (sample t) (tok 1 (t.val % 34) r) ⟨6144 + j.val, by omega⟩) := by
  obtain ⟨h0, h1, h2⟩ := (idx_backward t).2.1
  unfold iblk
  rw [View.read_apply]
  show V m c main_arg1 _ = _
  rw [V_main_arg1]
  congr 1
  funext a
  apply Fin.ext
  match a with
  | ⟨0, _⟩ => show win0_3.index t 0 * 1 + 1 * 0 = t.val / 34; rw [h0]; omega
  | ⟨1, _⟩ => show win0_3.index t 1 * 128 + 1 * r.val = (tok 1 (t.val % 34) r).val; rw [h1, tok_val _ _ _ (Nat.mod_lt _ (by decide))]; omega
  | ⟨2, _⟩ => show win0_3.index t 2 * 128 + 1 * j.val = 6144 + j.val; rw [h2]; omega

/-- The windows of the rows and of the tables show the whole arrays. -/
theorem read_4 (t : Fin cfg0.N) (l : Fin 128) : (iblk m c 4 t : Vec Ideal S1x128 .f32) (ix2 0 l) = (V m c main_v6 : Vec Ideal S1x128 .f32) (ix2 0 l) := by
  obtain ⟨h0, h1⟩ := (idx_whole t).1
  unfold iblk
  rw [View.read_apply]
  show V m c main_v6 _ = _
  congr 1
  funext a
  apply Fin.ext
  match a with
  | ⟨0, _⟩ => show win0_4.index t 0 * 1 + 1 * 0 = 0; rw [h0]
  | ⟨1, _⟩ => show win0_4.index t 1 * 128 + 1 * l.val = l.val; rw [h1]; omega

theorem read_5 (t : Fin cfg0.N) (l : Fin 128) : (iblk m c 5 t : Vec Ideal S1x128 .f32) (ix2 0 l) = (V m c main_v17 : Vec Ideal S1x128 .f32) (ix2 0 l) := by
  obtain ⟨h0, h1⟩ := (idx_whole t).2.1
  unfold iblk
  rw [View.read_apply]
  show V m c main_v17 _ = _
  congr 1
  funext a
  apply Fin.ext
  match a with
  | ⟨0, _⟩ => show win0_5.index t 0 * 1 + 1 * 0 = 0; rw [h0]
  | ⟨1, _⟩ => show win0_5.index t 1 * 128 + 1 * l.val = l.val; rw [h1]; omega

theorem read_6 (t : Fin cfg0.N) (d : Fin 2) (g : Fin 8) (k : Fin 384) (j : Fin 512) :
    (iblk m c 6 t : Vec Ideal S2x8x384x512 .bf16) (ix4 d g k j) = (V m c main_v51 : Vec Ideal S2x8x384x512 .bf16) (ix4 d g k j) := by
  obtain ⟨h0, h1, h2, h3⟩ := (idx_whole t).2.2.1
  unfold iblk
  rw [View.read_apply]
  show V m c main_v51 _ = _
  congr 1
  funext a
  apply Fin.ext
  match a with
  | ⟨0, _⟩ => show win0_6.index t 0 * 2 + 1 * d.val = d.val; rw [h0]; omega
  | ⟨1, _⟩ => show win0_6.index t 1 * 8 + 1 * g.val = g.val; rw [h1]; omega
  | ⟨2, _⟩ => show win0_6.index t 2 * 384 + 1 * k.val = k.val; rw [h2]; omega
  | ⟨3, _⟩ => show win0_6.index t 3 * 512 + 1 * j.val = j.val; rw [h3]; omega

theorem read_7 (t : Fin cfg0.N) (d : Fin 2) (g : Fin 8) (k j : Fin 256) :
    (iblk m c 7 t : Vec Ideal S2x8x256x256 .bf16) (ix4 d g k j) = (V m c main_v52 : Vec Ideal S2x8x256x256 .bf16) (ix4 d g k j) := by
  obtain ⟨h0, h1, h2, h3⟩ := (idx_whole t).2.2.2
  unfold iblk
  rw [View.read_apply]
  show V m c main_v52 _ = _
  congr 1
  funext a
  apply Fin.ext
  match a with
  | ⟨0, _⟩ => show win0_7.index t 0 * 2 + 1 * d.val = d.val; rw [h0]; omega
  | ⟨1, _⟩ => show win0_7.index t 1 * 8 + 1 * g.val = g.val; rw [h1]; omega
  | ⟨2, _⟩ => show win0_7.index t 2 * 256 + 1 * k.val = k.val; rw [h2]; omega
  | ⟨3, _⟩ => show win0_7.index t 3 * 256 + 1 * j.val = j.val; rw [h3]; omega

end Cert.Proof.Block
-- ==== Proof.HostArrays.lean ====
module

public import proofs.«01_k».proof.Proof.Group
public import proofs.«01_k».proof.Proof.Gen.KernelIdeal.Frame
public import Idealize.ShloMosaic.Lib.StableHlo.ReadAt

@[expose] public section

set_option maxRecDepth 16384

noncomputable section

/-! The rows and the tables the host makes before the kernel runs. -/

namespace Cert.Proof.Block

open Cert.KernelIdeal Cert.KernelIdeal.Gen Idealize.ShloMosaic Idealize.ShloMosaic.TcCoe Idealize.SL.Sem
open Cert.Proof.Spec

variable (m : (ℓ : Loc nD τ sig) → Buf (Elt Ideal) ℓ) (c : Dev nD)

theorem bias_row (d : Fin 2) (g : Fin 8) (e : Fin 4) :
    (V m c main_v6 : Vec Ideal S1x128 .f32) (ix2 0 (headCol d g e)) = m ((c : Thread nD τ).loc main_arg2) (ix2 d (head g e)) := by
  unfold V
  simp only [List.flatten_cons, List.flatten_nil, List.append_nil]
  after_reads_at
  after_reads_at
  match d with
  | 0 =>
    rw [dif_pos (show (headCol 0 g e).val < 32 by show 32 * 0 + 4 * g.val + e.val < 32; omega)]
    exact congrArg (fun l => m ((c : Thread nD τ).loc main_arg2) (ix2 0 l)) (Fin.ext (show 32 * 0 + 4 * g.val + e.val = 4 * g.val + e.val by omega))
  | 1 =>
    rw [dif_neg (show ¬ (headCol 1 g e).val < 32 by show ¬ 32 * 1 + 4 * g.val + e.val < 32; omega),
      dif_pos (show (headCol 1 g e).val - 32 < 32 by show 32 * 1 + 4 * g.val + e.val - 32 < 32; omega)]
    exact congrArg (fun l => m ((c : Thread nD τ).loc main_arg2) (ix2 1 l)) (Fin.ext (show 32 * 1 + 4 * g.val + e.val - 32 = 4 * g.val + e.val by omega))

theorem rate_row (d : Fin 2) (g : Fin 8) (e : Fin 4) :
    (V m c main_v17 : Vec Ideal S1x128 .f32) (ix2 0 (headCol d g e)) = -Ideal.exp (m ((c : Thread nD τ).loc main_arg3) (ix2 d (head g e))) := by
  unfold V
  simp only [List.flatten_cons, List.flatten_nil, List.append_nil]
  after_reads_at
  after_reads_at
  match d with
  | 0 =>
    rw [dif_pos (show (headCol 0 g e).val < 32 by show 32 * 0 + 4 * g.val + e.val < 32; omega)]
    exact congrArg (fun l => -Ideal.exp (m ((c : Thread nD τ).loc main_arg3) (ix2 0 l))) (Fin.ext (show 32 * 0 + 4 * g.val + e.val = 4 * g.val + e.val by omega))
  | 1 =>
    rw [dif_neg (show ¬ (headCol 1 g e).val < 32 by show ¬ 32 * 1 + 4 * g.val + e.val < 32; omega),
      dif_pos (show (headCol 1 g e).val - 32 < 32 by show 32 * 1 + 4 * g.val + e.val - 32 < 32; omega)]
    exact congrArg (fun l => -Ideal.exp (m ((c : Thread nD τ).loc main_arg3) (ix2 1 l))) (Fin.ext (show 32 * 1 + 4 * g.val + e.val - 32 = 4 * g.val + e.val by omega))

/-- The host's floor division, at the lanes of a head. -/
theorem floor_128 : ∀ j : Fin 512, Scalar.select
      (IntOp.andi
        (IntOp.cmpi CmpIPredicate.ne (if BitVec.ofNat 32 j.val = 0 then (0 : BitVec 32) else if (BitVec.ofNat 32 j.val).msb = true then -1 else 1)
          (if id (constantI S_ 32 128#32) ix0 = 0 then (0 : BitVec 32) else if BitVec.msb (id (constantI S_ 32 128#32) ix0) = true then -1 else 1))
        (IntOp.cmpi CmpIPredicate.ne (IntOp.remsi ArithUnit.host (BitVec.ofNat 32 j.val) (id (constantI S_ 32 128#32) ix0)) 0#32))
      (IntOp.subi (IntOp.divsi ArithUnit.host (BitVec.ofNat 32 j.val) (id (constantI S_ 32 128#32) ix0)) 1#32)
      (IntOp.divsi ArithUnit.host (BitVec.ofNat 32 j.val) (id (constantI S_ 32 128#32) ix0))
      = BitVec.ofNat 32 (j.val / 128) := by decide +kernel

theorem floor_64 : ∀ j : Fin 256, Scalar.select
      (IntOp.andi
        (IntOp.cmpi CmpIPredicate.ne (if BitVec.ofNat 32 j.val = 0 then (0 : BitVec 32) else if (BitVec.ofNat 32 j.val).msb = true then -1 else 1)
          (if id (constantI S_ 32 64#32) ix0 = 0 then (0 : BitVec 32) else if BitVec.msb (id (constantI S_ 32 64#32) ix0) = true then -1 else 1))
        (IntOp.cmpi CmpIPredicate.ne (IntOp.remsi ArithUnit.host (BitVec.ofNat 32 j.val) (id (constantI S_ 32 64#32) ix0)) 0#32))
      (IntOp.subi (IntOp.divsi ArithUnit.host (BitVec.ofNat 32 j.val) (id (constantI S_ 32 64#32) ix0)) 1#32)
      (IntOp.divsi ArithUnit.host (BitVec.ofNat 32 j.val) (id (constantI S_ 32 64#32) ix0))
      = BitVec.ofNat 32 (j.val / 64) := by decide +kernel

theorem head_number : ∀ (d : Fin 2) (g : Fin 8) (q : Fin 4),
    IntOp.addi (IntOp.addi (IntOp.muli (BitVec.ofNat 32 d.val) 32#32) (IntOp.muli (BitVec.ofNat 32 g.val) 4#32)) (BitVec.ofNat 32 q.val)
      = BitVec.ofNat 32 (32 * d.val + 4 * g.val + q.val) := by decide +kernel

/-- An entry of a table: one at the head's row, zero elsewhere. -/
theorem cell (d : Fin 2) (g : Fin 8) (q k : ℕ) (hq : q < 4) (hk : k < 128) :
    (FloatOps.uitofp FTy.bf16 (IntOp.cmpi CmpIPredicate.eq (BitVec.ofNat 32 k)
      (IntOp.addi (IntOp.addi (IntOp.muli (BitVec.ofNat 32 d.val) 32#32) (IntOp.muli (BitVec.ofNat 32 g.val) 4#32)) (BitVec.ofNat 32 q))) : Ideal .bf16)
      = if k = 32 * d.val + 4 * g.val + q then (1 : EReal) else 0 := by
  rw [head_number d g ⟨q, hq⟩]
  show ((((IntOp.cmpi CmpIPredicate.eq (BitVec.ofNat 32 k) (BitVec.ofNat 32 (32 * d.val + 4 * g.val + q))).toNat : ℝ)) : EReal) = _
  by_cases h : k = 32 * d.val + 4 * g.val + q
  · rw [if_pos h, h]
    simp [IntOp.cmpi]
  · have hne : BitVec.ofNat 32 k ≠ BitVec.ofNat 32 (32 * d.val + 4 * g.val + q) := by
      intro he
      have := congrArg BitVec.toNat he
      simp only [BitVec.toNat_ofNat] at this
      rw [Nat.mod_eq_of_lt (by omega), Nat.mod_eq_of_lt (by omega)] at this
      exact h this
    rw [if_neg h]
    simp [IntOp.cmpi, hne]

theorem table_wide (d : Fin 2) (g : Fin 8) (k : Fin 384) (j : Fin 512) :
    ((V m c main_v51 : Vec Ideal S2x8x384x512 .bf16) (ix4 d g k j) : EReal) = if k.val % 128 = 32 * d.val + 4 * g.val + j.val / 128 then (1 : EReal) else 0 := by
  unfold V
  simp only [List.flatten_cons, List.flatten_nil, List.append_nil]
  after_reads_at
  after_reads_at
  simp only [floor_128 j]
  by_cases h1 : k.val < 128
  · rw [dif_pos h1, show k.val % 128 = k.val by omega]
    exact cell d g _ _ (by omega) h1
  · rw [dif_neg h1]
    by_cases h2 : k.val - 128 < 128
    · rw [dif_pos h2, show k.val % 128 = k.val - 128 by omega]
      exact cell d g _ _ (by omega) h2
    · rw [dif_neg h2, show k.val % 128 = k.val - 128 - 128 by omega]
      exact cell d g _ _ (by omega) (by omega)

theorem table_steps (d : Fin 2) (g : Fin 8) (k j : Fin 256) :
    ((V m c main_v52 : Vec Ideal S2x8x256x256 .bf16) (ix4 d g k j) : EReal) = if k.val % 128 = 32 * d.val + 4 * g.val + j.val / 64 then (1 : EReal) else 0 := by
  unfold V
  simp only [List.flatten_cons, List.flatten_nil, List.append_nil]
  after_reads_at
  try after_reads_at
  simp only [floor_64 j]
  by_cases h1 : k.val < 128
  · rw [dif_pos h1, show k.val % 128 = k.val by omega]
    exact cell d g _ _ (by omega) h1
  · rw [dif_neg h1, show k.val % 128 = k.val - 128 by omega]
    exact cell d g _ _ (by omega) (by omega)

end Cert.Proof.Block
-- ==== Proof.Points.lean ====
module

public import proofs.«01_k».proof.Proof.Windows
public import proofs.«01_k».proof.Proof.HostArrays

@[expose] public section

set_option maxRecDepth 16384

noncomputable section

/-! The kernel's results, by the recurrence over the chunks. -/

namespace Cert.Proof.Block

open Cert.KernelIdeal Cert.KernelIdeal.Gen Idealize.ShloMosaic Idealize.ShloMosaic.TcCoe Idealize.SL.Sem
open Cert.Proof.Spec

variable (m : (ℓ : Loc nD τ sig) → Buf (Elt Ideal) ℓ) (c : Dev nD)

/-- The kernel's arguments, by their indices. -/
def argX (i : Fin 4) (t : Fin 4352) (j : Fin 4096) : EReal := m ((c : Thread nD τ).loc main_arg0) (ix3 i t j)
def argP (i : Fin 4) (t : Fin 4352) (j : Fin 6272) : EReal := m ((c : Thread nD τ).loc main_arg1) (ix3 i t j)
def argB (d : Fin 2) (h : Fin 32) : EReal := m ((c : Thread nD τ).loc main_arg2) (ix2 d h)
def argA (d : Fin 2) (h : Fin 32) : EReal := m ((c : Thread nD τ).loc main_arg3) (ix2 d h)

theorem tables (t : Fin cfg0.N) : Tables (iblk m c 6 t : Vec Ideal S2x8x384x512 .bf16) (iblk m c 7 t : Vec Ideal S2x8x256x256 .bf16) :=
  ⟨fun d g k j => (read_6 m c t d g k j).trans (table_wide m c d g k j), fun d g k j => (read_7 m c t d g k j).trans (table_steps m c d g k j)⟩

/-- The step a point runs. -/
def step (t : Fin cfg0.N) : ℕ := t.val % 34

/-- A direction's windows at a point. -/
def tokensOf (d : Fin 2) (t : Fin cfg0.N) : Vec Ideal S1x128x4096 .bf16 := if d = 0 then iblk m c 0 t else iblk m c 2 t
def projOf (d : Fin 2) (t : Fin cfg0.N) : Vec Ideal S1x128x128 .bf16 := if d = 0 then iblk m c 1 t else iblk m c 3 t

theorem tokensOf_apply (d : Fin 2) (t : Fin cfg0.N) (r : Fin 128) (j : Fin 4096) :
    tokensOf m c d t (ix3 0 r j) = argX m c (sample t) (tok d (step t) r) j := by
  match d with
  | 0 => exact read_0 m c t r j
  | 1 => exact read_2 m c t r j

theorem projOf_apply (d : Fin 2) (t : Fin cfg0.N) (r : Fin 128) (l : Fin 128) :
    projOf m c d t (ix3 0 r l) = argP m c (sample t) (tok d (step t) r) ⟨6144 + l.val, by omega⟩ := by
  match d with
  | 0 => exact read_1 m c t r l
  | 1 => exact read_3 m c t r l

theorem stepOf_point (d : Fin 2) (t : Fin cfg0.N) (g : Fin 8) (r : Fin 128) (e : Fin 4) :
    stepOf (projOf m c d t) (iblk m c 4 t) r (headCol d g e) = dtAt (argP m c) (argB m c) d (sample t) g (step t) r e := by
  unfold stepOf dtAt
  rw [projOf_apply, read_4, bias_row]
  rfl

theorem sumOf_point (d : Fin 2) (t : Fin cfg0.N) (g : Fin 8) (r : Fin 128) (e : Fin 4) :
    sumOf d (projOf m c d t) (iblk m c 4 t) (iblk m c 5 t) r (headCol d g e) = cumAt (argP m c) (argB m c) (argA m c) d (sample t) g (step t) r e := by
  unfold sumOf cumAt
  congr 1
  funext k
  rw [stepOf_point, read_5, rate_row]
  rfl

theorem inX_point (d : Fin 2) (t : Fin cfg0.N) (g : Fin 8) : inX (tokensOf m c d t) g = xAt (argX m c) d (sample t) g (step t) := by
  funext r j
  exact tokensOf_apply m c d t r _

theorem inB_point (d : Fin 2) (t : Fin cfg0.N) (g : Fin 8) : inB (tokensOf m c d t) g = bAt (argX m c) d (sample t) g (step t) := by
  funext r j
  exact tokensOf_apply m c d t r _

theorem inC_point (d : Fin 2) (t : Fin cfg0.N) (g : Fin 8) : inC (tokensOf m c d t) g = cAt (argX m c) d (sample t) g (step t) := by
  funext r j
  exact tokensOf_apply m c d t r _

theorem chunkOf_point (d : Fin 2) (t : Fin cfg0.N) (g : Fin 8) (S : Fin 128 → Fin 256 → EReal)
    (hS : S = carriedTo (argX m c) (argP m c) (argB m c) (argA m c) d (sample t) g (step t)) (r : Fin 128) (j : Fin 256) :
    chunkOf d (tokensOf m c d t) (projOf m c d t) (iblk m c 4 t) (iblk m c 5 t) g S r j
      = yAt (argX m c) (argP m c) (argB m c) (argA m c) d (sample t) g (step t) r j := by
  unfold chunkOf yAt
  rw [inX_point, inB_point, inC_point, hS]
  simp only [stepOf_point, sumOf_point]

theorem nextOf_point (d : Fin 2) (t : Fin cfg0.N) (g : Fin 8) (S : Fin 128 → Fin 256 → EReal)
    (hS : S = carriedTo (argX m c) (argP m c) (argB m c) (argA m c) d (sample t) g (step t)) (n : Fin 128) (j : Fin 256) :
    nextOf d (tokensOf m c d t) (projOf m c d t) (iblk m c 4 t) (iblk m c 5 t) g S n j
      = carriedTo (argX m c) (argP m c) (argB m c) (argA m c) d (sample t) g (step t + 1) n j := by
  unfold nextOf carriedTo
  rw [inX_point, inB_point, hS]
  simp only [stepOf_point, sumOf_point]

/-- The state after a point. -/
theorem state_point (d : Fin 2) (g : Fin 8) (n : Fin 128) (j : Fin 256) : ∀ (k : ℕ) (hk : k < cfg0.N),
    (outsAt0 m c k hk).2.2 (ix4 d g n j) = carriedTo (argX m c) (argP m c) (argB m c) (argA m c) d (sample ⟨k, hk⟩) g (step ⟨k, hk⟩ + 1) n j := by
  intro k
  induction k using Nat.strong_induction_on generalizing n j with
  | _ k ih =>
    intro hk
    by_cases h0 : k % 34 = 0
    · rw [show outsAt0 m c k hk = _ from outsAt0_A m c ⟨k, hk⟩ h0]
      dsimp only
      rw [first_state (T := tables m c ⟨k, hk⟩)]
      refine nextOf_point m c d ⟨k, hk⟩ g _ ?_ n j
      show _ = carriedTo _ _ _ _ d _ g (k % 34)
      rw [h0]
      rfl
    · rw [show outsAt0 m c k hk = _ from outsAt0_B m c ⟨k, hk⟩ h0]
      dsimp only
      rw [later_state (T := tables m c ⟨k, hk⟩)]
      refine nextOf_point m c d ⟨k, hk⟩ g _ ?_ n j
      funext n j
      rw [ih (k - 1) (by omega) n j (by omega)]
      have hs : sample (⟨k - 1, by omega⟩ : Fin cfg0.N) = sample ⟨k, hk⟩ := Fin.ext (show (k - 1) / 34 = k / 34 by omega)
      have ht : step (⟨k - 1, by omega⟩ : Fin cfg0.N) + 1 = step ⟨k, hk⟩ := show (k - 1) % 34 + 1 = k % 34 by omega
      rw [hs, ht]

/-- The state before a point that is not a sample's first. -/
theorem state_before (d : Fin 2) (g : Fin 8) (t : Fin cfg0.N) (h0 : ¬ t.val % 34 = 0) (h : t.val - 1 < cfg0.N) :
    (fun n j => (outsAt0 m c (t.val - 1) h).2.2 (ix4 d g n j)) = carriedTo (argX m c) (argP m c) (argB m c) (argA m c) d (sample t) g (step t) := by
  funext n j
  rw [state_point]
  have hs : sample (⟨t.val - 1, h⟩ : Fin cfg0.N) = sample t := Fin.ext (show (t.val - 1) / 34 = t.val / 34 by omega)
  have ht : step (⟨t.val - 1, h⟩ : Fin cfg0.N) + 1 = step t := show (t.val - 1) % 34 + 1 = t.val % 34 by omega
  rw [hs, ht]

theorem forward_point (t : Fin cfg0.N) (g : Fin 8) (r : Fin 128) (j : Fin 256) :
    (outsAt0 m c t.val t.isLt).1 (ix3 (0 : Fin 1) r (⟨256 * g.val + j.val, by omega⟩ : Fin 2048))
      = yAt (argX m c) (argP m c) (argB m c) (argA m c) 0 (sample t) g (step t) r j := by
  by_cases h0 : t.val % 34 = 0
  · rw [outsAt0_A m c t h0]
    dsimp only
    rw [first_forward (T := tables m c t)]
    refine chunkOf_point m c 0 t g _ ?_ r j
    rw [show step t = 0 from h0]
    rfl
  · rw [outsAt0_B m c t h0]
    dsimp only
    rw [later_forward (T := tables m c t)]
    exact chunkOf_point m c 0 t g _ (state_before m c 0 g t h0 _) r j

theorem backward_point (t : Fin cfg0.N) (g : Fin 8) (r : Fin 128) (j : Fin 256) :
    (outsAt0 m c t.val t.isLt).2.1 (ix3 (0 : Fin 1) r (⟨256 * g.val + j.val, by omega⟩ : Fin 2048))
      = yAt (argX m c) (argP m c) (argB m c) (argA m c) 1 (sample t) g (step t) r j := by
  by_cases h0 : t.val % 34 = 0
  · rw [outsAt0_A m c t h0]
    dsimp only
    rw [first_backward (T := tables m c t)]
    refine chunkOf_point m c 1 t g _ ?_ r j
    rw [show step t = 0 from h0]
    rfl
  · rw [outsAt0_B m c t h0]
    dsimp only
    rw [later_backward (T := tables m c t)]
    exact chunkOf_point m c 1 t g _ (state_before m c 1 g t h0 _) r j

/-- The point that runs step `s` of sample `i`. -/
def point (i : Fin 4) (s : Fin 34) : Fin cfg0.N := ⟨34 * i.val + s.val, by have h : cfg0.N = 136 := N_0; omega⟩

theorem sample_point (i : Fin 4) (s : Fin 34) : sample (point i s) = i := Fin.ext (show (34 * i.val + s.val) / 34 = i.val by omega)
theorem step_point (i : Fin 4) (s : Fin 34) : step (point i s) = s.val := show (34 * i.val + s.val) % 34 = s.val by omega

/-- The forward result. -/
theorem result_forward (i : Fin 4) (s : Fin 34) (g : Fin 8) (r : Fin 128) (j : Fin 256) :
    ((dats m 0 c).arrAt 8 cfg0.N : Vec Ideal S4x4352x2048 .bf16) (ix3 i (tok 0 s.val r) ⟨256 * g.val + j.val, by omega⟩)
      = yAt (argX m c) (argP m c) (argB m c) (argA m c) 0 i g s.val r j := by
  have h := congrFun (Cert.KernelIdeal.Value.blocks8 m c (point i s) (flush0_8 _)) (ix3 (0 : Fin 1) r (⟨256 * g.val + j.val, by omega⟩ : Fin 2048))
  rw [Cert.KernelIdeal.Value.flushed8] at h
  have e : (outsAt0 m c (point i s).val (point i s).isLt).1 (ix3 (0 : Fin 1) r (⟨256 * g.val + j.val, by omega⟩ : Fin 2048)) = _ := forward_point m c (point i s) g r j
  rw [sample_point, step_point] at e
  refine Eq.trans ?_ (h.trans ?_)
  · rw [View.read_apply]
    congr 1
    obtain ⟨h0, h1, h2⟩ := (idx_forward (point i s)).2.2
    have hs : (point i s).val / 34 = i.val := congrArg Fin.val (sample_point i s)
    have ht : (point i s).val % 34 = s.val := step_point i s
    funext a
    apply Fin.ext
    match a with
    | ⟨0, _⟩ => show i.val = win0_8.index (point i s) 0 * 1 + 1 * 0; rw [h0]; omega
    | ⟨1, _⟩ => show (tok 0 s.val r).val = win0_8.index (point i s) 1 * 128 + 1 * r.val; rw [h1, tok_val _ _ _ s.isLt]; unfold blk; rw [if_pos rfl]; omega
    | ⟨2, _⟩ => show 256 * g.val + j.val = win0_8.index (point i s) 2 * 2048 + 1 * (256 * g.val + j.val); rw [h2]; omega
  · exact e

/-- The backward result. -/
theorem result_backward (i : Fin 4) (s : Fin 34) (g : Fin 8) (r : Fin 128) (j : Fin 256) :
    ((dats m 0 c).arrAt 9 cfg0.N : Vec Ideal S4x4352x2048 .bf16) (ix3 i (tok 1 s.val r) ⟨256 * g.val + j.val, by omega⟩)
      = yAt (argX m c) (argP m c) (argB m c) (argA m c) 1 i g s.val r j := by
  have h := congrFun (Cert.KernelIdeal.Value.blocks9 m c (point i s) (flush0_9 _)) (ix3 (0 : Fin 1) r (⟨256 * g.val + j.val, by omega⟩ : Fin 2048))
  rw [Cert.KernelIdeal.Value.flushed9] at h
  have e : (outsAt0 m c (point i s).val (point i s).isLt).2.1 (ix3 (0 : Fin 1) r (⟨256 * g.val + j.val, by omega⟩ : Fin 2048)) = _ := backward_point m c (point i s) g r j
  rw [sample_point, step_point] at e
  refine Eq.trans ?_ (h.trans ?_)
  · rw [View.read_apply]
    congr 1
    obtain ⟨h0, h1, h2⟩ := (idx_backward (point i s)).2.2
    have hs : (point i s).val / 34 = i.val := congrArg Fin.val (sample_point i s)
    have ht : (point i s).val % 34 = s.val := step_point i s
    rw [ht] at h1
    funext a
    apply Fin.ext
    match a with
    | ⟨0, _⟩ => show i.val = win0_9.index (point i s) 0 * 1 + 1 * 0; rw [h0]; omega
    | ⟨1, _⟩ => show (tok 1 s.val r).val = win0_9.index (point i s) 1 * 128 + 1 * r.val; rw [h1, tok_val _ _ _ s.isLt]; omega
    | ⟨2, _⟩ => show 256 * g.val + j.val = win0_9.index (point i s) 2 * 2048 + 1 * (256 * g.val + j.val); rw [h2]; omega
  · exact e

end Cert.Proof.Block
-- ==== Proof.RefPost.lean ====
module

public import proofs.«01_k».proof.Proof.Gen.ReferenceIdeal.Run
public import Idealize.ShloMosaic.Lib.StableHlo.ReadAt
public import proofs.«01_k».proof.Proof.Spec

@[expose] public section

set_option maxRecDepth 16384

noncomputable section

/-! The reference's lines after its loop, read at an index. -/

namespace Cert.Proof.Ref

open Cert.ReferenceIdeal Cert.ReferenceIdeal.Gen Idealize.ShloMosaic Idealize.ShloMosaic.TcCoe Idealize.SL.Sem
open Cert.ReferenceIdeal.Value
open Idealize.ShloMosaic.StableHlo

variable (W : Valuation τ sig (Elt Ideal))

/-- Row `r` of the reference's causal mask keeps the rows up to its own. -/
theorem tril_bit : ∀ r k : Fin 128,
    Scalar.select (IntOp.cmpi CmpIPredicate.sge (IntOp.addi (BitVec.ofNat 32 r.val) (0#32 : BitVec 32)) (BitVec.ofNat 32 k.val)) (1#1 : BitVec 1)
      (0#1 : BitVec 1) = if k ≤ r then (1#1 : BitVec 1) else 0#1 := by
  decide +kernel

/-- The masked entry: the value itself up to the row, minus infinity after it. -/
theorem tril_entry (r k : ℕ) (hr : r < 128) (hk : k < 128) (x : EReal) :
    (Scalar.select (Scalar.select (IntOp.cmpi CmpIPredicate.sge (IntOp.addi (BitVec.ofNat 32 r) (0#32 : BitVec 32)) (BitVec.ofNat 32 k)) (1#1 : BitVec 1)
      (0#1 : BitVec 1)) x (constant (F := Ideal) S_ FTy.f32 (4286578688#32 : BitVec 32) ix0) : EReal) = if k ≤ r then x else ⊥ := by
  have h := tril_bit ⟨r, hr⟩ ⟨k, hk⟩
  dsimp only at h
  rw [h]
  have hb : constant (F := Ideal) S_ FTy.f32 (4286578688#32 : BitVec 32) ix0 = ⊥ := by
    show Ideal.ofBits .f32 (0xFF800000#32 : BitVec 32) = ⊥
    simp [Ideal.ofBits, Ideal.ieee]
  rw [hb]
  by_cases hkr : k ≤ r
  · rw [if_pos (show (⟨k, hk⟩ : Fin 128) ≤ ⟨r, hr⟩ from hkr), if_pos hkr]; rfl
  · rw [if_neg (show ¬ (⟨k, hk⟩ : Fin 128) ≤ ⟨r, hr⟩ from hkr), if_neg hkr]; rfl

/-- The arrays the reference's last lines read, by their indices. -/
def xdtOf (q : Fin 8) (s : Fin 34) (r : Fin 128) (g : Fin 8) (e : Fin 4) (p : Fin 64) : EReal := W (Proc.devRef .tc main_v75) (ix6 q s r g e p)
def bOf (q : Fin 8) (s : Fin 34) (r : Fin 128) (g : Fin 8) (n : Fin 128) : EReal := W (Proc.devRef .tc main_v76) (ix5 q s r g n)
def cOf (q : Fin 8) (s : Fin 34) (r : Fin 128) (g : Fin 8) (n : Fin 128) : EReal := W (Proc.devRef .tc main_v77) (ix5 q s r g n)
def cumOf (q : Fin 8) (g : Fin 8) (e : Fin 4) (s : Fin 34) (r : Fin 128) : EReal := W (Proc.devRef .tc main_v80) (ix5 q g e s r)
def stateOf (s : Fin 34) (q : Fin 8) (g : Fin 8) (e : Fin 4) (p : Fin 64) (n : Fin 128) : EReal := W (Proc.devRef .tc main_v96_4) (ix6 s q g e p n)

/-- One output of a chunk, from what the loop left: sequence `q`, chunk `s`, row `r`, group `g`, head `e`, column `p`. -/
def outAt (q : Fin 8) (s : Fin 34) (r : Fin 128) (g : Fin 8) (e : Fin 4) (p : Fin 64) : EReal :=
  (∑ k : Fin 128, xdtOf W q s k g e p * ((∑ n : Fin 128, cOf W q s r g n * bOf W q s k g n) *
      Ideal.exp (if k.val ≤ r.val then cumOf W q g e s r - cumOf W q g e s k else ⊥))) +
  (∑ n : Fin 128, stateOf W s q g e p n * cOf W q s r g n) * Ideal.exp (cumOf W q g e s r)

theorem post_forward (i : Fin 4) (t : Fin 4352) (j : Fin 2048) :
    ((afterL postI W (Proc.devRef .tc main_v124) : Vec Ideal S4x4352x2048 .bf16) (ix3 i t j) : EReal) =
      outAt W ⟨i.val, by omega⟩ ⟨t.val / 128, by omega⟩ ⟨t.val % 128, by omega⟩ ⟨j.val / 256, by omega⟩ ⟨j.val / 64 % 4, by omega⟩
        ⟨j.val % 64, by omega⟩ := by
  simp only [List.flatten_cons, List.flatten_nil, List.append_nil, afterL_cons, afterL_nil]
  after_reads_at
  unfold outAt
  refine congrArg₂ (· + ·) (Finset.sum_congr rfl fun k _ => ?_) rfl
  refine congrArg₂ (· * ·) rfl (congrArg₂ (· * ·) rfl (congrArg Ideal.exp ?_))
  exact tril_entry (t.val % 128) k.val (by omega) k.isLt _

/-- A token's place in the backward walk, which is its own inverse: the first 256 tokens reversed, then the rest reversed. -/
def flip (t : ℕ) : ℕ := if t < 256 then 255 - t else 4607 - t

theorem flip_lt {t : ℕ} (h : t < 4352) : flip t < 4352 := by
  unfold flip
  split <;> omega

theorem outAt_congr {q q' : Fin 8} {s s' : Fin 34} {r r' : Fin 128} (g : Fin 8) (e : Fin 4) (p : Fin 64) (hq : q.val = q'.val)
    (hs : s.val = s'.val) (hr : r.val = r'.val) : outAt W q s r g e p = outAt W q' s' r' g e p := by
  rw [Fin.ext hq, Fin.ext hs, Fin.ext hr]

theorem post_backward (i : Fin 4) (t : Fin 4352) (j : Fin 2048) :
    ((afterL postI W (Proc.devRef .tc main_v132) : Vec Ideal S4x4352x2048 .bf16) (ix3 i t j) : EReal) =
      outAt W ⟨4 + i.val, by omega⟩ ⟨flip t.val / 128, by have := flip_lt t.isLt; omega⟩ ⟨flip t.val % 128, by omega⟩ ⟨j.val / 256, by omega⟩
        ⟨j.val / 64 % 4, by omega⟩ ⟨j.val % 64, by omega⟩ := by
  simp only [List.flatten_cons, List.flatten_nil, List.append_nil, afterL_cons, afterL_nil]
  after_reads_at
  by_cases h : t.val < 256
  · rw [dif_pos h]
    after_reads_at
    simp only [List.mem_singleton, Fin.reduceEq, reduceIte, Fin.rev]
    refine Eq.trans ?_ (outAt_congr (q := ⟨4 + i.val, by omega⟩) (s := ⟨(256 - (t.val + 1)) / 128, by omega⟩) (r := ⟨(256 - (t.val + 1)) % 128, by omega⟩) W _ _ _
      rfl (by simp only [flip, if_pos h]; omega) (by simp only [flip, if_pos h]; omega))
    unfold outAt
    refine congrArg₂ (· + ·) (Finset.sum_congr rfl fun k _ => ?_) rfl
    refine congrArg₂ (· * ·) rfl (congrArg₂ (· * ·) rfl (congrArg Ideal.exp ?_))
    exact tril_entry ((256 - (t.val + 1)) % 128) k.val (by omega) k.isLt _
  · rw [dif_neg h]
    after_reads_at
    simp only [List.mem_singleton, Fin.reduceEq, reduceIte, Fin.rev]
    refine Eq.trans ?_ (outAt_congr (q := ⟨4 + i.val, by omega⟩) (s := ⟨(256 + (4096 - (t.val - 256 + 1))) / 128, by omega⟩) (r := ⟨(256 + (4096 - (t.val - 256 + 1))) % 128, by omega⟩) W _ _ _
      rfl (by simp only [flip, if_neg h]; omega) (by simp only [flip, if_neg h]; omega))
    unfold outAt
    refine congrArg₂ (· + ·) (Finset.sum_congr rfl fun k _ => ?_) rfl
    refine congrArg₂ (· * ·) rfl (congrArg₂ (· * ·) rfl (congrArg Ideal.exp ?_))
    exact tril_entry ((256 + (4096 - (t.val - 256 + 1))) % 128) k.val (by omega) k.isLt _

end Cert.Proof.Ref
-- ==== Proof.RefWindow.lean ====
module

public import proofs.«01_k».proof.Proof.RefPost

@[expose] public section

set_option maxRecDepth 16384

noncomputable section

/-! The reference's running sums: a window of 128 entries that ends at the row. -/

namespace Cert.Proof.Ref

open Cert.ReferenceIdeal Cert.ReferenceIdeal.Gen Idealize.ShloMosaic Idealize.ShloMosaic.TcCoe Idealize.SL.Sem

theorem foldl_sum {N : ℕ} (f : Fin N → EReal) (v : EReal) : (List.finRange N).foldl (fun r n => r + f n) v = v + ∑ n, f n := by
  have h : ∀ (l : List (Fin N)) (w : EReal), l.foldl (fun r n => r + f n) w = w + (l.map f).sum := by
    intro l
    induction l with
    | nil => intro w; simp
    | cons a l ih => intro w; rw [List.foldl_cons, ih, List.map_cons, List.sum_cons, add_assoc]
  rw [h, Fin.sum_univ_def]

/-- The window's shape. -/
abbrev Win : Shape := ⟨5, ![1, 1, 1, 1, 128]⟩

def winEquiv : Fin 128 ≃ Win.Idx where
  toFun l := ix5 0 0 0 0 l
  invFun i := i 4
  left_inv _ := rfl
  right_inv i := by
    funext a
    match a with
    | 0 => exact Subsingleton.elim (α := Fin 1) _ _
    | 1 => exact Subsingleton.elim (α := Fin 1) _ _
    | 2 => exact Subsingleton.elim (α := Fin 1) _ _
    | 3 => exact Subsingleton.elim (α := Fin 1) _ _
    | 4 => rfl

theorem shifted_sum (f : Fin 128 → EReal) (r : Fin 128) :
    (∑ l : Fin 128, if h : 127 ≤ r.val + l.val then f ⟨r.val + l.val - 127, by omega⟩ else 0) = ∑ k : Fin 128, if k.val ≤ r.val then f k else 0 := by
  have h1 : ∀ l : Fin 128, (if h : 127 ≤ r.val + l.val then f ⟨r.val + l.val - 127, by omega⟩ else 0)
      = if 127 ≤ r.val + l.val then f (Fin.ofNat 128 (r.val + l.val - 127)) else 0 := by
    intro l
    by_cases h : 127 ≤ r.val + l.val
    · rw [dif_pos h, if_pos h]
      exact congrArg f (Fin.ext (Nat.mod_eq_of_lt (by omega)).symm)
    · rw [dif_neg h, if_neg h]
  rw [Finset.sum_congr rfl fun l _ => h1 l, ← Finset.sum_filter, ← Finset.sum_filter]
  refine Finset.sum_nbij' (fun l => Fin.ofNat 128 (r.val + l.val - 127)) (fun k => Fin.ofNat 128 (k.val + 127 - r.val)) ?_ ?_ ?_ ?_ ?_
  · intro l hl
    have := (Finset.mem_filter.mp hl).2
    refine Finset.mem_filter.mpr ⟨Finset.mem_univ _, ?_⟩
    show (r.val + l.val - 127) % 128 ≤ r.val
    rw [Nat.mod_eq_of_lt (by omega)]
    omega
  · intro k hk
    have := (Finset.mem_filter.mp hk).2
    refine Finset.mem_filter.mpr ⟨Finset.mem_univ _, ?_⟩
    show 127 ≤ r.val + (k.val + 127 - r.val) % 128
    rw [Nat.mod_eq_of_lt (by omega)]
    omega
  · intro l hl
    have := (Finset.mem_filter.mp hl).2
    refine Fin.ext ?_
    show ((r.val + l.val - 127) % 128 + 127 - r.val) % 128 = l.val
    rw [Nat.mod_eq_of_lt (a := r.val + l.val - 127) (by omega), Nat.mod_eq_of_lt (by omega)]
    omega
  · intro k hk
    have := (Finset.mem_filter.mp hk).2
    refine Fin.ext ?_
    show (r.val + (k.val + 127 - r.val) % 128 - 127) % 128 = k.val
    rw [Nat.mod_eq_of_lt (a := k.val + 127 - r.val) (by omega), Nat.mod_eq_of_lt (by omega)]
    omega
  · intro l _
    rfl

theorem window_sum (x : FVec Ideal S8x8x4x34x128 .f32) (init : FVec Ideal S_ .f32) (h0 : init ix0 = (0 : EReal))
    (h : S8x8x4x34x128.ReduceWindows ![1, 1, 1, 1, 128] ![1, 1, 1, 1, 1] ![0, 0, 0, 0, 127] ![0, 0, 0, 0, 0] S8x8x4x34x128) (hu : 0 < S_.numel)
    (q : Fin 8) (g : Fin 8) (e : Fin 4) (s : Fin 34) (r : Fin 128) :
    (Host.reduceWindowAdd ![1, 1, 1, 1, 128] ![1, 1, 1, 1, 1] ![0, 0, 0, 0, 127] ![0, 0, 0, 0, 0] x init h hu (ix5 q g e s r) : EReal) =
      ∑ k : Fin 128, if k.val ≤ r.val then (x (ix5 q g e s k) : EReal) else 0 := by
  have hi : init (Shape.Idx.first hu) = (0 : EReal) := by
    rw [show Shape.Idx.first hu = ix0 from funext fun a => a.elim0]
    exact h0
  rw [← shifted_sum (fun k => x (ix5 q g e s k)) r]
  unfold Host.reduceWindowAdd
  rw [Idealize.ShloMosaic.Ideal.hostReduceWindowAdd_def]
  unfold Ideal.hostReduceWindowAdd Host.reduceWindow
  dsimp only
  rw [foldl_sum, hi, zero_add]
  refine (Equiv.sum_comp (winEquiv.trans Win.rowMajor) _).symm.trans ?_
  simp only [Equiv.trans_apply, Equiv.symm_apply_apply]
  refine Finset.sum_congr rfl fun l _ => ?_
  by_cases hl : 127 ≤ r.val + l.val
  · rw [dif_pos hl, dif_pos]
    · refine congrArg x ?_
      funext a
      match a with
      | 0 => exact Fin.ext (by show q.val * 1 + 0 - 0 = q.val; omega)
      | 1 => exact Fin.ext (by show g.val * 1 + 0 - 0 = g.val; omega)
      | 2 => exact Fin.ext (by show e.val * 1 + 0 - 0 = e.val; omega)
      | 3 => exact Fin.ext (by show s.val * 1 + 0 - 0 = s.val; omega)
      | 4 => exact Fin.ext (by show r.val * 1 + l.val - 127 = r.val + l.val - 127; omega)
    · intro a
      match a with
      | 0 => exact (by show 0 ≤ q.val * 1 + 0 ∧ q.val * 1 + 0 - 0 < 8; omega)
      | 1 => exact (by show 0 ≤ g.val * 1 + 0 ∧ g.val * 1 + 0 - 0 < 8; omega)
      | 2 => exact (by show 0 ≤ e.val * 1 + 0 ∧ e.val * 1 + 0 - 0 < 4; omega)
      | 3 => exact (by show 0 ≤ s.val * 1 + 0 ∧ s.val * 1 + 0 - 0 < 34; omega)
      | 4 => exact (by show 127 ≤ r.val * 1 + l.val ∧ r.val * 1 + l.val - 127 < 128; omega)
  · rw [dif_neg hl, dif_neg]
    intro hin
    have h4 : 127 ≤ r.val * 1 + l.val := (hin 4).1
    omega

end Cert.Proof.Ref
-- ==== Proof.RefPre.lean ====
module

public import proofs.«01_k».proof.Proof.RefWindow

@[expose] public section

set_option maxRecDepth 16384

noncomputable section

/-! The reference's lines before its loop, read at an index. -/

namespace Cert.Proof.Ref

open Cert.ReferenceIdeal Cert.ReferenceIdeal.Gen Idealize.ShloMosaic Idealize.ShloMosaic.TcCoe Idealize.SL.Sem
open Cert.ReferenceIdeal.Value
open Idealize.ShloMosaic.StableHlo

variable (m : (ℓ : Loc nD τ sig) → Buf (Elt Ideal) ℓ) (c : Dev nD)

/-- The reference's arguments, by their indices. -/
def argX (i : Fin 4) (t : Fin 4352) (j : Fin 4096) : EReal := m ((c : Thread nD τ).loc main_arg0) (ix3 i t j)
def argP (i : Fin 4) (t : Fin 4352) (j : Fin 6272) : EReal := m ((c : Thread nD τ).loc main_arg1) (ix3 i t j)
def argB (d : Fin 2) (h : Fin 32) : EReal := m ((c : Thread nD τ).loc main_arg2) (ix2 d h)
def argA (d : Fin 2) (h : Fin 32) : EReal := m ((c : Thread nD τ).loc main_arg3) (ix2 d h)

/-- The walk in direction `d` over sequence `i`, among the eight walks. -/
def walk (d : Fin 2) (i : Fin 4) : Fin 8 := ⟨4 * d.val + i.val, by omega⟩

/-- The row of a chunk that the walk in direction `d` reads as its row `r`. -/
def row (d : Fin 2) (r : Fin 128) : Fin 128 := if d = 0 then r else ⟨127 - r.val, by omega⟩

theorem tok_forward (s : Fin 34) (r : Fin 128) : (Cert.Proof.Spec.tok 0 s.val (row 0 r)).val = s.val * 128 + r.val := by
  rw [Cert.Proof.Spec.tok_val _ _ _ s.isLt]
  simp only [Cert.Proof.Spec.blk, row, if_true]
  omega

theorem tok_backward (s : Fin 34) (r : Fin 128) : (Cert.Proof.Spec.tok 1 s.val (row 1 r)).val = flip (s.val * 128 + r.val) := by
  rw [Cert.Proof.Spec.tok_val _ _ _ s.isLt]
  have := s.isLt
  simp only [Cert.Proof.Spec.blk, row, flip, show ¬ ((1 : Fin 2) = 0) by decide, if_false]
  split <;> split <;> omega

theorem argX_congr {i i' : Fin 4} {t t' : Fin 4352} {j j' : Fin 4096} (hi : i.val = i'.val) (ht : t.val = t'.val) (hj : j.val = j'.val) :
    argX m c i t j = argX m c i' t' j' := by
  rw [Fin.ext hi, Fin.ext ht, Fin.ext hj]

theorem argP_congr {i i' : Fin 4} {t t' : Fin 4352} {j j' : Fin 6272} (hi : i.val = i'.val) (ht : t.val = t'.val) (hj : j.val = j'.val) :
    argP m c i t j = argP m c i' t' j' := by
  rw [Fin.ext hi, Fin.ext ht, Fin.ext hj]

theorem argB_congr {d : Fin 2} {h h' : Fin 32} (hh : h.val = h'.val) : argB m c d h = argB m c d h' := by
  rw [Fin.ext hh]

theorem argA_congr {d : Fin 2} {h h' : Fin 32} (hh : h.val = h'.val) : argA m c d h = argA m c d h' := by
  rw [Fin.ext hh]

theorem softplus_ref (v : EReal) :
    (if v ≠ v then v else max v 0 + Ideal.log1p (Ideal.exp (-(FloatOps.absf v : Ideal .f32)))) = Cert.Proof.Spec.softplus v := by
  rw [if_neg (by simp)]
  rfl

abbrev entry : Valuation τ sig (Elt Ideal) := entryContents preI m c

section Stages

variable (W : Valuation τ sig (Elt Ideal))

theorem last_states (s : Fin 34) (q : Fin 8) (g : Fin 8) (e : Fin 4) (p : Fin 64) (n : Fin 128) :
    ((after hostOps0_22 W (Proc.devRef .tc main_v96_0) : Vec Ideal S34x8x8x4x64x128 .f32) (ix6 s q g e p n) : EReal) =
      ∑ r : Fin 128, (Ideal.exp (cumOf W q g e s 127 - cumOf W q g e s r) * xdtOf W q s r g e p) * bOf W q s r g n := by
  after_reads_at
  simp only [id_eq]
  pointwise
  rfl

theorem last_decay (s : Fin 34) (q : Fin 8) (g : Fin 8) (e : Fin 4) :
    ((after hostOps0_22 W (Proc.devRef .tc main_v96_1) : Vec Ideal S34x8x8x4 .f32) (ix4 s q g e) : EReal) =
      Ideal.exp (cumOf W q g e s 127) := by
  after_reads_at
  simp only [id_eq]
  rfl

theorem last_cum (q : Fin 8) (g : Fin 8) (e : Fin 4) (s : Fin 34) (r : Fin 128) :
    cumOf (after hostOps0_22 W) q g e s r = cumOf W q g e s r := by
  unfold cumOf
  after_reads_at

theorem last_xdt (q : Fin 8) (s : Fin 34) (r : Fin 128) (g : Fin 8) (e : Fin 4) (p : Fin 64) :
    xdtOf (after hostOps0_22 W) q s r g e p = xdtOf W q s r g e p := by
  unfold xdtOf
  after_reads_at

theorem last_b (q : Fin 8) (s : Fin 34) (r : Fin 128) (g : Fin 8) (n : Fin 128) :
    bOf (after hostOps0_22 W) q s r g n = bOf W q s r g n := by
  unfold bOf
  after_reads_at

/-- The log decays, chunk by chunk. -/
def ratesOf (q : Fin 8) (g : Fin 8) (e : Fin 4) (s : Fin 34) (k : Fin 128) : EReal := W (Proc.devRef .tc main_v79) (ix5 q g e s k)

/-- The log decays, by token of the walk. -/
def ldOf (q : Fin 8) (t : Fin 4352) (g : Fin 8) (e : Fin 4) : EReal := W (Proc.devRef .tc main_v62) (ix4 q t g e)

theorem sums_at (q : Fin 8) (g : Fin 8) (e : Fin 4) (s : Fin 34) (r : Fin 128) :
    cumOf (after hostOps0_21 W) q g e s r =
      ∑ k : Fin 128, if k.val ≤ r.val then ratesOf W q g e s k else 0 := by
  unfold cumOf
  after_reads_at
  refine window_sum _ _ ?_ _ _ q g e s r
  pointwise

theorem rates_at (q : Fin 8) (g : Fin 8) (e : Fin 4) (s : Fin 34) (r : Fin 128) :
    ratesOf (after hostOps0_20 W) q g e s r = ldOf W q ⟨s.val * 128 + r.val, by omega⟩ g e := by
  unfold ratesOf ldOf
  after_reads_at

end Stages

theorem c_forward (i : Fin 4) (s : Fin 34) (r : Fin 128) (g : Fin 8) (n : Fin 128) :
    cOf (entry m c) (walk 0 i) s r g n = Cert.Proof.Spec.cAt (argX m c) 0 i g s.val (row 0 r) n := by
  unfold cOf entry entryContents walk Cert.Proof.Spec.cAt
  simp only [List.flatten_cons, List.flatten_nil, List.append_nil, afterL_cons, afterL_nil]
  after_reads_at
  after_reads_at
  exact argX_congr (i := i) (t := ⟨s.val * 128 + r.val, by omega⟩) (j := ⟨3072 + (g.val * 128 + n.val), by omega⟩) m c rfl
    (tok_forward s r).symm (by show 3072 + (g.val * 128 + n.val) = 3072 + 128 * g.val + n.val; omega)

theorem c_backward (i : Fin 4) (s : Fin 34) (r : Fin 128) (g : Fin 8) (n : Fin 128) :
    cOf (entry m c) (walk 1 i) s r g n = Cert.Proof.Spec.cAt (argX m c) 1 i g s.val (row 1 r) n := by
  unfold cOf entry entryContents walk Cert.Proof.Spec.cAt
  simp only [List.flatten_cons, List.flatten_nil, List.append_nil, afterL_cons, afterL_nil]
  after_reads_at
  after_reads_at
  by_cases h : s.val * 128 + r.val < 256
  · rw [dif_pos h]
    try after_reads_at
    simp only [List.mem_singleton, Fin.reduceEq, reduceIte, Fin.rev]
    refine argX_congr (i := i) (t := ⟨256 - (s.val * 128 + r.val + 1), by omega⟩) (j := ⟨3072 + (g.val * 128 + n.val), by omega⟩) m c rfl
      ?_ (by show 3072 + (g.val * 128 + n.val) = 3072 + 128 * g.val + n.val; omega)
    rw [tok_backward]
    simp only [flip, if_pos h]
    omega
  · rw [dif_neg h]
    try after_reads_at
    simp only [List.mem_singleton, Fin.reduceEq, reduceIte, Fin.rev]
    refine argX_congr (i := i) (t := ⟨256 + (4096 - (s.val * 128 + r.val - 256 + 1)), by omega⟩) (j := ⟨3072 + (g.val * 128 + n.val), by omega⟩) m c rfl
      ?_ (by show 3072 + (g.val * 128 + n.val) = 3072 + 128 * g.val + n.val; omega)
    rw [tok_backward]
    simp only [flip, if_neg h]
    omega

theorem b_forward (i : Fin 4) (s : Fin 34) (r : Fin 128) (g : Fin 8) (n : Fin 128) :
    bOf (entry m c) (walk 0 i) s r g n = Cert.Proof.Spec.bAt (argX m c) 0 i g s.val (row 0 r) n := by
  unfold bOf entry entryContents walk Cert.Proof.Spec.bAt
  simp only [List.flatten_cons, List.flatten_nil, List.append_nil, afterL_cons, afterL_nil]
  after_reads_at
  after_reads_at
  exact argX_congr (i := i) (t := ⟨s.val * 128 + r.val, by omega⟩) (j := ⟨2048 + (g.val * 128 + n.val), by omega⟩) m c rfl
    (tok_forward s r).symm (by show 2048 + (g.val * 128 + n.val) = 2048 + 128 * g.val + n.val; omega)

theorem b_backward (i : Fin 4) (s : Fin 34) (r : Fin 128) (g : Fin 8) (n : Fin 128) :
    bOf (entry m c) (walk 1 i) s r g n = Cert.Proof.Spec.bAt (argX m c) 1 i g s.val (row 1 r) n := by
  unfold bOf entry entryContents walk Cert.Proof.Spec.bAt
  simp only [List.flatten_cons, List.flatten_nil, List.append_nil, afterL_cons, afterL_nil]
  after_reads_at
  after_reads_at
  by_cases h : s.val * 128 + r.val < 256
  · rw [dif_pos h]
    try after_reads_at
    simp only [List.mem_singleton, Fin.reduceEq, reduceIte, Fin.rev]
    refine argX_congr (i := i) (t := ⟨256 - (s.val * 128 + r.val + 1), by omega⟩) (j := ⟨2048 + (g.val * 128 + n.val), by omega⟩) m c rfl
      ?_ (by show 2048 + (g.val * 128 + n.val) = 2048 + 128 * g.val + n.val; omega)
    rw [tok_backward]
    simp only [flip, if_pos h]
    omega
  · rw [dif_neg h]
    try after_reads_at
    simp only [List.mem_singleton, Fin.reduceEq, reduceIte, Fin.rev]
    refine argX_congr (i := i) (t := ⟨256 + (4096 - (s.val * 128 + r.val - 256 + 1)), by omega⟩) (j := ⟨2048 + (g.val * 128 + n.val), by omega⟩) m c rfl
      ?_ (by show 2048 + (g.val * 128 + n.val) = 2048 + 128 * g.val + n.val; omega)
    rw [tok_backward]
    simp only [flip, if_neg h]
    omega

theorem xdt_forward (i : Fin 4) (s : Fin 34) (r : Fin 128) (g : Fin 8) (e : Fin 4) (p : Fin 64) :
    xdtOf (entry m c) (walk 0 i) s r g e p = Cert.Proof.Spec.xAt (argX m c) 0 i g s.val (row 0 r) ⟨64 * e.val + p.val, by omega⟩ *
      Cert.Proof.Spec.dtAt (argP m c) (argB m c) 0 i g s.val (row 0 r) e := by
  unfold xdtOf entry entryContents walk Cert.Proof.Spec.xAt Cert.Proof.Spec.dtAt
  simp only [List.flatten_cons, List.flatten_nil, List.append_nil, afterL_cons, afterL_nil]
  after_reads_at
  after_reads_at
  refine congrArg₂ (· * ·) (argX_congr (i := i) (t := ⟨s.val * 128 + r.val, by omega⟩) (j := ⟨g.val * 256 + e.val * 64 + p.val, by omega⟩) m c rfl
      (tok_forward s r).symm (by show g.val * 256 + e.val * 64 + p.val = 256 * g.val + (64 * e.val + p.val); omega))
    ((softplus_ref _).trans (congrArg Cert.Proof.Spec.softplus (congrArg₂ (· + ·) ?_ ?_)))
  · exact argP_congr (i := i) (t := ⟨s.val * 128 + r.val, by omega⟩) (j := ⟨6144 + (g.val * 4 + e.val), by omega⟩) m c rfl
      (tok_forward s r).symm (by show 6144 + (g.val * 4 + e.val) = 6144 + (4 * g.val + e.val); omega)
  · exact argB_congr (d := 0) (h := ⟨g.val * 4 + e.val, by omega⟩) m c (by show g.val * 4 + e.val = 4 * g.val + e.val; omega)

theorem xdt_backward (i : Fin 4) (s : Fin 34) (r : Fin 128) (g : Fin 8) (e : Fin 4) (p : Fin 64) :
    xdtOf (entry m c) (walk 1 i) s r g e p = Cert.Proof.Spec.xAt (argX m c) 1 i g s.val (row 1 r) ⟨64 * e.val + p.val, by omega⟩ *
      Cert.Proof.Spec.dtAt (argP m c) (argB m c) 1 i g s.val (row 1 r) e := by
  unfold xdtOf entry entryContents walk Cert.Proof.Spec.xAt Cert.Proof.Spec.dtAt
  simp only [List.flatten_cons, List.flatten_nil, List.append_nil, afterL_cons, afterL_nil]
  after_reads_at
  after_reads_at
  by_cases h : s.val * 128 + r.val < 256
  · rw [dif_pos h]
    try after_reads_at
    simp only [List.mem_singleton, Fin.reduceEq, reduceIte, Fin.rev]
    have ht : 256 - (s.val * 128 + r.val + 1) = (Cert.Proof.Spec.tok 1 s.val (row 1 r)).val := by
      rw [tok_backward]
      simp only [flip, if_pos h]
      omega
    refine congrArg₂ (· * ·) (argX_congr (i := i) (t := ⟨256 - (s.val * 128 + r.val + 1), by omega⟩) (j := ⟨g.val * 256 + e.val * 64 + p.val, by omega⟩) m c rfl ht
        (by show g.val * 256 + e.val * 64 + p.val = 256 * g.val + (64 * e.val + p.val); omega))
      ((softplus_ref _).trans (congrArg Cert.Proof.Spec.softplus (congrArg₂ (· + ·) ?_ ?_)))
    · exact argP_congr (i := i) (t := ⟨256 - (s.val * 128 + r.val + 1), by omega⟩) (j := ⟨6144 + (32 + (g.val * 4 + e.val)), by omega⟩) m c rfl ht
        (by show 6144 + (32 + (g.val * 4 + e.val)) = 6144 + (32 + 4 * g.val + e.val); omega)
    · exact argB_congr (d := 1) (h := ⟨g.val * 4 + e.val, by omega⟩) m c (by show g.val * 4 + e.val = 4 * g.val + e.val; omega)
  · rw [dif_neg h]
    try after_reads_at
    simp only [List.mem_singleton, Fin.reduceEq, reduceIte, Fin.rev]
    have ht : 256 + (4096 - (s.val * 128 + r.val - 256 + 1)) = (Cert.Proof.Spec.tok 1 s.val (row 1 r)).val := by
      rw [tok_backward]
      simp only [flip, if_neg h]
      omega
    refine congrArg₂ (· * ·) (argX_congr (i := i) (t := ⟨256 + (4096 - (s.val * 128 + r.val - 256 + 1)), by omega⟩) (j := ⟨g.val * 256 + e.val * 64 + p.val, by omega⟩) m c rfl ht
        (by show g.val * 256 + e.val * 64 + p.val = 256 * g.val + (64 * e.val + p.val); omega))
      ((softplus_ref _).trans (congrArg Cert.Proof.Spec.softplus (congrArg₂ (· + ·) ?_ ?_)))
    · exact argP_congr (i := i) (t := ⟨256 + (4096 - (s.val * 128 + r.val - 256 + 1)), by omega⟩) (j := ⟨6144 + (32 + (g.val * 4 + e.val)), by omega⟩) m c rfl ht
        (by show 6144 + (32 + (g.val * 4 + e.val)) = 6144 + (32 + 4 * g.val + e.val); omega)
    · exact argB_congr (d := 1) (h := ⟨g.val * 4 + e.val, by omega⟩) m c (by show g.val * 4 + e.val = 4 * g.val + e.val; omega)

/-- A token's log decay. -/
def rateOf (d : Fin 2) (i : Fin 4) (g : Fin 8) (s : ℕ) (k : Fin 128) (e : Fin 4) : EReal :=
  Cert.Proof.Spec.dtAt (argP m c) (argB m c) d i g s k e * -Ideal.exp (argA m c d (Cert.Proof.Spec.head g e))

theorem cum_forward (i : Fin 4) (s : Fin 34) (r : Fin 128) (g : Fin 8) (e : Fin 4) :
    cumOf (entry m c) (walk 0 i) g e s r = ∑ k : Fin 128, if k.val ≤ r.val then rateOf m c 0 i g s.val (row 0 k) e else 0 := by
  unfold entry entryContents walk
  simp only [List.flatten_cons, List.flatten_nil, List.append_nil, afterL_cons, afterL_nil]
  rw [last_cum, sums_at]
  refine Finset.sum_congr rfl fun k _ => congrArg (fun z => if k.val ≤ r.val then z else 0) ?_
  rw [rates_at]
  unfold ldOf rateOf Cert.Proof.Spec.dtAt
  after_reads_at
  try after_reads_at
  refine congrArg₂ (· * ·) ((softplus_ref _).trans (congrArg Cert.Proof.Spec.softplus (congrArg₂ (· + ·) ?_ ?_))) (congrArg (fun z => -Ideal.exp z) ?_)
  · exact argP_congr (i := i) (t := ⟨s.val * 128 + k.val, by omega⟩) (j := ⟨6144 + (g.val * 4 + e.val), by omega⟩) m c rfl
      (tok_forward s k).symm (by show 6144 + (g.val * 4 + e.val) = 6144 + (4 * g.val + e.val); omega)
  · exact argB_congr (d := 0) (h := ⟨g.val * 4 + e.val, by omega⟩) m c (by show g.val * 4 + e.val = 4 * g.val + e.val; omega)
  · exact argA_congr (d := 0) (h := ⟨g.val * 4 + e.val, by omega⟩) m c (by show g.val * 4 + e.val = 4 * g.val + e.val; omega)

theorem cum_backward (i : Fin 4) (s : Fin 34) (r : Fin 128) (g : Fin 8) (e : Fin 4) :
    cumOf (entry m c) (walk 1 i) g e s r = ∑ k : Fin 128, if k.val ≤ r.val then rateOf m c 1 i g s.val (row 1 k) e else 0 := by
  unfold entry entryContents walk
  simp only [List.flatten_cons, List.flatten_nil, List.append_nil, afterL_cons, afterL_nil]
  rw [last_cum, sums_at]
  refine Finset.sum_congr rfl fun k _ => congrArg (fun z => if k.val ≤ r.val then z else 0) ?_
  rw [rates_at]
  unfold ldOf rateOf Cert.Proof.Spec.dtAt
  after_reads_at
  try after_reads_at
  by_cases h : s.val * 128 + k.val < 256
  · rw [dif_pos h]
    try after_reads_at
    simp only [List.mem_singleton, Fin.reduceEq, reduceIte, Fin.rev]
    have ht : 256 - (s.val * 128 + k.val + 1) = (Cert.Proof.Spec.tok 1 s.val (row 1 k)).val := by
      rw [tok_backward]
      simp only [flip, if_pos h]
      omega
    refine congrArg₂ (· * ·) ((softplus_ref _).trans (congrArg Cert.Proof.Spec.softplus (congrArg₂ (· + ·) ?_ ?_))) (congrArg (fun z => -Ideal.exp z) ?_)
    · exact argP_congr (i := i) (t := ⟨256 - (s.val * 128 + k.val + 1), by omega⟩) (j := ⟨6144 + (32 + (g.val * 4 + e.val)), by omega⟩) m c rfl ht
        (by show 6144 + (32 + (g.val * 4 + e.val)) = 6144 + (32 + 4 * g.val + e.val); omega)
    · exact argB_congr (d := 1) (h := ⟨g.val * 4 + e.val, by omega⟩) m c (by show g.val * 4 + e.val = 4 * g.val + e.val; omega)
    · exact argA_congr (d := 1) (h := ⟨g.val * 4 + e.val, by omega⟩) m c (by show g.val * 4 + e.val = 4 * g.val + e.val; omega)
  · rw [dif_neg h]
    try after_reads_at
    simp only [List.mem_singleton, Fin.reduceEq, reduceIte, Fin.rev]
    have ht : 256 + (4096 - (s.val * 128 + k.val - 256 + 1)) = (Cert.Proof.Spec.tok 1 s.val (row 1 k)).val := by
      rw [tok_backward]
      simp only [flip, if_neg h]
      omega
    refine congrArg₂ (· * ·) ((softplus_ref _).trans (congrArg Cert.Proof.Spec.softplus (congrArg₂ (· + ·) ?_ ?_))) (congrArg (fun z => -Ideal.exp z) ?_)
    · exact argP_congr (i := i) (t := ⟨256 + (4096 - (s.val * 128 + k.val - 256 + 1)), by omega⟩) (j := ⟨6144 + (32 + (g.val * 4 + e.val)), by omega⟩) m c rfl ht
        (by show 6144 + (32 + (g.val * 4 + e.val)) = 6144 + (32 + 4 * g.val + e.val); omega)
    · exact argB_congr (d := 1) (h := ⟨g.val * 4 + e.val, by omega⟩) m c (by show g.val * 4 + e.val = 4 * g.val + e.val; omega)
    · exact argA_congr (d := 1) (h := ⟨g.val * 4 + e.val, by omega⟩) m c (by show g.val * 4 + e.val = 4 * g.val + e.val; omega)

end Cert.Proof.Ref
-- ==== Proof.RefLoop.lean ====
module

public import proofs.«01_k».proof.Proof.RefPre
public import Idealize.ShloMosaic.Lib.DynamicIndex
public import Idealize.ShloMosaic.Lib.WordCmp

@[expose] public section

set_option maxRecDepth 16384

noncomputable section

/-! The reference's loop over the chunks. -/

namespace Cert.Proof.Ref

open Cert.ReferenceIdeal.Value
open Idealize.ShloMosaic.StableHlo
open Cert.ReferenceIdeal Cert.ReferenceIdeal.Gen Idealize.ShloMosaic Idealize.ShloMosaic.TcCoe Idealize.SL.Sem

section Trip

variable (V : Valuation τ sig (Elt Ideal))

/-- What the loop carries, by its indices: the chunks' own states, their decays and the running state. -/
def addOf (s : Fin 34) (q : Fin 8) (g : Fin 8) (e : Fin 4) (p : Fin 64) (n : Fin 128) : EReal := V (Proc.devRef .tc main_v96_0) (ix6 s q g e p n)
def decayOf (s : Fin 34) (q : Fin 8) (g : Fin 8) (e : Fin 4) : EReal := V (Proc.devRef .tc main_v96_1) (ix4 s q g e)
def runOf (q : Fin 8) (g : Fin 8) (e : Fin 4) (p : Fin 64) (n : Fin 128) : EReal := V (Proc.devRef .tc main_v96_3) (ix5 q g e p n)

theorem counter_value : ∀ k : Fin 34, (Scf.iv (0#32 : BitVec 32) (1#32 : BitVec 32) k.val).toInt = k.val := by
  decide +kernel

theorem step_run (k : Fin 34) (hV : V (Proc.devRef .tc main_v96_2) = fun _ => Scf.iv (0#32 : BitVec 32) (1#32 : BitVec 32) k.val)
    (q : Fin 8) (g : Fin 8) (e : Fin 4) (p : Fin 64) (n : Fin 128) :
    ((step_main_v96_3 V : Vec Ideal S8x8x4x64x128 .f32) (ix5 q g e p n) : EReal) =
      runOf V q g e p n * decayOf V k q g e + addOf V k q g e p n := by
  have h1 : S34x8x8x4.Slices ![k.val, 0, 0, 0] S1x8x8x4 :=
    ⟨rfl, fun a => match a with
      | 0 => (by show k.val + 1 ≤ 34; omega) | 1 => (by show 0 + 8 ≤ 8; omega) | 2 => (by show 0 + 8 ≤ 8; omega) | 3 => (by show 0 + 4 ≤ 4; omega)⟩
  have h0 : S34x8x8x4x64x128.Slices ![k.val, 0, 0, 0, 0, 0] S1x8x8x4x64x128 :=
    ⟨rfl, fun a => match a with
      | 0 => (by show k.val + 1 ≤ 34; omega) | 1 => (by show 0 + 8 ≤ 8; omega) | 2 => (by show 0 + 8 ≤ 8; omega) | 3 => (by show 0 + 4 ≤ 4; omega)
      | 4 => (by show 0 + 64 ≤ 64; omega) | 5 => (by show 0 + 128 ≤ 128; omega)⟩
  unfold step_main_v96_3
  rw [Host.dynamicSlice_eq_extractStridedSlice S1x8x8x4 _ _ ![k.val, 0, 0, 0] _ h1, Host.dynamicSlice_eq_extractStridedSlice S1x8x8x4x64x128 _ _ ![k.val, 0, 0, 0, 0, 0] _ h0]
  · simp only [id_eq]
    pointwise
    rfl
  · intro a
    match a with
    | 0 =>
      show ((V (Proc.devRef .tc main_v96_2) : Vec Ideal S_ .i32) (Shape.Idx.first h_S_) : BitVec 32).toInt = k.val
      rw [hV]
      exact counter_value k
    | 1 => rfl
    | 2 => rfl
    | 3 => rfl
    | 4 => rfl
    | 5 => rfl
  · intro a
    match a with
    | 0 =>
      show ((V (Proc.devRef .tc main_v96_2) : Vec Ideal S_ .i32) (Shape.Idx.first h_S_) : BitVec 32).toInt = k.val
      rw [hV]
      exact counter_value k
    | 1 => rfl
    | 2 => rfl
    | 3 => rfl

theorem step_stack (k : Fin 34) (hV : V (Proc.devRef .tc main_v96_2) = fun _ => Scf.iv (0#32 : BitVec 32) (1#32 : BitVec 32) k.val)
    (s : Fin 34) (q : Fin 8) (g : Fin 8) (e : Fin 4) (p : Fin 64) (n : Fin 128) :
    ((step_main_v96_4 V : Vec Ideal S34x8x8x4x64x128 .f32) (ix6 s q g e p n) : EReal) =
      if s = k then runOf V q g e p n else stateOf V s q g e p n := by
  have h0 : S34x8x8x4x64x128.Slices ![k.val, 0, 0, 0, 0, 0] S1x8x8x4x64x128 :=
    ⟨rfl, fun a => match a with
      | 0 => (by show k.val + 1 ≤ 34; omega) | 1 => (by show 0 + 8 ≤ 8; omega) | 2 => (by show 0 + 8 ≤ 8; omega) | 3 => (by show 0 + 4 ≤ 4; omega)
      | 4 => (by show 0 + 64 ≤ 64; omega) | 5 => (by show 0 + 128 ≤ 128; omega)⟩
  unfold step_main_v96_4
  rw [WordCmp.dynamicUpdateSlice_eq_update _ _ _ _ ![k.val, 0, 0, 0, 0, 0] h0]
  · rw [id_eq, Idealize.ShloMosaic.updateSlice_apply]
    by_cases hs : s = k
    · subst hs
      rw [if_pos rfl, dif_pos]
      · pointwise
        rfl
      · intro a
        match a with
        | 0 => exact (by show s.val ≤ s.val ∧ s.val < s.val + 1; omega)
        | 1 => exact (by show 0 ≤ q.val ∧ q.val < 0 + 8; omega)
        | 2 => exact (by show 0 ≤ g.val ∧ g.val < 0 + 8; omega)
        | 3 => exact (by show 0 ≤ e.val ∧ e.val < 0 + 4; omega)
        | 4 => exact (by show 0 ≤ p.val ∧ p.val < 0 + 64; omega)
        | 5 => exact (by show 0 ≤ n.val ∧ n.val < 0 + 128; omega)
    · rw [if_neg hs, dif_neg]
      · rfl
      · intro hin
        have h : k.val ≤ s.val ∧ s.val < k.val + 1 := hin 0
        exact hs (Fin.ext (by omega))
  · intro a
    match a with
    | 0 =>
      show ((V (Proc.devRef .tc main_v96_2) : Vec Ideal S_ .i32) (Shape.Idx.first h_S_) : BitVec 32).toInt = k.val
      rw [hV]
      exact counter_value k
    | 1 => rfl
    | 2 => rfl
    | 3 => rfl
    | 4 => rfl
    | 5 => rfl

theorem trip_xdt (q : Fin 8) (s : Fin 34) (r : Fin 128) (g : Fin 8) (e : Fin 4) (p : Fin 64) :
    xdtOf (afterL bodyI V) q s r g e p = xdtOf V q s r g e p := by
  unfold xdtOf
  simp only [List.flatten_cons, List.flatten_nil, List.append_nil, afterL_cons, afterL_nil]
  after_reads_at

theorem trip_b (q : Fin 8) (s : Fin 34) (r : Fin 128) (g : Fin 8) (n : Fin 128) : bOf (afterL bodyI V) q s r g n = bOf V q s r g n := by
  unfold bOf
  simp only [List.flatten_cons, List.flatten_nil, List.append_nil, afterL_cons, afterL_nil]
  after_reads_at

theorem trip_c (q : Fin 8) (s : Fin 34) (r : Fin 128) (g : Fin 8) (n : Fin 128) : cOf (afterL bodyI V) q s r g n = cOf V q s r g n := by
  unfold cOf
  simp only [List.flatten_cons, List.flatten_nil, List.append_nil, afterL_cons, afterL_nil]
  after_reads_at

theorem trip_cum (q : Fin 8) (g : Fin 8) (e : Fin 4) (s : Fin 34) (r : Fin 128) : cumOf (afterL bodyI V) q g e s r = cumOf V q g e s r := by
  unfold cumOf
  simp only [List.flatten_cons, List.flatten_nil, List.append_nil, afterL_cons, afterL_nil]
  after_reads_at

theorem test_xdt (q : Fin 8) (s : Fin 34) (r : Fin 128) (g : Fin 8) (e : Fin 4) (p : Fin 64) :
    xdtOf (after condOps V) q s r g e p = xdtOf V q s r g e p := by
  unfold xdtOf
  after_reads_at

theorem test_b (q : Fin 8) (s : Fin 34) (r : Fin 128) (g : Fin 8) (n : Fin 128) : bOf (after condOps V) q s r g n = bOf V q s r g n := by
  unfold bOf
  after_reads_at

theorem test_c (q : Fin 8) (s : Fin 34) (r : Fin 128) (g : Fin 8) (n : Fin 128) : cOf (after condOps V) q s r g n = cOf V q s r g n := by
  unfold cOf
  after_reads_at

theorem test_cum (q : Fin 8) (g : Fin 8) (e : Fin 4) (s : Fin 34) (r : Fin 128) : cumOf (after condOps V) q g e s r = cumOf V q g e s r := by
  unfold cumOf
  after_reads_at

end Trip

variable (m : (ℓ : Loc nD τ sig) → Buf (Elt Ideal) ℓ) (c : Dev nD)

/-- The running state before chunk `k`. -/
def runAt (q : Fin 8) (g : Fin 8) (e : Fin 4) (p : Fin 64) (n : Fin 128) : ℕ → EReal
  | 0 => 0
  | k + 1 => runAt q g e p n k * decayOf (entry m c) (Fin.ofNat 34 k) q g e + addOf (entry m c) (Fin.ofNat 34 k) q g e p n

theorem kept (k : ℕ) : (atK m k c (Proc.devRef .tc main_v96_0) = entry m c (Proc.devRef .tc main_v96_0)) ∧
    (atK m k c (Proc.devRef .tc main_v96_1) = entry m c (Proc.devRef .tc main_v96_1)) := by
  induction k with
  | zero => exact ⟨rfl, rfl⟩
  | succ k ih =>
    exact ⟨((trip_agree (atK m k c) main_v96_0 (by decide)).trans (STEP_main_v96_0 _)).trans ih.1,
      ((trip_agree (atK m k c) main_v96_1 (by decide)).trans (STEP_main_v96_1 _)).trans ih.2⟩

theorem entry_run (q : Fin 8) (g : Fin 8) (e : Fin 4) (p : Fin 64) (n : Fin 128) : runOf (entry m c) q g e p n = 0 := by
  unfold runOf entry entryContents
  simp only [List.flatten_cons, List.flatten_nil, List.append_nil, afterL_cons, afterL_nil]
  after_reads_at
  rw [id_eq]
  pointwise

theorem run_value (q : Fin 8) (g : Fin 8) (e : Fin 4) (p : Fin 64) (n : Fin 128) (k : ℕ) (hk : k ≤ 34) :
    runOf (atK m k c) q g e p n = runAt m c q g e p n k := by
  induction k with
  | zero => exact entry_run m c q g e p n
  | succ k ih =>
    have h : runOf (atK m (k + 1) c) q g e p n = ((step_main_v96_3 (atK m k c) : Vec Ideal S8x8x4x64x128 .f32) (ix5 q g e p n) : EReal) :=
      congrFun ((trip_agree (atK m k c) main_v96_3 (by decide)).trans (STEP_main_v96_3 _)) _
    rw [h, step_run (atK m k c) ⟨k, by omega⟩ (atK_ctr m c k), ih (by omega)]
    have hf : (Fin.ofNat 34 k) = ⟨k, by omega⟩ := Fin.ext (Nat.mod_eq_of_lt (by omega))
    show _ = runAt m c q g e p n k * decayOf (entry m c) (Fin.ofNat 34 k) q g e + addOf (entry m c) (Fin.ofNat 34 k) q g e p n
    rw [hf]
    unfold decayOf addOf
    rw [(kept m c k).1, (kept m c k).2]

theorem stack_value (s : Fin 34) (q : Fin 8) (g : Fin 8) (e : Fin 4) (p : Fin 64) (n : Fin 128) (k : ℕ) (hk : k ≤ 34) (hs : s.val < k) :
    stateOf (atK m k c) s q g e p n = runAt m c q g e p n s.val := by
  induction k with
  | zero => omega
  | succ k ih =>
    have h : stateOf (atK m (k + 1) c) s q g e p n = ((step_main_v96_4 (atK m k c) : Vec Ideal S34x8x8x4x64x128 .f32) (ix6 s q g e p n) : EReal) :=
      congrFun ((trip_agree (atK m k c) main_v96_4 (by decide)).trans (STEP_main_v96_4 _)) _
    rw [h, step_stack (atK m k c) ⟨k, by omega⟩ (atK_ctr m c k)]
    by_cases hsk : s.val = k
    · rw [if_pos (Fin.ext hsk), run_value m c q g e p n k (by omega), hsk]
    · rw [if_neg (fun h => hsk (congrArg Fin.val h)), ih (by omega) (by omega)]

/-- What the loop leaves. -/
abbrev atEnd : Valuation τ sig (Elt Ideal) := after condOps (atK m 34 c)

theorem end_state (s : Fin 34) (q : Fin 8) (g : Fin 8) (e : Fin 4) (p : Fin 64) (n : Fin 128) :
    stateOf (atEnd m c) s q g e p n = runAt m c q g e p n s.val :=
  (congrFun (cond_keeps (atK m 34 c) main_v96_4 (by decide)) _).trans (stack_value m c s q g e p n 34 (by omega) s.isLt)

theorem end_xdt (q : Fin 8) (s : Fin 34) (r : Fin 128) (g : Fin 8) (e : Fin 4) (p : Fin 64) :
    xdtOf (atEnd m c) q s r g e p = xdtOf (entry m c) q s r g e p := by
  have h : ∀ k, xdtOf (atK m k c) q s r g e p = xdtOf (entry m c) q s r g e p := by
    intro k
    induction k with
    | zero => rfl
    | succ k ih => exact (trip_xdt _ q s r g e p).trans ((test_xdt _ q s r g e p).trans ih)
  exact (test_xdt _ q s r g e p).trans (h 34)

theorem end_b (q : Fin 8) (s : Fin 34) (r : Fin 128) (g : Fin 8) (n : Fin 128) :
    bOf (atEnd m c) q s r g n = bOf (entry m c) q s r g n := by
  have h : ∀ k, bOf (atK m k c) q s r g n = bOf (entry m c) q s r g n := by
    intro k
    induction k with
    | zero => rfl
    | succ k ih => exact (trip_b _ q s r g n).trans ((test_b _ q s r g n).trans ih)
  exact (test_b _ q s r g n).trans (h 34)

theorem end_c (q : Fin 8) (s : Fin 34) (r : Fin 128) (g : Fin 8) (n : Fin 128) :
    cOf (atEnd m c) q s r g n = cOf (entry m c) q s r g n := by
  have h : ∀ k, cOf (atK m k c) q s r g n = cOf (entry m c) q s r g n := by
    intro k
    induction k with
    | zero => rfl
    | succ k ih => exact (trip_c _ q s r g n).trans ((test_c _ q s r g n).trans ih)
  exact (test_c _ q s r g n).trans (h 34)

theorem end_cum (q : Fin 8) (g : Fin 8) (e : Fin 4) (s : Fin 34) (r : Fin 128) :
    cumOf (atEnd m c) q g e s r = cumOf (entry m c) q g e s r := by
  have h : ∀ k, cumOf (atK m k c) q g e s r = cumOf (entry m c) q g e s r := by
    intro k
    induction k with
    | zero => rfl
    | succ k ih => exact (trip_cum _ q g e s r).trans ((test_cum _ q g e s r).trans ih)
  exact (test_cum _ q g e s r).trans (h 34)

theorem entry_decay (s : Fin 34) (q : Fin 8) (g : Fin 8) (e : Fin 4) : decayOf (entry m c) s q g e = Ideal.exp (cumOf (entry m c) q g e s 127) := by
  unfold entry entryContents
  simp only [List.flatten_cons, List.flatten_nil, List.append_nil, afterL_cons, afterL_nil]
  rw [last_cum]
  exact last_decay _ s q g e

theorem entry_add (s : Fin 34) (q : Fin 8) (g : Fin 8) (e : Fin 4) (p : Fin 64) (n : Fin 128) : addOf (entry m c) s q g e p n =
    ∑ r : Fin 128, (Ideal.exp (cumOf (entry m c) q g e s 127 - cumOf (entry m c) q g e s r) * xdtOf (entry m c) q s r g e p) * bOf (entry m c) q s r g n := by
  unfold entry entryContents
  simp only [List.flatten_cons, List.flatten_nil, List.append_nil, afterL_cons, afterL_nil, last_cum, last_xdt, last_b]
  exact last_states _ s q g e p n

end Cert.Proof.Ref
-- ==== Proof.Order.lean ====
module

public import proofs.«01_k».proof.Proof.Spec

@[expose] public section

set_option maxRecDepth 16384

noncomputable section

/-! The scan's sums and exponentials over the extended reals: the log decays are not positive, so a running sum falls as it
    grows longer, and a token whose step size is infinite is forgotten by every row that has read it. -/

namespace Cert.Proof.Spec

open Idealize.ShloMosaic

theorem exp_nonneg (x : EReal) : 0 ≤ Ideal.exp x := by
  induction x using EReal.rec with
  | bot => exact le_refl _
  | top => exact le_top
  | coe r => exact EReal.coe_nonneg.mpr (Real.exp_pos r).le

theorem exp_pos {x : EReal} (h : ⊥ < x) : 0 < Ideal.exp x := by
  induction x using EReal.rec with
  | bot => exact absurd h (lt_irrefl _)
  | top => exact EReal.zero_lt_top
  | coe r => exact EReal.coe_pos.mpr (Real.exp_pos r)

theorem log1p_nonneg {x : EReal} (h : 0 ≤ x) : 0 ≤ Ideal.log1p x := by
  unfold Ideal.log1p
  induction x using EReal.rec with
  | bot => exact absurd h (by simp)
  | top => rw [show (1 : EReal) + ⊤ = ⊤ from rfl]; exact le_top
  | coe r =>
    have hr : 0 ≤ r := EReal.coe_nonneg.mp h
    rw [show (1 : EReal) + (r : EReal) = ((1 + r : ℝ) : EReal) from rfl]
    show (0 : EReal) ≤ (if 1 + r ≤ 0 then ⊥ else (Real.log (1 + r) : EReal))
    rw [if_neg (by linarith)]
    exact EReal.coe_nonneg.mpr (Real.log_nonneg (by linarith))

theorem softplus_nonneg (x : EReal) : 0 ≤ softplus x :=
  add_nonneg (le_max_right _ _) (log1p_nonneg (exp_nonneg _))

theorem upTo_refl (d : Fin 2) (r : Fin 128) : upTo d r r := by
  unfold upTo
  split <;> exact le_refl _

theorem upTo_trans {d : Fin 2} {r k l : Fin 128} (h : upTo d r k) (h' : upTo d k l) : upTo d r l := by
  unfold upTo at *
  split at h
  · rw [if_pos ‹_›] at h' ⊢; exact le_trans h' h
  · rw [if_neg ‹_›] at h' ⊢; exact le_trans h h'

theorem upTo_last (d : Fin 2) (r : Fin 128) : upTo d (last d) r := by
  unfold upTo last
  split
  · exact Fin.le_def.mpr (by show r.val ≤ 127; omega)
  · exact Fin.le_def.mpr (by show 0 ≤ r.val; omega)

/-- What the scan's running sums obey. -/
structure Falling (d : Fin 2) (cum dt : Fin 128 → EReal) : Prop where
  neg : ∀ r, cum r ≤ 0
  mono : ∀ r k, upTo d r k → cum r ≤ cum k
  top : ∀ r k, upTo d r k → dt k = ⊤ → cum r = ⊥
  pos : ∀ r, 0 ≤ dt r

theorem term_nonpos (d : Fin 2) (f : Fin 128 → EReal) (hf : ∀ k, f k ≤ 0) (r k : Fin 128) : (if upTo d r k then (1 : EReal) else 0) * f k ≤ 0 := by
  split
  · rw [one_mul]; exact hf k
  · rw [zero_mul]

theorem falling_running (d : Fin 2) (dt : Fin 128 → EReal) (w : EReal) (hdt : ∀ k, 0 ≤ dt k) (hw : w < 0) :
    Falling d (running d fun k => dt k * w) dt := by
  have hf : ∀ k, dt k * w ≤ 0 := fun k => mul_nonpos_of_nonneg_of_nonpos (hdt k) hw.le
  refine ⟨fun r => Finset.sum_nonpos fun k _ => term_nonpos d _ hf r k, fun r k h => Finset.sum_le_sum fun l _ => ?_, fun r k h htop => ?_, hdt⟩
  · by_cases hl : upTo d k l
    · rw [if_pos hl, if_pos (upTo_trans h hl)]
    · rw [if_neg hl, zero_mul]
      exact term_nonpos d _ hf r l
  · unfold running
    rw [← Finset.add_sum_erase _ _ (Finset.mem_univ k), if_pos h, one_mul]
    show dt k * w + _ = ⊥
    rw [htop, EReal.top_mul_of_neg hw, EReal.bot_add]

theorem three_of_nonpos {x : EReal} (h : x ≤ 0) : three x = x := by
  unfold three
  induction x using EReal.rec with
  | bot => exact EReal.bot_add _
  | top => exact absurd h (by simp)
  | coe r =>
    rw [show (r : EReal) - r = ((r - r : ℝ) : EReal) from rfl, sub_self, EReal.coe_zero, sub_zero, add_zero, add_zero]

theorem two_of_ne_top {x : EReal} (h : 0 ≤ x) (h' : x ≠ ⊤) : two x = x := by
  unfold two
  induction x using EReal.rec with
  | bot => exact absurd h (by simp)
  | top => exact absurd rfl h'
  | coe r => rw [show (r : EReal) - r = ((r - r : ℝ) : EReal) from rfl, sub_self, EReal.coe_zero, add_zero]

theorem sub_nonpos_of_le {x y : EReal} (h : x ≤ y) (hy : y ≤ 0) : x - y ≤ 0 := by
  induction y using EReal.rec with
  | bot => rw [le_bot_iff.mp h]; exact bot_le
  | top => exact absurd hy (by simp)
  | coe s =>
    induction x using EReal.rec with
    | bot => exact bot_le
    | top => exact absurd h (by simp)
    | coe r =>
      have : r ≤ s := EReal.coe_le_coe_iff.mp h
      rw [show (r : EReal) - s = ((r - s : ℝ) : EReal) from rfl]
      exact EReal.coe_nonpos.mpr (by linarith)

/-- One token's part of an output: the kernel's, with its roundings' sums, clamp and order of products, is the reference's. -/
theorem out_term {d : Fin 2} {cum dt : Fin 128 → EReal} (hF : Falling d cum dt) (r k : Fin 128) (x y : EReal) :
    ((if upTo d r k then y else 0) * Ideal.exp (min (three (cum r) - cum k) 0)) * (x * two (dt k)) =
      (x * dt k) * (y * Ideal.exp (if upTo d r k then cum r - cum k else ⊥)) := by
  by_cases h : upTo d r k
  · rw [if_pos h, if_pos h, three_of_nonpos (hF.neg r), min_eq_left (sub_nonpos_of_le (hF.mono r k h) (hF.neg k))]
    by_cases ht : dt k = ⊤
    · rw [hF.top r k h ht, sub_eq_add_neg, EReal.bot_add, Ideal.exp_bot, mul_zero, zero_mul, mul_zero]
    · rw [two_of_ne_top (hF.pos k) ht, mul_comm]
  · rw [if_neg h, if_neg h, zero_mul, zero_mul, Ideal.exp_bot, mul_zero, mul_zero]

/-- One token's part of a state. -/
theorem state_term {d : Fin 2} {cum dt : Fin 128 → EReal} (hF : Falling d cum dt) (r : Fin 128) (x y : EReal) :
    y * ((x * two (dt r)) * Ideal.exp (three (cum (last d)) - three (cum r))) = (Ideal.exp (cum (last d) - cum r) * (x * dt r)) * y := by
  rw [three_of_nonpos (hF.neg _), three_of_nonpos (hF.neg r)]
  by_cases ht : dt r = ⊤
  · rw [hF.top _ r (upTo_last d r) ht, sub_eq_add_neg, EReal.bot_add, Ideal.exp_bot, mul_zero, mul_zero, zero_mul, zero_mul]
  · rw [two_of_ne_top (hF.pos r) ht, mul_comm y, mul_comm (x * dt r)]

end Cert.Proof.Spec
-- ==== Proof.RefValue.lean ====
module

public import proofs.«01_k».proof.Proof.RefLoop
public import proofs.«01_k».proof.Proof.Order

@[expose] public section

set_option maxRecDepth 16384

noncomputable section

/-! The reference's results, by the recurrence over the chunks. -/

namespace Cert.Proof.Ref

open Cert.ReferenceIdeal.Value
open Idealize.ShloMosaic.StableHlo
open Cert.ReferenceIdeal Cert.ReferenceIdeal.Gen Idealize.ShloMosaic Idealize.ShloMosaic.TcCoe Idealize.SL.Sem
open Cert.Proof.Spec

theorem row_row (d : Fin 2) (r : Fin 128) : row d (row d r) = r := by
  unfold row
  split
  · rfl
  · exact Fin.ext (by show 127 - (127 - r.val) = r.val; omega)

/-- A chunk's rows, in the order the walk reads them. -/
def rowEquiv (d : Fin 2) : Fin 128 ≃ Fin 128 := ⟨row d, row d, row_row d, row_row d⟩

theorem upTo_row (d : Fin 2) (r k : Fin 128) : upTo d (row d r) (row d k) ↔ k.val ≤ r.val := by
  unfold upTo row
  split
  · exact Iff.rfl
  · exact Fin.le_def.trans (by show 127 - r.val ≤ 127 - k.val ↔ k.val ≤ r.val; omega)

theorem row_last (d : Fin 2) : row d 127 = last d := by
  unfold row last
  split <;> rfl

theorem headOf_lane (e : Fin 4) (p : Fin 64) : headOf ⟨64 * e.val + p.val, by omega⟩ = e :=
  Fin.ext (by show (64 * e.val + p.val) / 64 = e.val; omega)

variable (m : (ℓ : Loc nD τ sig) → Buf (Elt Ideal) ℓ) (c : Dev nD)

theorem b_at (d : Fin 2) (i : Fin 4) (s : Fin 34) (r : Fin 128) (g : Fin 8) (n : Fin 128) :
    bOf (entry m c) (walk d i) s r g n = bAt (argX m c) d i g s.val (row d r) n := by
  match d with
  | 0 => exact b_forward m c i s r g n
  | 1 => exact b_backward m c i s r g n

theorem c_at (d : Fin 2) (i : Fin 4) (s : Fin 34) (r : Fin 128) (g : Fin 8) (n : Fin 128) :
    cOf (entry m c) (walk d i) s r g n = cAt (argX m c) d i g s.val (row d r) n := by
  match d with
  | 0 => exact c_forward m c i s r g n
  | 1 => exact c_backward m c i s r g n

theorem xdt_at (d : Fin 2) (i : Fin 4) (s : Fin 34) (r : Fin 128) (g : Fin 8) (e : Fin 4) (p : Fin 64) :
    xdtOf (entry m c) (walk d i) s r g e p = xAt (argX m c) d i g s.val (row d r) ⟨64 * e.val + p.val, by omega⟩ *
      dtAt (argP m c) (argB m c) d i g s.val (row d r) e := by
  match d with
  | 0 => exact xdt_forward m c i s r g e p
  | 1 => exact xdt_backward m c i s r g e p

theorem cum_at (d : Fin 2) (i : Fin 4) (s : Fin 34) (r : Fin 128) (g : Fin 8) (e : Fin 4) :
    cumOf (entry m c) (walk d i) g e s r = cumAt (argP m c) (argB m c) (argA m c) d i g s.val (row d r) e := by
  have h : cumOf (entry m c) (walk d i) g e s r = ∑ k : Fin 128, if k.val ≤ r.val then rateOf m c d i g s.val (row d k) e else 0 := by
    match d with
    | 0 => exact cum_forward m c i s r g e
    | 1 => exact cum_backward m c i s r g e
  rw [h]
  unfold cumAt running
  refine Eq.trans ?_ (Equiv.sum_comp (rowEquiv d) _)
  refine Finset.sum_congr rfl fun k _ => ?_
  show _ = (if upTo d (row d r) (row d k) then (1 : EReal) else 0) * rateOf m c d i g s.val (row d k) e
  by_cases hk : k.val ≤ r.val
  · rw [if_pos hk, if_pos ((upTo_row d r k).mpr hk), one_mul]
  · rw [if_neg hk, if_neg (fun h => hk ((upTo_row d r k).mp h)), zero_mul]

theorem flip_flip (t : ℕ) (h : t < 4352) : flip (flip t) = t := by
  unfold flip
  split <;> split <;> omega

section Claim

variable (hA : ∀ d h, ⊥ < argA m c d h)
include hA

theorem falling_at (d : Fin 2) (i : Fin 4) (g : Fin 8) (s : ℕ) (e : Fin 4) :
    Falling d (fun r => cumAt (argP m c) (argB m c) (argA m c) d i g s r e) (fun r => dtAt (argP m c) (argB m c) d i g s r e) :=
  falling_running d (fun r => dtAt (argP m c) (argB m c) d i g s r e) (-Ideal.exp (argA m c d (head g e))) (fun _ => softplus_nonneg _)
    (by rw [EReal.neg_lt_zero]; exact exp_pos (hA d (head g e)))

theorem run_at (d : Fin 2) (i : Fin 4) (g : Fin 8) (e : Fin 4) (p : Fin 64) (n : Fin 128) (s : ℕ) (hs : s ≤ 34) :
    runAt m c (walk d i) g e p n s = carriedTo (argX m c) (argP m c) (argB m c) (argA m c) d i g s n ⟨64 * e.val + p.val, by omega⟩ := by
  induction s with
  | zero => rfl
  | succ s ih =>
    have hf : (Fin.ofNat 34 s) = ⟨s, by omega⟩ := Fin.ext (Nat.mod_eq_of_lt (by omega))
    have hF := falling_at m c hA d i g s e
    show runAt m c (walk d i) g e p n s * decayOf (entry m c) (Fin.ofNat 34 s) (walk d i) g e + addOf (entry m c) (Fin.ofNat 34 s) (walk d i) g e p n
      = chunkState d (xAt (argX m c) d i g s) (bAt (argX m c) d i g s) (cumAt (argP m c) (argB m c) (argA m c) d i g s) (dtAt (argP m c) (argB m c) d i g s)
        (carriedTo (argX m c) (argP m c) (argB m c) (argA m c) d i g s) n ⟨64 * e.val + p.val, by omega⟩
    unfold chunkState
    rw [hf, ih (by omega), entry_decay, entry_add, headOf_lane]
    simp only [cum_at, xdt_at, b_at, row_last]
    refine congrArg₂ (· + ·) (congrArg₂ (· * ·) rfl (congrArg Ideal.exp (three_of_nonpos (hF.neg (last d))).symm)) ?_
    refine Eq.trans ?_ (Equiv.sum_comp (rowEquiv d) _)
    exact Finset.sum_congr rfl fun r _ => (state_term hF (row d r) _ _).symm

theorem out_at (d : Fin 2) (i : Fin 4) (g : Fin 8) (s : Fin 34) (r : Fin 128) (e : Fin 4) (p : Fin 64) :
    outAt (atEnd m c) (walk d i) s r g e p =
      yAt (argX m c) (argP m c) (argB m c) (argA m c) d i g s.val (row d r) ⟨64 * e.val + p.val, by omega⟩ := by
  have hF := falling_at m c hA d i g s.val e
  unfold outAt yAt chunkOut
  rw [headOf_lane]
  simp only [end_xdt, end_b, end_c, end_cum, end_state, cum_at, xdt_at, b_at, c_at]
  rw [add_comm]
  refine congrArg₂ (· + ·) (congrArg₂ (· * ·) (Finset.sum_congr rfl fun n _ => ?_) (congrArg Ideal.exp (three_of_nonpos (hF.neg (row d r))).symm)) ?_
  · rw [run_at m c hA d i g e p n s.val (by omega), mul_comm]
  · refine Eq.trans ?_ (Equiv.sum_comp (rowEquiv d) _)
    refine Finset.sum_congr rfl fun k _ => ?_
    refine Eq.trans ?_ (out_term hF (row d r) (row d k) _ _).symm
    refine congrArg₂ (· * ·) rfl (congrArg₂ (· * ·) rfl (congrArg Ideal.exp ?_))
    by_cases hk : k.val ≤ r.val
    · rw [if_pos hk, if_pos ((upTo_row d r k).mpr hk)]
    · rw [if_neg hk, if_neg (fun h => hk ((upTo_row d r k).mp h))]

/-- The forward result, at the token the walk reads at row `r` of step `s`. -/
theorem result_forward (i : Fin 4) (s : Fin 34) (g : Fin 8) (r : Fin 128) (j : Fin 256) :
    ((finalContents condOps preI bodyI postI 34 m c (Proc.devRef .tc main_v124) : Vec Ideal S4x4352x2048 .bf16)
      (ix3 i (tok 0 s.val r) ⟨256 * g.val + j.val, by omega⟩) : EReal) =
      yAt (argX m c) (argP m c) (argB m c) (argA m c) 0 i g s.val r j := by
  have ht : (tok 0 s.val r).val = s.val * 128 + r.val := tok_forward s r
  refine (post_forward (atEnd m c) i (tok 0 s.val r) ⟨256 * g.val + j.val, by omega⟩).trans ?_
  refine Eq.trans ?_ ((out_at m c hA 0 i g s r ⟨j.val / 64, by omega⟩ ⟨j.val % 64, by omega⟩).trans ?_)
  · congr 1
    · exact Fin.ext (by show i.val = 4 * 0 + i.val; omega)
    · exact Fin.ext (by show (tok 0 s.val r).val / 128 = s.val; omega)
    · exact Fin.ext (by show (tok 0 s.val r).val % 128 = r.val; omega)
    · exact Fin.ext (by show (256 * g.val + j.val) / 256 = g.val; omega)
    · exact Fin.ext (by show (256 * g.val + j.val) / 64 % 4 = j.val / 64; omega)
    · exact Fin.ext (by show (256 * g.val + j.val) % 64 = j.val % 64; omega)
  · refine congrArg _ (Fin.ext ?_)
    show 64 * (j.val / 64) + j.val % 64 = j.val
    omega

/-- The backward result, at the token the walk reads at row `r` of step `s`. -/
theorem result_backward (i : Fin 4) (s : Fin 34) (g : Fin 8) (r : Fin 128) (j : Fin 256) :
    ((finalContents condOps preI bodyI postI 34 m c (Proc.devRef .tc main_v132) : Vec Ideal S4x4352x2048 .bf16)
      (ix3 i (tok 1 s.val r) ⟨256 * g.val + j.val, by omega⟩) : EReal) =
      yAt (argX m c) (argP m c) (argB m c) (argA m c) 1 i g s.val r j := by
  have ht : flip (tok 1 s.val r).val = s.val * 128 + (row 1 r).val := by
    have h := tok_backward s (row 1 r)
    rw [row_row] at h
    rw [h, flip_flip _ (by have := s.isLt; have := (row 1 r).isLt; omega)]
  refine (post_backward (atEnd m c) i (tok 1 s.val r) ⟨256 * g.val + j.val, by omega⟩).trans ?_
  refine Eq.trans ?_ ((out_at m c hA 1 i g s (row 1 r) ⟨j.val / 64, by omega⟩ ⟨j.val % 64, by omega⟩).trans ?_)
  · have hr := (row 1 r).isLt
    congr 1
    · exact Fin.ext (by show flip (tok 1 s.val r).val / 128 = s.val; omega)
    · exact Fin.ext (by show flip (tok 1 s.val r).val % 128 = (row 1 r).val; omega)
    · exact Fin.ext (by show (256 * g.val + j.val) / 256 = g.val; omega)
    · exact Fin.ext (by show (256 * g.val + j.val) / 64 % 4 = j.val / 64; omega)
    · exact Fin.ext (by show (256 * g.val + j.val) % 64 = j.val % 64; omega)
  · rw [row_row]
    refine congrArg _ (Fin.ext ?_)
    show 64 * (j.val / 64) + j.val % 64 = j.val
    omega

end Claim

end Cert.Proof.Ref
-- ==== Proof.Final.lean ====
module

public import proofs.«01_k».proof.Defs
public import proofs.«01_k».proof.Proof.Points
public import proofs.«01_k».proof.Proof.RefValue
public import Idealize.ShloMosaic.Adequacy
public import Idealize.ShloMosaic.Init

@[expose] public section

set_option maxRecDepth 16384

noncomputable section

/-! What both programs leave, set side by side. -/

namespace Cert.Proof.Ref

open Cert.ReferenceIdeal.Value
open Idealize.ShloMosaic.StableHlo
open Cert.ReferenceIdeal Cert.ReferenceIdeal.Gen Idealize.ShloMosaic Idealize.ShloMosaic.TcCoe Idealize.SL.Sem

section Kept

variable (V : Valuation τ sig (Elt Ideal))

/-- The program's arguments. -/
def isArg (r : Ref sig .tc) : Prop := r = main_arg0 ∨ r = main_arg1 ∨ r = main_arg2 ∨ r = main_arg3

theorem pre_arg (r : Ref sig .tc) (hr : isArg r) : afterL preI V (Proc.devRef .tc r) = V (Proc.devRef .tc r) := by
  simp only [List.flatten_cons, List.flatten_nil, List.append_nil, afterL_cons, afterL_nil]
  obtain h | h | h | h := hr <;> subst h <;> after_reads_simp

theorem trip_arg (r : Ref sig .tc) (hr : isArg r) : afterL bodyI V (Proc.devRef .tc r) = V (Proc.devRef .tc r) := by
  simp only [List.flatten_cons, List.flatten_nil, List.append_nil, afterL_cons, afterL_nil]
  obtain h | h | h | h := hr <;> subst h <;> after_reads_simp

theorem test_arg (r : Ref sig .tc) (hr : isArg r) : after condOps V (Proc.devRef .tc r) = V (Proc.devRef .tc r) := by
  obtain h | h | h | h := hr <;> subst h <;> after_reads_simp

theorem post_arg (r : Ref sig .tc) (hr : isArg r) : afterL postI V (Proc.devRef .tc r) = V (Proc.devRef .tc r) := by
  simp only [List.flatten_cons, List.flatten_nil, List.append_nil, afterL_cons, afterL_nil]
  obtain h | h | h | h := hr <;> subst h <;> after_reads_simp

end Kept

variable (m : (ℓ : Loc nD τ sig) → Buf (Elt Ideal) ℓ) (c : Dev nD)

theorem final_arg (r : Ref sig .tc) (hr : isArg r) :
    finalContents condOps preI bodyI postI 34 m c (Proc.devRef .tc r) = m ((c.tc : Thread nD τ).loc r) := by
  have h : ∀ k, atK m k c (Proc.devRef .tc r) = m ((c.tc : Thread nD τ).loc r) := by
    intro k
    induction k with
    | zero => exact pre_arg (launchContents m c) r hr
    | succ k ih => exact (trip_arg _ r hr).trans ((test_arg _ r hr).trans ih)
  exact (post_arg _ r hr).trans ((test_arg _ r hr).trans (h 34))

/-- The reference's run: its arguments and its two results. -/
theorem run_reference (g : Dev nD → PrngReg) : θ_run (defs (F := Ideal)) (onTc (τ := τ) (main (F := Ideal))) ⟨m, fun _ => 0, g⟩ (fun r => ∀ c : Dev nD,
      r.2.mem ((c.tc : Thread nD τ).loc main_v124) = finalContents condOps preI bodyI postI 34 m c (Proc.devRef .tc main_v124)
      ∧ r.2.mem ((c.tc : Thread nD τ).loc main_v132) = finalContents condOps preI bodyI postI 34 m c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨h c _ rfl, h c _ rfl,
    (h c _ rfl).trans (final_arg m c _ (Or.inl rfl)), (h c _ rfl).trans (final_arg m c _ (Or.inr (Or.inl rfl))),
    (h c _ rfl).trans (final_arg m c _ (Or.inr (Or.inr (Or.inl rfl)))), (h c _ rfl).trans (final_arg m c _ (Or.inr (Or.inr (Or.inr rfl))))⟩)
    (run_fold m g)

/-- The reference keeps its arguments and leaves every counter at zero. -/
theorem frame_reference (g : Dev nD → PrngReg) : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2, Idealize.ShloMosaic.sem_eq_zero_of_no_sems (by decide) r.2⟩) (run_reference m g)

end Cert.Proof.Ref

namespace Cert.Proof

open Idealize.ShloMosaic Idealize.ShloMosaic.TcCoe Idealize.SL.Sem
open Cert.Proof.Spec

theorem pre_facts : Cert.Pre_rates_not_zero.Facts := ⟨by decide⟩

theorem low_bits : (FloatOps.ofBits .f32 (0xFF800000#32 : BitVec 32) : Ideal .f32) = ⊥ := by
  show Ideal.ofBits .f32 (0xFF800000#32 : BitVec 32) = ⊥
  simp [Ideal.ofBits, Ideal.ieee]

theorem above_low [Cert.Pre_rates_not_zero.Facts] (x0 : FVec Ideal Cert.Pre_rates_not_zero.S4x4352x4096 .bf16) (x1 : FVec Ideal Cert.Pre_rates_not_zero.S4x4352x6272 .bf16)
    (x2 x3 : FVec Ideal Cert.Pre_rates_not_zero.S2x32 .f32) (h : Cert.Pre_rates_not_zero.fn (F := Ideal) x0 x1 x2 x3 = fun _ => 1#1)
    (j : Cert.Pre_rates_not_zero.S2x32.Idx) : (⊥ : EReal) < x3 j := by
  have h' : Ideal.cmp .ogt (x3 j) (FloatOps.ofBits .f32 (0xFF800000#32 : BitVec 32) : Ideal .f32) = 1#1 := congrFun h j
  rw [low_bits] at h'
  by_contra hn
  simp [Ideal.cmp, hn] at h'

/-- An index of a result array, by what it is made of. -/
theorem at_token {α : Type} (f f' : (⟨3, ![4, 4352, 2048]⟩ : Shape).Idx → α) (d : Fin 2)
    (h : ∀ (i : Fin 4) (s : Fin 34) (g : Fin 8) (r : Fin 128) (j : Fin 256),
      f (ix3 i (tok d s.val r) ⟨256 * g.val + j.val, by omega⟩) = f' (ix3 i (tok d s.val r) ⟨256 * g.val + j.val, by omega⟩)) : f = f' := by
  have key : ∀ t : Fin 4352, ∃ (s : Fin 34) (r : Fin 128), tok d s.val r = t := by
    intro t
    match d with
    | 0 =>
      refine ⟨⟨t.val / 128, by omega⟩, Ref.row 0 ⟨t.val % 128, by omega⟩, Fin.ext ?_⟩
      rw [Ref.tok_forward]
      show t.val / 128 * 128 + t.val % 128 = t.val
      omega
    | 1 =>
      have hf := Ref.flip_lt t.isLt
      refine ⟨⟨Ref.flip t.val / 128, by omega⟩, Ref.row 1 ⟨Ref.flip t.val % 128, by omega⟩, Fin.ext ?_⟩
      rw [Ref.tok_backward]
      show Ref.flip (Ref.flip t.val / 128 * 128 + Ref.flip t.val % 128) = t.val
      rw [show Ref.flip t.val / 128 * 128 + Ref.flip t.val % 128 = Ref.flip t.val by omega, Ref.flip_flip _ t.isLt]
  funext x
  obtain ⟨s, r, hs⟩ := key (x 1)
  have hx : x = ix3 (x 0 : Fin 4) (tok d s.val r) (⟨256 * ((x 2).val / 256) + (x 2).val % 256, by have : (x 2).val < 2048 := (x 2).isLt; omega⟩ : Fin 2048) := by
    rw [hs]
    funext a
    match a with
    | 0 => rfl
    | 1 => rfl
    | 2 => exact Fin.ext (by show (x 2).val = 256 * ((x 2).val / 256) + (x 2).val % 256; omega)
  rw [hx]
  have h2 : (x 2).val < 2048 := (x 2).isLt
  exact h (x 0) s ⟨(x 2).val / 256, by omega⟩ r ⟨(x 2).val % 256, by omega⟩

section Agree

open Cert.ReferenceIdeal.Value
open Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : Ref.argX m' c = Block.argX m c) (h1 : Ref.argP m' c = Block.argP m c) (h2 : Ref.argB m' c = Block.argB m c) (h3 : Ref.argA m' c = Block.argA m c)
  (hA : ∀ d h, ⊥ < Block.argA m c d h)
include h0 h1 h2 h3 hA

theorem forward_same : (finalContents condOps preI bodyI postI 34 m' c (Proc.devRef .tc Cert.ReferenceIdeal.main_v124) : Vec Ideal ⟨3, ![4, 4352, 2048]⟩ .bf16)
    = (Cert.KernelIdeal.Gen.dats m 0 c).arrAt 8 Cert.KernelIdeal.cfg0.N := by
  refine at_token _ _ 0 fun i s g r j => ?_
  refine (Ref.result_forward m' c (by rw [h3]; exact hA) i s g r j).trans ?_
  rw [h0, h1, h2, h3]
  exact (Block.result_forward m c i s g r j).symm

theorem backward_same : (finalContents condOps preI bodyI postI 34 m' c (Proc.devRef .tc Cert.ReferenceIdeal.main_v132) : Vec Ideal ⟨3, ![4, 4352, 2048]⟩ .bf16)
    = (Cert.KernelIdeal.Gen.dats m 0 c).arrAt 9 Cert.KernelIdeal.cfg0.N := by
  refine at_token _ _ 1 fun i s g r j => ?_
  refine (Ref.result_backward m' c (by rw [h3]; exact hA) i s g r j).trans ?_
  rw [h0, h1, h2, h3]
  exact (Block.result_backward m c i s g r j).symm

end Agree

end Cert.Proof
-- ==== Proof.Project.lean ====
module

public import Idealize.ShloMosaic.PureOps
public import Mathlib.Data.EReal.Operations
public import Mathlib.Algebra.BigOperators.Fin

@[expose] public section

set_option maxRecDepth 16384

noncomputable section

/-! The input projection: a row of the modulated norm's output times the weight's columns, in the order the kernels lay them out,
with zero columns at the end. -/

namespace Cert.Proof.Project

/-- The columns of the row-major part: reception, key, value, the two gates, the four small inputs of the decay and rate, the output gate. -/
def takeRow (f : Fin 11744 → EReal) (j : Fin 5632) : EReal :=
  if _ : j.val < 1024 then f ⟨j.val, by omega⟩
  else if _ : j.val < 3072 then f ⟨j.val + 128, by omega⟩
  else if _ : j.val < 5120 then f ⟨j.val + 6624, by omega⟩
  else if _ : j.val < 5248 then f ⟨j.val - 4096, by omega⟩
  else if _ : j.val < 5536 then f ⟨j.val - 2048, by omega⟩
  else 0

/-- The columns of the column-major part: the convolution's input, the gate, the step sizes. -/
def takeCol (f : Fin 11744 → EReal) (j : Fin 6272) : EReal :=
  if _ : j.val < 4096 then f ⟨j.val + 5536, by omega⟩
  else if _ : j.val < 6144 then f ⟨j.val - 608, by omega⟩
  else if _ : j.val < 6208 then f ⟨j.val + 3488, by omega⟩
  else 0

theorem takeRow_of (f : Fin 11744 → EReal) (j : Fin 5632) (s : Fin 11744)
    (h : j.val < 1024 ∧ s.val = j.val ∨ (1024 ≤ j.val ∧ j.val < 3072) ∧ s.val = j.val + 128 ∨ (3072 ≤ j.val ∧ j.val < 5120) ∧ s.val = j.val + 6624
      ∨ (5120 ≤ j.val ∧ j.val < 5248) ∧ s.val = j.val - 4096 ∨ (5248 ≤ j.val ∧ j.val < 5536) ∧ s.val = j.val - 2048) : takeRow f j = f s := by
  unfold takeRow
  split_ifs <;> first | exact congrArg f (Fin.ext (by dsimp only; omega)) | (exfalso; omega)

theorem takeRow_end (f : Fin 11744 → EReal) (j : Fin 5632) (h : 5536 ≤ j.val) : takeRow f j = 0 := by
  unfold takeRow
  split_ifs <;> first | rfl | (exfalso; omega)

theorem takeCol_of (f : Fin 11744 → EReal) (j : Fin 6272) (s : Fin 11744)
    (h : j.val < 4096 ∧ s.val = j.val + 5536 ∨ (4096 ≤ j.val ∧ j.val < 6144) ∧ s.val = j.val - 608
      ∨ (6144 ≤ j.val ∧ j.val < 6208) ∧ s.val = j.val + 3488) : takeCol f j = f s := by
  unfold takeCol
  split_ifs <;> first | exact congrArg f (Fin.ext (by dsimp only; omega)) | (exfalso; omega)

theorem takeCol_end (f : Fin 11744 → EReal) (j : Fin 6272) (h : 6208 ≤ j.val) : takeCol f j = 0 := by
  unfold takeCol
  split_ifs <;> first | rfl | (exfalso; omega)

/-- A column of the product is the product's column; a zero column gives zero. -/
theorem sum_takeRow (h : Fin 1024 → EReal) (w : Fin 1024 → Fin 11744 → EReal) (j : Fin 5632) :
    ∑ k, h k * takeRow (w k) j = takeRow (fun s => ∑ k, h k * w k s) j := by
  unfold takeRow
  split_ifs <;> simp only [mul_zero, Finset.sum_const_zero]

theorem sum_takeCol (h : Fin 1024 → EReal) (w : Fin 1024 → Fin 11744 → EReal) (j : Fin 6272) :
    ∑ k, h k * takeCol (w k) j = takeCol (fun s => ∑ k, h k * w k s) j := by
  unfold takeCol
  split_ifs <;> simp only [mul_zero, Finset.sum_const_zero]

/-- The sample and the token of a row. -/
def rowSample (r : Fin 17408) : Fin 4 := ⟨r.val / 4352, by omega⟩
def rowToken (r : Fin 17408) : Fin 4352 := ⟨r.val % 4352, by omega⟩

/-- The token that lies at a place of the column-major order: the first 256 stay, the square behind them is transposed. -/
def colToken (t : Fin 4352) : Fin 4352 :=
  if _ : t.val < 256 then t else ⟨256 + 64 * ((t.val - 256) % 64) + (t.val - 256) / 64, by omega⟩

theorem colToken_near (r : Fin 17408) (h : r.val % 4352 < 256) : (⟨r.val % 4352, by omega⟩ : Fin 4352) = colToken (rowToken r) := by
  unfold colToken
  rw [dif_pos (show (rowToken r).val < 256 from h)]
  rfl

theorem colToken_far (r : Fin 17408) (h : ¬ r.val % 4352 < 256) :
    (⟨256 + ((r.val % 4352 - 256) % 64 * 64 + (r.val % 4352 - 256) / 64), by omega⟩ : Fin 4352) = colToken (rowToken r) := by
  unfold colToken
  rw [dif_neg (show ¬ (rowToken r).val < 256 from h)]
  exact Fin.ext (by show 256 + ((r.val % 4352 - 256) % 64 * 64 + (r.val % 4352 - 256) / 64) = 256 + 64 * ((r.val % 4352 - 256) % 64) + (r.val % 4352 - 256) / 64; omega)

/-- What each of the two programs computes. -/
def rowMajor (h : Fin 4 → Fin 4352 → Fin 1024 → EReal) (w : Fin 1024 → Fin 11744 → EReal) (r : Fin 17408) (j : Fin 5632) : EReal :=
  takeRow (fun s => ∑ k, h (rowSample r) (rowToken r) k * w k s) j
def colMajor (h : Fin 4 → Fin 4352 → Fin 1024 → EReal) (w : Fin 1024 → Fin 11744 → EReal) (r : Fin 17408) (j : Fin 6272) : EReal :=
  takeCol (fun s => ∑ k, h (rowSample r) (colToken (rowToken r)) k * w k s) j

end Cert.Proof.Project
-- ==== Proof.Project2.lean ====
module

public import proofs.«01_k».proof.Proof.Project
public import proofs.«01_k».proof.Proof.Gen.Kernel2Ideal.Value
public import proofs.«01_k».proof.Proof.Gen.Reference2Ideal.Run
public import Idealize.ShloMosaic.Lib.StableHlo.ReadAt
public import Idealize.ShloMosaic.Lib.Pointwise
public import Idealize.ShloMosaic.Lib.Pipeline.ValueKit.Basic
public import Idealize.ShloMosaic.Adequacy
public import Idealize.ShloMosaic.Init

@[expose] public section

set_option maxRecDepth 16384

noncomputable section

/-! The row-major part of the input projection, kernel and reference. -/

namespace Cert.Proof.Project2

open Cert.Kernel2Ideal Cert.Kernel2Ideal.Gen Idealize.ShloMosaic Idealize.ShloMosaic.TcCoe Idealize.SL.Sem
open Cert.Proof.Project

variable (m : (ℓ : Loc nD τ sig) → Buf (Elt Ideal) ℓ) (c : Dev nD)

/-- The kernel's arguments, by their indices. -/
def argH (i : Fin 4) (t : Fin 4352) (k : Fin 1024) : EReal := m ((c : Thread nD τ).loc main_arg0) (ix3 i t k)
def argW (k : Fin 1024) (s : Fin 11744) : EReal := m ((c : Thread nD τ).loc main_arg1) (ix2 k s)

theorem column (k : Fin 1024) (j : Fin 5632) (n : ℕ) (hn : n < 11744)
    (h : j.val < 1024 ∧ n = j.val ∨ (1024 ≤ j.val ∧ j.val < 3072) ∧ n = j.val + 128 ∨ (3072 ≤ j.val ∧ j.val < 5120) ∧ n = j.val + 6624
      ∨ (5120 ≤ j.val ∧ j.val < 5248) ∧ n = j.val - 4096 ∨ (5248 ≤ j.val ∧ j.val < 5536) ∧ n = j.val - 2048) :
    m ((c : Thread nD τ).loc main_arg1) (ix2 k ⟨n, hn⟩) = takeRow (argW m c k) j :=
  (takeRow_of (argW m c k) j ⟨n, hn⟩ h).symm

/-- The host's zero. -/
theorem zero_entry : (FloatOps.sitofp .bf16 (0#32 : BitVec 32) : Ideal .bf16) = (0 : EReal) := by
  show (((0#32 : BitVec 32).toInt : ℝ) : EReal) = 0
  simp

/-- The weight's columns as the host lays them out. -/
theorem columns (k : Fin 1024) (j : Fin 5632) : (V m c main_v14 : Vec Ideal S1024x5632 .bf16) (ix2 k j) = takeRow (argW m c k) j := by
  unfold V
  simp only [List.flatten_cons, List.flatten_nil, List.append_nil]
  after_reads_at
  by_cases h0 : j.val < 1024
  · rw [dif_pos h0]
    after_reads_at
    exact column m c k j _ _ (by omega)
  rw [dif_neg h0]
  by_cases h1 : j.val - 1024 < 1024
  · rw [dif_pos h1]
    after_reads_at
    exact column m c k j _ _ (by omega)
  rw [dif_neg h1]
  by_cases h2 : j.val - 1024 - 1024 < 1024
  · rw [dif_pos h2]
    after_reads_at
    exact column m c k j _ _ (by omega)
  rw [dif_neg h2]
  by_cases h3 : j.val - 1024 - 1024 - 1024 < 1024
  · rw [dif_pos h3]
    after_reads_at
    exact column m c k j _ _ (by omega)
  rw [dif_neg h3]
  by_cases h4 : j.val - 1024 - 1024 - 1024 - 1024 < 1024
  · rw [dif_pos h4]
    after_reads_at
    exact column m c k j _ _ (by omega)
  rw [dif_neg h4]
  by_cases h5 : j.val - 1024 - 1024 - 1024 - 1024 - 1024 < 256
  · rw [dif_pos h5]
    after_reads_at
    rw [dif_pos h5]
    by_cases h6 : j.val - 1024 - 1024 - 1024 - 1024 - 1024 < 64
    · rw [dif_pos h6]
      after_reads_at
      exact column m c k j _ _ (by omega)
    rw [dif_neg h6]
    by_cases h7 : j.val - 1024 - 1024 - 1024 - 1024 - 1024 - 64 < 64
    · rw [dif_pos h7]
      after_reads_at
      exact column m c k j _ _ (by omega)
    rw [dif_neg h7]
    by_cases h8 : j.val - 1024 - 1024 - 1024 - 1024 - 1024 - 64 - 64 < 64
    · rw [dif_pos h8]
      after_reads_at
      exact column m c k j _ _ (by omega)
    rw [dif_neg h8]
    after_reads_at
    exact column m c k j _ _ (by omega)
  rw [dif_neg h5]
  after_reads_at
  by_cases h9 : j.val - 1024 - 1024 - 1024 - 1024 - 1024 - 256 < 160
  · rw [dif_pos h9]
    exact column m c k j _ _ (by omega)
  rw [dif_neg h9, takeRow_end _ _ (by omega)]
  exact zero_entry

/-- The rows. -/
theorem rows (r : Fin 17408) (k : Fin 1024) : (V m c main_v15 : Vec Ideal S17408x1024 .bf16) (ix2 r k) = argH m c (rowSample r) (rowToken r) k := by
  unfold V
  simp only [List.flatten_cons, List.flatten_nil, List.append_nil]
  after_reads_at
  rfl

/-- A block's product. -/
theorem product (x : Vec Ideal S544x1024 .bf16) (w : Vec Ideal S1024x5632 .bf16) (p : Fin 544) (q : Fin 5632) :
    out0_2 x w (ix2 p q) = ∑ k : Fin 1024, (x (ix2 p k) : EReal) * w (ix2 k q) := by
  unfold out0_2
  rw [View.canon_cons_unit_lit _ _ _ (by decide), View.ld_unit_lit _ _ (by decide), View.ld_unit_lit _ _ (by decide)]
  unfold k0_pay1
  pointwise

/-- The blocks of the grid's points. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) := by decide +kernel

theorem read_rows (t : Fin cfg0.N) (p : Fin 544) (k : Fin 1024) (h : 544 * t.val + p.val < 17408) :
    (iblk m c 0 t : Vec Ideal S544x1024 .bf16) (ix2 p k) = (V m c main_v15 : Vec Ideal S17408x1024 .bf16) (ix2 ⟨544 * t.val + p.val, h⟩ k) := by
  obtain ⟨h0, h1⟩ := (idx t).1
  unfold iblk
  rw [View.read_apply]
  show V m c main_v15 _ = _
  congr 1
  funext a
  apply Fin.ext
  match a with
  | ⟨0, _⟩ => show win0_0.index t 0 * 544 + 1 * p.val = 544 * t.val + p.val; rw [h0]; omega
  | ⟨1, _⟩ => show win0_0.index t 1 * 1024 + 1 * k.val = k.val; rw [h1]; omega

theorem read_columns (t : Fin cfg0.N) (k : Fin 1024) (q : Fin 5632) :
    (iblk m c 1 t : Vec Ideal S1024x5632 .bf16) (ix2 k q) = (V m c main_v14 : Vec Ideal S1024x5632 .bf16) (ix2 k q) := by
  obtain ⟨h0, h1⟩ := (idx t).2.1
  unfold iblk
  rw [View.read_apply]
  show V m c main_v14 _ = _
  congr 1
  funext a
  apply Fin.ext
  match a with
  | ⟨0, _⟩ => show win0_1.index t 0 * 1024 + 1 * k.val = k.val; rw [h0]; omega
  | ⟨1, _⟩ => show win0_1.index t 1 * 5632 + 1 * q.val = q.val; rw [h1]; omega

/-- The point that writes a row, and the row's place in its block. -/
def point (r : Fin 17408) : Fin cfg0.N := ⟨r.val / 544, by have h : cfg0.N = 32 := N_0; omega⟩
def place (r : Fin 17408) : Fin 544 := ⟨r.val % 544, Nat.mod_lt _ (by decide)⟩
theorem point_place (r : Fin 17408) : 544 * (point r).val + (place r).val = r.val := Nat.div_add_mod _ _

theorem block_point (r : Fin 17408) (j : Fin 5632) :
    out0_2 (iblk m c 0 (point r)) (iblk m c 1 (point r)) (ix2 (place r) j) = rowMajor (argH m c) (argW m c) r j := by
  rw [product]
  unfold rowMajor
  rw [← sum_takeRow]
  refine Finset.sum_congr rfl fun k _ => ?_
  have hr := point_place r
  rw [read_rows m c (point r) (place r) k (by omega), read_columns, rows, columns,
    show (⟨544 * (point r).val + (place r).val, by omega⟩ : Fin 17408) = r from Fin.ext hr]

/-- The kernel's result. -/
theorem result (r : Fin 17408) (j : Fin 5632) :
    ((dats m 0 c).arrAt 2 cfg0.N : Vec Ideal S17408x5632 .bf16) (ix2 r j) = rowMajor (argH m c) (argW m c) r j := by
  have h := congrFun (Cert.Kernel2Ideal.Value.blocks2 m c (point r) (flush0_2 _)) (ix2 (place r) j)
  rw [Cert.Kernel2Ideal.Value.flushed2] at h
  refine Eq.trans ?_ (h.trans ?_)
  · rw [View.read_apply]
    congr 1
    obtain ⟨h0, h1⟩ := (idx (point r)).2.2
    have hr := point_place r
    funext a
    apply Fin.ext
    match a with
    | ⟨0, _⟩ => show r.val = win0_2.index (point r) 0 * 544 + 1 * (place r).val; rw [h0]; omega
    | ⟨1, _⟩ => show j.val = win0_2.index (point r) 1 * 5632 + 1 * j.val; rw [h1]; omega
  · exact block_point m c r j

section Reference

open Cert.Reference2Ideal.Value

variable (m' : (ℓ : Loc Cert.Reference2Ideal.nD Cert.Reference2Ideal.τ Cert.Reference2Ideal.sig) → Buf (Elt Ideal) ℓ) (d : Dev Cert.Reference2Ideal.nD)

/-- The reference's arguments, by their indices. -/
def refH (i : Fin 4) (t : Fin 4352) (k : Fin 1024) : EReal := m' ((d.tc : Thread Cert.Reference2Ideal.nD Cert.Reference2Ideal.τ).loc Cert.Reference2Ideal.main_arg0) (ix3 i t k)
def refW (k : Fin 1024) (s : Fin 11744) : EReal := m' ((d.tc : Thread Cert.Reference2Ideal.nD Cert.Reference2Ideal.τ).loc Cert.Reference2Ideal.main_arg1) (ix2 k s)

theorem refColumn (r : Fin 17408) (j : Fin 5632) (n : ℕ) (hn : n < 11744)
    (h : j.val < 1024 ∧ n = j.val ∨ (1024 ≤ j.val ∧ j.val < 3072) ∧ n = j.val + 128 ∨ (3072 ≤ j.val ∧ j.val < 5120) ∧ n = j.val + 6624
      ∨ (5120 ≤ j.val ∧ j.val < 5248) ∧ n = j.val - 4096 ∨ (5248 ≤ j.val ∧ j.val < 5536) ∧ n = j.val - 2048) :
    ∑ k, refH m' d (rowSample r) (rowToken r) k * refW m' d k ⟨n, hn⟩ = rowMajor (refH m' d) (refW m' d) r j :=
  (takeRow_of (fun s => ∑ k, refH m' d (rowSample r) (rowToken r) k * refW m' d k s) j ⟨n, hn⟩ h).symm

/-- The reference's result. -/
theorem reference (r : Fin 17408) (j : Fin 5632) : (res_main_v18 m' d : Vec Ideal S17408x5632 .bf16) (ix2 r j) = rowMajor (refH m' d) (refW m' d) r j := by
  unfold res_main_v18
  pointwise
  by_cases h0 : j.val < 1024
  · rw [dif_pos h0]; exact refColumn m' d r j _ _ (by omega)
  rw [dif_neg h0]
  by_cases h1 : j.val - 1024 < 1024
  · rw [dif_pos h1]; exact refColumn m' d r j _ _ (by omega)
  rw [dif_neg h1]
  by_cases h2 : j.val - 1024 - 1024 < 1024
  · rw [dif_pos h2]; exact refColumn m' d r j _ _ (by omega)
  rw [dif_neg h2]
  by_cases h3 : j.val - 1024 - 1024 - 1024 < 1024
  · rw [dif_pos h3]; exact refColumn m' d r j _ _ (by omega)
  rw [dif_neg h3]
  by_cases h4 : j.val - 1024 - 1024 - 1024 - 1024 < 1024
  · rw [dif_pos h4]; exact refColumn m' d r j _ _ (by omega)
  rw [dif_neg h4]
  by_cases h5 : j.val - 1024 - 1024 - 1024 - 1024 - 1024 < 64
  · rw [dif_pos h5]; exact refColumn m' d r j _ _ (by omega)
  rw [dif_neg h5]
  by_cases h6 : j.val - 1024 - 1024 - 1024 - 1024 - 1024 - 64 < 64
  · rw [dif_pos h6]; exact refColumn m' d r j _ _ (by omega)
  rw [dif_neg h6]
  by_cases h7 : j.val - 1024 - 1024 - 1024 - 1024 - 1024 - 64 - 64 < 64
  · rw [dif_pos h7]; exact refColumn m' d r j _ _ (by omega)
  rw [dif_neg h7]
  by_cases h8 : j.val - 1024 - 1024 - 1024 - 1024 - 1024 - 64 - 64 - 64 < 64
  · rw [dif_pos h8]; exact refColumn m' d r j _ _ (by omega)
  rw [dif_neg h8]
  by_cases h9 : j.val - 1024 - 1024 - 1024 - 1024 - 1024 - 64 - 64 - 64 - 64 < 160
  · rw [dif_pos h9]; exact refColumn m' d r j _ _ (by omega)
  rw [dif_neg h9]
  exact (takeRow_end _ _ (by omega)).symm

end Reference

/-- Every index of the result is a row and a column. -/
theorem same (x : S17408x5632.Idx) (m' : (ℓ : Loc Cert.Reference2Ideal.nD Cert.Reference2Ideal.τ Cert.Reference2Ideal.sig) → Buf (Elt Ideal) ℓ)
    (hH : refH m' c = argH m c) (hW : refW m' c = argW m c) :
    (Cert.Reference2Ideal.Value.res_main_v18 m' c : Vec Ideal S17408x5632 .bf16) x = ((dats m 0 c).arrAt 2 cfg0.N : Vec Ideal S17408x5632 .bf16) x := by
  have hx : x = ix2 (x 0) (x 1) := by
    funext a
    match a with
    | ⟨0, _⟩ => rfl
    | ⟨1, _⟩ => rfl
  rw [hx]
  exact (reference m' c (x 0) (x 1)).trans ((congrArg₂ (fun h w => rowMajor h w (x 0) (x 1)) hH hW).trans (result m c (x 0) (x 1)).symm)

end Cert.Proof.Project2
-- ==== Proof.Project3.lean ====
module

public import proofs.«01_k».proof.Proof.Project
public import proofs.«01_k».proof.Proof.Gen.Kernel3Ideal.Value
public import proofs.«01_k».proof.Proof.Gen.Reference3Ideal.Run
public import Idealize.ShloMosaic.Lib.StableHlo.ReadAt
public import Idealize.ShloMosaic.Lib.Pointwise
public import Idealize.ShloMosaic.Lib.Pipeline.ValueKit.Basic
public import Idealize.ShloMosaic.Adequacy
public import Idealize.ShloMosaic.Init

@[expose] public section

set_option maxRecDepth 16384

noncomputable section

/-! The column-major part of the input projection, kernel and reference. -/

namespace Cert.Proof.Project3

open Cert.Kernel3Ideal Cert.Kernel3Ideal.Gen Idealize.ShloMosaic Idealize.ShloMosaic.TcCoe Idealize.SL.Sem
open Cert.Proof.Project

variable (m : (ℓ : Loc nD τ sig) → Buf (Elt Ideal) ℓ) (c : Dev nD)

/-- The kernel's arguments, by their indices. -/
def argH (i : Fin 4) (t : Fin 4352) (k : Fin 1024) : EReal := m ((c : Thread nD τ).loc main_arg0) (ix3 i t k)
def argW (k : Fin 1024) (s : Fin 11744) : EReal := m ((c : Thread nD τ).loc main_arg1) (ix2 k s)

theorem column (k : Fin 1024) (j : Fin 6272) (n : ℕ) (hn : n < 11744)
    (h : j.val < 4096 ∧ n = j.val + 5536 ∨ (4096 ≤ j.val ∧ j.val < 6144) ∧ n = j.val - 608 ∨ (6144 ≤ j.val ∧ j.val < 6208) ∧ n = j.val + 3488) :
    m ((c : Thread nD τ).loc main_arg1) (ix2 k ⟨n, hn⟩) = takeCol (argW m c k) j :=
  (takeCol_of (argW m c k) j ⟨n, hn⟩ h).symm

/-- The host's zero. -/
theorem zero_entry : (FloatOps.sitofp .bf16 (0#32 : BitVec 32) : Ideal .bf16) = (0 : EReal) := by
  show (((0#32 : BitVec 32).toInt : ℝ) : EReal) = 0
  simp

/-- The weight's columns as the host lays them out. -/
theorem columns (k : Fin 1024) (j : Fin 6272) : (V m c main_v5 : Vec Ideal S1024x6272 .bf16) (ix2 k j) = takeCol (argW m c k) j := by
  unfold V
  simp only [List.flatten_cons, List.flatten_nil, List.append_nil]
  after_reads_at
  by_cases h0 : j.val < 4096
  · rw [dif_pos h0]
    after_reads_at
    exact column m c k j _ _ (by omega)
  rw [dif_neg h0]
  by_cases h1 : j.val - 4096 < 2048
  · rw [dif_pos h1]
    after_reads_at
    exact column m c k j _ _ (by omega)
  rw [dif_neg h1]
  after_reads_at
  by_cases h2 : j.val - 4096 - 2048 < 64
  · rw [dif_pos h2]
    exact column m c k j _ _ (by omega)
  rw [dif_neg h2, takeCol_end _ _ (by omega)]
  exact zero_entry

/-- The rows. -/
theorem rows (r : Fin 17408) (k : Fin 1024) : (V m c main_v12 : Vec Ideal S17408x1024 .bf16) (ix2 r k) = argH m c (rowSample r) (colToken (rowToken r)) k := by
  unfold V
  simp only [List.flatten_cons, List.flatten_nil, List.append_nil]
  after_reads_at
  by_cases h0 : r.val % 4352 < 256
  · rw [dif_pos h0]
    after_reads_at
    exact congrArg (fun t => argH m c (rowSample r) t k) (colToken_near r h0)
  rw [dif_neg h0]
  after_reads_at
  exact congrArg (fun t => argH m c (rowSample r) t k) (colToken_far r h0)

/-- A block's product. -/
theorem product (x : Vec Ideal S544x1024 .bf16) (w : Vec Ideal S1024x6272 .bf16) (p : Fin 544) (q : Fin 6272) :
    out0_2 x w (ix2 p q) = ∑ k : Fin 1024, (x (ix2 p k) : EReal) * w (ix2 k q) := by
  unfold out0_2
  rw [View.canon_cons_unit_lit _ _ _ (by decide), View.ld_unit_lit _ _ (by decide), View.ld_unit_lit _ _ (by decide)]
  unfold k0_pay1
  pointwise

/-- The blocks of the grid's points. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) := by decide +kernel

theorem read_rows (t : Fin cfg0.N) (p : Fin 544) (k : Fin 1024) (h : 544 * t.val + p.val < 17408) :
    (iblk m c 0 t : Vec Ideal S544x1024 .bf16) (ix2 p k) = (V m c main_v12 : Vec Ideal S17408x1024 .bf16) (ix2 ⟨544 * t.val + p.val, h⟩ k) := by
  obtain ⟨h0, h1⟩ := (idx t).1
  unfold iblk
  rw [View.read_apply]
  show V m c main_v12 _ = _
  congr 1
  funext a
  apply Fin.ext
  match a with
  | ⟨0, _⟩ => show win0_0.index t 0 * 544 + 1 * p.val = 544 * t.val + p.val; rw [h0]; omega
  | ⟨1, _⟩ => show win0_0.index t 1 * 1024 + 1 * k.val = k.val; rw [h1]; omega

theorem read_columns (t : Fin cfg0.N) (k : Fin 1024) (q : Fin 6272) :
    (iblk m c 1 t : Vec Ideal S1024x6272 .bf16) (ix2 k q) = (V m c main_v5 : Vec Ideal S1024x6272 .bf16) (ix2 k q) := by
  obtain ⟨h0, h1⟩ := (idx t).2.1
  unfold iblk
  rw [View.read_apply]
  show V m c main_v5 _ = _
  congr 1
  funext a
  apply Fin.ext
  match a with
  | ⟨0, _⟩ => show win0_1.index t 0 * 1024 + 1 * k.val = k.val; rw [h0]; omega
  | ⟨1, _⟩ => show win0_1.index t 1 * 6272 + 1 * q.val = q.val; rw [h1]; omega

/-- The point that writes a row, and the row's place in its block. -/
def point (r : Fin 17408) : Fin cfg0.N := ⟨r.val / 544, by have h : cfg0.N = 32 := N_0; omega⟩
def place (r : Fin 17408) : Fin 544 := ⟨r.val % 544, Nat.mod_lt _ (by decide)⟩
theorem point_place (r : Fin 17408) : 544 * (point r).val + (place r).val = r.val := Nat.div_add_mod _ _

theorem block_point (r : Fin 17408) (j : Fin 6272) :
    out0_2 (iblk m c 0 (point r)) (iblk m c 1 (point r)) (ix2 (place r) j) = colMajor (argH m c) (argW m c) r j := by
  rw [product]
  unfold colMajor
  rw [← sum_takeCol]
  refine Finset.sum_congr rfl fun k _ => ?_
  have hr := point_place r
  rw [read_rows m c (point r) (place r) k (by omega), read_columns, rows, columns,
    show (⟨544 * (point r).val + (place r).val, by omega⟩ : Fin 17408) = r from Fin.ext hr]

/-- The kernel's result. -/
theorem result (r : Fin 17408) (j : Fin 6272) :
    ((dats m 0 c).arrAt 2 cfg0.N : Vec Ideal S17408x6272 .bf16) (ix2 r j) = colMajor (argH m c) (argW m c) r j := by
  have h := congrFun (Cert.Kernel3Ideal.Value.blocks2 m c (point r) (flush0_2 _)) (ix2 (place r) j)
  rw [Cert.Kernel3Ideal.Value.flushed2] at h
  refine Eq.trans ?_ (h.trans ?_)
  · rw [View.read_apply]
    congr 1
    obtain ⟨h0, h1⟩ := (idx (point r)).2.2
    have hr := point_place r
    funext a
    apply Fin.ext
    match a with
    | ⟨0, _⟩ => show r.val = win0_2.index (point r) 0 * 544 + 1 * (place r).val; rw [h0]; omega
    | ⟨1, _⟩ => show j.val = win0_2.index (point r) 1 * 6272 + 1 * j.val; rw [h1]; omega
  · exact block_point m c r j

section Reference

open Cert.Reference3Ideal.Value

variable (m' : (ℓ : Loc Cert.Reference3Ideal.nD Cert.Reference3Ideal.τ Cert.Reference3Ideal.sig) → Buf (Elt Ideal) ℓ) (d : Dev Cert.Reference3Ideal.nD)

/-- The reference's arguments, by their indices. -/
def refH (i : Fin 4) (t : Fin 4352) (k : Fin 1024) : EReal := m' ((d.tc : Thread Cert.Reference3Ideal.nD Cert.Reference3Ideal.τ).loc Cert.Reference3Ideal.main_arg0) (ix3 i t k)
def refW (k : Fin 1024) (s : Fin 11744) : EReal := m' ((d.tc : Thread Cert.Reference3Ideal.nD Cert.Reference3Ideal.τ).loc Cert.Reference3Ideal.main_arg1) (ix2 k s)

theorem refColumn (r : Fin 17408) (j : Fin 6272) (n : ℕ) (hn : n < 11744) (t : Fin 4352) (ht : t = colToken (rowToken r))
    (h : j.val < 4096 ∧ n = j.val + 5536 ∨ (4096 ≤ j.val ∧ j.val < 6144) ∧ n = j.val - 608 ∨ (6144 ≤ j.val ∧ j.val < 6208) ∧ n = j.val + 3488) :
    ∑ k, refH m' d (rowSample r) t k * refW m' d k ⟨n, hn⟩ = colMajor (refH m' d) (refW m' d) r j := by
  subst ht
  exact (takeCol_of (fun s => ∑ k, refH m' d (rowSample r) (colToken (rowToken r)) k * refW m' d k s) j ⟨n, hn⟩ h).symm

/-- The reference's result. -/
theorem run_rows (g' : Dev Cert.Reference3Ideal.nD → PrngReg) :
    θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
      (∀ (i : Fin 17408) (j : Fin 6272), (r.2.mem ((c.tc : Thread Cert.Reference3Ideal.nD Cert.Reference3Ideal.τ).loc Cert.Reference3Ideal.main_v17) : Vec Ideal Cert.Reference3Ideal.S17408x6272 .bf16) (ix2 i j) = colMajor (refH m' c) (refW m' c) i j)
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)) := by
  refine (θ_run _ _ _).mono (fun r h c => ⟨fun i j => ?_, (h c).2.1, (h c).2.2⟩) (Cert.Reference3Ideal.Value.run m' g')
  refine (congrFun (h c).1 (ix2 i j)).trans ?_
  pointwise
  have near (h : i.val % 4352 < 256) := colToken_near i h
  have far (h : ¬ i.val % 4352 < 256) := colToken_far i h
  by_cases h0 : j.val < 4096
  · rw [dif_pos h0]
    by_cases h : i.val % 4352 < 256
    · rw [dif_pos h]; exact refColumn m' c i j _ _ _ (near h) (by omega)
    · rw [dif_neg h]; exact refColumn m' c i j _ _ _ (far h) (by omega)
  rw [dif_neg h0]
  by_cases h1 : j.val - 4096 < 2048
  · rw [dif_pos h1]
    by_cases h : i.val % 4352 < 256
    · rw [dif_pos h]; exact refColumn m' c i j _ _ _ (near h) (by omega)
    · rw [dif_neg h]; exact refColumn m' c i j _ _ _ (far h) (by omega)
  rw [dif_neg h1]
  by_cases h2 : j.val - 4096 - 2048 < 64
  · rw [dif_pos h2]
    by_cases h : i.val % 4352 < 256
    · rw [dif_pos h]; exact refColumn m' c i j _ _ _ (near h) (by omega)
    · rw [dif_neg h]; exact refColumn m' c i j _ _ _ (far h) (by omega)
  rw [dif_neg h2]
  exact (takeCol_end _ _ (by omega)).symm

end Reference

/-- Every index of the result is a row and a column. -/
theorem same (y : Vec Ideal Cert.Reference3Ideal.S17408x6272 .bf16) (m' : (ℓ : Loc Cert.Reference3Ideal.nD Cert.Reference3Ideal.τ Cert.Reference3Ideal.sig) → Buf (Elt Ideal) ℓ)
    (hy : ∀ (i : Fin 17408) (j : Fin 6272), y (ix2 i j) = colMajor (refH m' c) (refW m' c) i j)
    (hH : refH m' c = argH m c) (hW : refW m' c = argW m c) :
    y = ((dats m 0 c).arrAt 2 cfg0.N : Vec Ideal Cert.Kernel3Ideal.S17408x6272 .bf16) := by
  funext x
  have hx : x = ix2 (x 0) (x 1) := by
    funext a
    match a with
    | ⟨0, _⟩ => rfl
    | ⟨1, _⟩ => rfl
  rw [hx]
  exact (hy (x 0) (x 1)).trans ((congrArg₂ (fun h w => colMajor h w (x 0) (x 1)) hH hW).trans (result m c (x 0) (x 1)).symm)

end Cert.Proof.Project3
-- ==== Proof.Gate.lean ====
module

public import proofs.«01_k».proof.Proof.Gen.Kernel4Ideal.Frame
public import Idealize.ShloMosaic.Lib.Pointwise
public import Idealize.ShloMosaic.Lib.WholeRead
public import Idealize.ShloMosaic.Lib.Pipeline.ValueKit.Basic

@[expose] public section

set_option maxRecDepth 16384

noncomputable section

/-! The gated norm and its projection: the mathematics, and what one block of the kernel leaves. -/

namespace Cert.Proof.Gate

open Cert.Kernel4Ideal Cert.Kernel4Ideal.Gen Idealize.ShloMosaic Idealize.ShloMosaic.TcCoe Idealize.SL.Sem

/-- A gated entry: the two scans' results and the skip term, times the gate. -/
def gated (a b d x z : EReal) : EReal := (a + b + d * x) * (z * Ideal.logistic z)

/-- The column of a group. -/
def member (x : Fin 2048) (u : Fin 256) : Fin 2048 := ⟨x.val / 256 * 256 + u.val, by omega⟩

/-- A row normalised group by group, weighted and projected on a column. -/
def normed (y nw w : Fin 2048 → EReal) : EReal :=
  ∑ x, y x * Ideal.rsqrt (Ideal.div (∑ u, y (member x u) * y (member x u)) (Ideal.ofBits FTy.f32 1132462080#32) + Ideal.ofBits FTy.f32 925353388#32) * nw x * w x

theorem word_width : Ideal.ofBits FTy.f32 1132462080#32 = ((256 : ℝ) : EReal) := by
  simp [Ideal.ofBits, Ideal.ieee]
  rw [← EReal.coe_mul]
  norm_num

theorem word_part : Ideal.ofBits FTy.f32 998244352#32 = ((1 / 256 : ℝ) : EReal) := by
  simp [Ideal.ofBits, Ideal.ieee]
  rw [← EReal.coe_mul]
  norm_num

/-- A mean is a quotient or a product. -/
theorem mean_eq (x : EReal) : x * Ideal.ofBits FTy.f32 998244352#32 = Ideal.div x (Ideal.ofBits FTy.f32 1132462080#32) := by
  rw [word_width, word_part, Ideal.div_coe (by norm_num)]

/-- Being a real number. -/
def IsNum (x : EReal) : Prop := ∃ r : ℝ, x = (r : EReal)

theorem IsNum.add {x y : EReal} : IsNum x → IsNum y → IsNum (x + y) := by
  rintro ⟨r, rfl⟩ ⟨s, rfl⟩
  exact ⟨r + s, (EReal.coe_add r s).symm⟩

theorem IsNum.mul {x y : EReal} : IsNum x → IsNum y → IsNum (x * y) := by
  rintro ⟨r, rfl⟩ ⟨s, rfl⟩
  exact ⟨r * s, (EReal.coe_mul r s).symm⟩

theorem IsNum.sub_self {x : EReal} : IsNum x → x - x = 0 := by
  rintro ⟨r, rfl⟩
  rw [← EReal.coe_sub, _root_.sub_self, EReal.coe_zero]

/-- The gate of anything below the top is a real number. -/
theorem gate_real {z : EReal} (h : z < ⊤) : IsNum (z * Ideal.logistic z) := by
  induction z with
  | bot =>
    refine ⟨0, ?_⟩
    unfold Ideal.logistic
    rw [EReal.neg_bot, show Ideal.exp ⊤ = ⊤ from rfl, show (1 : EReal) + ⊤ = ⊤ from rfl]
    simp [Ideal.div]
  | top => exact absurd h (lt_irrefl _)
  | coe r =>
    refine IsNum.mul ⟨r, rfl⟩ ⟨(1 : ℝ) * (1 / (1 + Real.exp (-r))), ?_⟩
    unfold Ideal.logistic
    rw [show -(r : EReal) = ((-r : ℝ) : EReal) from (EReal.coe_neg r).symm, show Ideal.exp ((-r : ℝ) : EReal) = ((Real.exp (-r) : ℝ) : EReal) from rfl,
      ← EReal.coe_one, ← EReal.coe_add, Ideal.div_coe (by positivity), EReal.coe_mul]

theorem gated_real {a b d x z : EReal} (ha : IsNum a) (hb : IsNum b) (hd : IsNum d) (hx : IsNum x) (hz : z < ⊤) : IsNum (gated a b d x z) :=
  ((ha.add hb).add (hd.mul hx)).mul (gate_real hz)

/-- A product in three parts adds up to the plain sum where every term is a real number. -/
theorem three_sums (f t : Fin 256 → EReal) (ht : ∀ u, t u = 1) (hf : ∀ u, IsNum (f u)) :
    ∑ u, f u * t u + ∑ u, (f u - f u) * t u + ∑ u, (f u - f u - (f u - f u)) * t u = ∑ u, f u := by
  have h0 : ∀ u, f u - f u = 0 := fun u => (hf u).sub_self
  simp [ht, h0]

/-- The group of a lane: every lane is of the first. -/
def lane (k : Fin 256) : BitVec 32 :=
  Scalar.select
    (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 256#32 0#32))
          (Scalar.extui (Scalar.cmpi CmpIPredicate.slt 256#32 0#32))))
      (IntOp.cmpi CmpIPredicate.ne (IntOp.remsi ArithUnit.vector (BitVec.ofNat 32 k.val) 256#32) 0#32))
    (IntOp.subi (IntOp.divsi ArithUnit.vector (BitVec.ofNat 32 k.val) 256#32) 1#32)
    (IntOp.divsi ArithUnit.vector (BitVec.ofNat 32 k.val) 256#32)

theorem lane_zero : ∀ k, lane k = 0#32 := by decide +kernel

/-- The table that sums a group. -/
def table : FVec Ideal S256x256 .bf16 := k0_pay7 k0_pay4 k0_pay5 k0_pay6

theorem table_one (k l : Fin 256) : table (ix2 k l) = (1 : EReal) := by
  unfold table k0_pay7 k0_pay4 k0_pay5 k0_pay6
  pointwise
  show (FloatOps.sitofp FTy.f32 (BitVec.setWidth 32 (IntOp.cmpi CmpIPredicate.eq (lane k) (lane l))) : Ideal .f32) = (1 : EReal)
  rw [lane_zero, lane_zero]
  show (((BitVec.setWidth 32 (IntOp.cmpi CmpIPredicate.eq (0#32 : BitVec 32) 0#32)).toInt : ℝ) : EReal) = 1
  rw [show (BitVec.setWidth 32 (IntOp.cmpi CmpIPredicate.eq (0#32 : BitVec 32) 0#32)).toInt = 1 by decide]
  simp

/-- A group's sum, by the number of its first column. -/
def sumFrom (x : FVec Ideal S272x2048 .f32) (p : Fin 272) (n : ℕ) (hn : n + 256 ≤ 2048) : EReal := ∑ u : Fin 256, (x (ix2 p ⟨n + u.val, by omega⟩) : EReal)

section Groups
variable (x : FVec Ideal S272x2048 .f32) (hx : ∀ p k, IsNum (x (ix2 p k))) (p : Fin 272) (l : Fin 256)
include hx

theorem sum_from (n : ℕ) (hn : n + 256 ≤ 2048) :
    ∑ u : Fin 256, (x (ix2 p ⟨n + u.val, by omega⟩) : EReal) * table (ix2 u l)
      + ∑ u : Fin 256, ((x (ix2 p ⟨n + u.val, by omega⟩) : EReal) - x (ix2 p ⟨n + u.val, by omega⟩)) * table (ix2 u l)
      + ∑ u : Fin 256, ((x (ix2 p ⟨n + u.val, by omega⟩) : EReal) - x (ix2 p ⟨n + u.val, by omega⟩) - ((x (ix2 p ⟨n + u.val, by omega⟩) : EReal) - x (ix2 p ⟨n + u.val, by omega⟩))) * table (ix2 u l)
      = sumFrom x p n hn :=
  three_sums (fun u => x (ix2 p ⟨n + u.val, by omega⟩)) (fun u => table (ix2 u l)) (fun u => table_one u l) (fun _ => hx p _)

theorem group_0 : k0_pay12 x k0_pay4 k0_pay5 k0_pay6 (ix2 p l) = sumFrom x p 0 (by decide) := by
  refine Eq.trans ?_ ((three_sums (fun u => x (ix2 p ⟨u.val, by omega⟩)) (fun u => table (ix2 u l)) (fun u => table_one u l) (fun _ => hx p _)).trans ?_)
  · unfold k0_pay12 k0_pay11 k0_pay10 k0_pay9 k0_pay8
    pointwise
    rfl
  · exact Finset.sum_congr rfl fun u _ => congrArg (fun k => x (ix2 p k)) (Fin.ext (Nat.zero_add _).symm)

theorem group_1 : k0_pay14 table (k0_pay10 x) (k0_pay11 x) (k0_pay13 x) (ix2 p l) = sumFrom x p 256 (by decide) := by
  rw [← sum_from x hx p l]
  unfold k0_pay14 k0_pay13 k0_pay11 k0_pay10 k0_pay9 k0_pay8
  pointwise

theorem group_2 : k0_pay15 table (k0_pay8 x) (k0_pay10 x) (k0_pay11 x) (ix2 p l) = sumFrom x p 512 (by decide) := by
  rw [← sum_from x hx p l]
  unfold k0_pay15 k0_pay11 k0_pay10 k0_pay9 k0_pay8
  pointwise

theorem group_3 : k0_pay16 table (k0_pay8 x) (k0_pay10 x) (k0_pay11 x) (ix2 p l) = sumFrom x p 768 (by decide) := by
  rw [← sum_from x hx p l]
  unfold k0_pay16 k0_pay11 k0_pay10 k0_pay9 k0_pay8
  pointwise

theorem group_4 : k0_pay17 table (k0_pay8 x) (k0_pay10 x) (k0_pay11 x) (ix2 p l) = sumFrom x p 1024 (by decide) := by
  rw [← sum_from x hx p l]
  unfold k0_pay17 k0_pay11 k0_pay10 k0_pay9 k0_pay8
  pointwise

theorem group_5 : k0_pay18 table (k0_pay8 x) (k0_pay10 x) (k0_pay11 x) (ix2 p l) = sumFrom x p 1280 (by decide) := by
  rw [← sum_from x hx p l]
  unfold k0_pay18 k0_pay11 k0_pay10 k0_pay9 k0_pay8
  pointwise

theorem group_6 : (k0_pay19 table (k0_pay8 x) (ix2 p l) : EReal) + k0_pay20 table (k0_pay10 x) (ix2 p l) + ∑ u : Fin 256, (k0_pay11 x (ix2 p ⟨1536 + u.val, by omega⟩) : EReal) * table (ix2 u l)
      = sumFrom x p 1536 (by decide) := by
  rw [← sum_from x hx p l]
  unfold k0_pay20 k0_pay19 k0_pay11 k0_pay10 k0_pay9 k0_pay8
  pointwise

theorem group_7 : ∑ u : Fin 256, (k0_pay8 x (ix2 p ⟨1792 + u.val, by omega⟩) : EReal) * table (ix2 u l) + ∑ u : Fin 256, (k0_pay10 x (ix2 p ⟨1792 + u.val, by omega⟩) : EReal) * table (ix2 u l)
      + ∑ u : Fin 256, (k0_pay11 x (ix2 p ⟨1792 + u.val, by omega⟩) : EReal) * table (ix2 u l) = sumFrom x p 1792 (by decide) := by
  rw [← sum_from x hx p l]
  unfold k0_pay11 k0_pay10 k0_pay9 k0_pay8
  pointwise

end Groups

/-- A block's result from its gated entries. -/
def blockOf (y : FVec Ideal S272x2048 .f32) (x : FVec Ideal S272x2048 .f32) (nw : Vec Ideal S1x2048 .f32) (w : Vec Ideal S2048x1024 .bf16) : FVec Ideal S272x1024 .bf16 :=
  k0_pay1 y (k0_pay7 k0_pay4 k0_pay5 k0_pay6) (k0_pay8 x) (k0_pay10 x) (k0_pay11 x) (k0_pay12 x k0_pay4 k0_pay5 k0_pay6)
    (k0_pay14 (k0_pay7 k0_pay4 k0_pay5 k0_pay6) (k0_pay10 x) (k0_pay11 x) (k0_pay13 x))
    (k0_pay15 (k0_pay7 k0_pay4 k0_pay5 k0_pay6) (k0_pay8 x) (k0_pay10 x) (k0_pay11 x))
    (k0_pay16 (k0_pay7 k0_pay4 k0_pay5 k0_pay6) (k0_pay8 x) (k0_pay10 x) (k0_pay11 x))
    (k0_pay17 (k0_pay7 k0_pay4 k0_pay5 k0_pay6) (k0_pay8 x) (k0_pay10 x) (k0_pay11 x))
    (k0_pay18 (k0_pay7 k0_pay4 k0_pay5 k0_pay6) (k0_pay8 x) (k0_pay10 x) (k0_pay11 x))
    (k0_pay19 (k0_pay7 k0_pay4 k0_pay5 k0_pay6) (k0_pay8 x)) (k0_pay20 (k0_pay7 k0_pay4 k0_pay5 k0_pay6) (k0_pay10 x)) nw w

theorem sum_member (x : FVec Ideal S272x2048 .f32) (p : Fin 272) (k : Fin 2048) (n : ℕ) (hn : n + 256 ≤ 2048) (h : n = k.val / 256 * 256) :
    sumFrom x p n hn = ∑ u, (x (ix2 p (member k u)) : EReal) := by
  subst h
  rfl

theorem block_normed (y x : FVec Ideal S272x2048 .f32) (hx : ∀ p k, IsNum (x (ix2 p k))) (hy : ∀ p k, x (ix2 p k) = (y (ix2 p k) : EReal) * y (ix2 p k))
    (nw : Vec Ideal S1x2048 .f32) (w : Vec Ideal S2048x1024 .bf16) (p : Fin 272) (q : Fin 1024) :
    blockOf y x nw w (ix2 p q) = normed (fun k => y (ix2 p k)) (fun k => nw (ix2 0 k)) (fun k => w (ix2 k q)) := by
  have key (k : Fin 2048) (s : EReal) (n : ℕ) (hn : n + 256 ≤ 2048) (hs : s = sumFrom x p n hn) (h : n = k.val / 256 * 256) :
      s * Ideal.ofBits FTy.f32 998244352#32 = Ideal.div (∑ u, (y (ix2 p (member k u)) : EReal) * y (ix2 p (member k u))) (Ideal.ofBits FTy.f32 1132462080#32) := by
    rw [hs, sum_member x p k n hn h, mean_eq]
    simp only [hy]
  unfold blockOf
  rw [show k0_pay7 (F := Ideal) k0_pay4 k0_pay5 k0_pay6 = table from rfl]
  unfold k0_pay1 normed
  pointwise
  refine Finset.sum_congr rfl fun k _ => ?_
  congr 5
  by_cases h0 : k.val < 256
  · rw [dif_pos h0]; exact key k _ _ _ (group_0 x hx p _) (by omega)
  rw [dif_neg h0]
  by_cases h1 : k.val - 256 < 256
  · rw [dif_pos h1]; exact key k _ _ _ (group_1 x hx p _) (by omega)
  rw [dif_neg h1]
  by_cases h2 : k.val - 256 - 256 < 256
  · rw [dif_pos h2]; exact key k _ _ _ (group_2 x hx p _) (by omega)
  rw [dif_neg h2]
  by_cases h3 : k.val - 256 - 256 - 256 < 256
  · rw [dif_pos h3]; exact key k _ _ _ (group_3 x hx p _) (by omega)
  rw [dif_neg h3]
  by_cases h4 : k.val - 256 - 256 - 256 - 256 < 256
  · rw [dif_pos h4]; exact key k _ _ _ (group_4 x hx p _) (by omega)
  rw [dif_neg h4]
  by_cases h5 : k.val - 256 - 256 - 256 - 256 - 256 < 256
  · rw [dif_pos h5]; exact key k _ _ _ (group_5 x hx p _) (by omega)
  rw [dif_neg h5]
  by_cases h6 : k.val - 256 - 256 - 256 - 256 - 256 - 256 < 256
  · rw [dif_pos h6]; exact key k _ _ _ (group_6 x hx p _) (by omega)
  rw [dif_neg h6]
  exact key k _ _ _ (group_7 x hx p _) (by omega)

/-- A gated entry of a block. -/
theorem gated_block (v0 v3 v9 v15 : Vec Ideal S272x2048 .bf16) (v7 : Vec Ideal S1x2048 .f32) (p : Fin 272) (k : Fin 2048) :
    k0_pay2 v0 v3 v7 v9 v15 (ix2 p k) = gated (v0 (ix2 p k)) (v3 (ix2 p k)) (v7 (ix2 0 k)) (v9 (ix2 p k)) (v15 (ix2 p k)) := by
  unfold k0_pay2 gated
  pointwise

section Run
variable (c : Dev nD) (i : grid0.Coords) (arg1 : Memref sig .tc .vmem S272x2048 .bf16) (harg1 : arg1.IsWhole) (arg2 : Memref sig .tc .vmem S272x2048 .bf16) (harg2 : arg2.IsWhole) (arg3 : Memref sig .tc .vmem S272x2048 .bf16) (harg3 : arg3.IsWhole) (arg4 : Memref sig .tc .vmem S272x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S272x1024 .bf16) (harg8 : arg8.IsWhole)
  (x0 x1 x2 x3 : Vec Ideal S272x2048 .bf16) (x4 x5 : Vec Ideal S1x2048 .f32) (x6 : Vec Ideal S2048x1024 .bf16)

/-- Whole-buffer loads. -/
def ldRows (a : Memref sig .tc .vmem S272x2048 .bf16) (ha : a.IsWhole) (x : Vec Ideal S272x2048 .bf16) : Vec Ideal S272x2048 .bf16 :=
  View.readAt (Elt Ideal) a.view (Rect.unit (s := S272x2048) ![0, 0] S272x2048.size inb_S272x2048_S272x2048_0_0).toLoadRect (ha.unread x)
def ldLine (a : Memref sig .tc .vmem S1x2048 .f32) (ha : a.IsWhole) (x : Vec Ideal S1x2048 .f32) : Vec Ideal S1x2048 .f32 :=
  View.readAt (Elt Ideal) a.view (Rect.unit (s := S1x2048) ![0, 0] S1x2048.size inb_S1x2048_S1x2048_0_0).toLoadRect (ha.unread x)
def ldWeight (a : Memref sig .tc .vmem S2048x1024 .bf16) (ha : a.IsWhole) (x : Vec Ideal S2048x1024 .bf16) : Vec Ideal S2048x1024 .bf16 :=
  View.readAt (Elt Ideal) a.view (Rect.unit (s := S2048x1024) ![0, 0] S2048x1024.size inb_S2048x1024_S2048x1024_0_0).toLoadRect (ha.unread x)

theorem ldRows_eq (a : Memref sig .tc .vmem S272x2048 .bf16) (ha : a.IsWhole) (x : Vec Ideal S272x2048 .bf16) (p : Fin 272) (k : Fin 2048) : ldRows a ha x (ix2 p k) = x (ix2 p k) := by
  unfold ldRows
  rw [Memref.IsWhole.readAt_unread]
  congr 1
  pointwise
theorem ldLine_eq (a : Memref sig .tc .vmem S1x2048 .f32) (ha : a.IsWhole) (x : Vec Ideal S1x2048 .f32) (k : Fin 2048) : ldLine a ha x (ix2 0 k) = x (ix2 0 k) := by
  unfold ldLine
  rw [Memref.IsWhole.readAt_unread]
  congr 1
  pointwise
theorem ldWeight_eq (a : Memref sig .tc .vmem S2048x1024 .bf16) (ha : a.IsWhole) (x : Vec Ideal S2048x1024 .bf16) (k : Fin 2048) (q : Fin 1024) : ldWeight a ha x (ix2 k q) = x (ix2 k q) := by
  unfold ldWeight
  rw [Memref.IsWhole.readAt_unread]
  congr 1
  pointwise

/-- The run stores one piece, the whole block. -/
theorem pieces :
    (kernelRun0_A c i arg1 harg1 arg2 harg2 arg3 harg3 arg4 harg4 arg5 harg5 arg6 harg6 arg7 harg7 arg8 harg8 x0 x1 x2 x3 x4 x5 x6).1
      = [⟨Rect.unit (s := S272x1024) ![0, 0] S272x1024.size inb_S272x1024_S272x1024_0_0,
          blockOf (k0_pay2 (ldRows arg1 harg1 x0) (ldRows arg2 harg2 x1) (ldLine arg5 harg5 x4) (ldRows arg3 harg3 x2) (ldRows arg4 harg4 x3))
            (k0_pay3 (ldRows arg1 harg1 x0) (ldRows arg2 harg2 x1) (ldLine arg5 harg5 x4) (ldRows arg3 harg3 x2) (ldRows arg4 harg4 x3))
            (ldLine arg6 harg6 x5) (ldWeight arg7 harg7 x6)⟩] := rfl

/-- What a block leaves. -/
theorem out_block (h0 : ∀ p k, IsNum (x0 (ix2 p k))) (h1 : ∀ p k, IsNum (x1 (ix2 p k))) (h2 : ∀ p k, IsNum (x2 (ix2 p k)))
    (h3 : ∀ p k, (x3 (ix2 p k) : EReal) < ⊤) (h4 : ∀ k, IsNum (x4 (ix2 0 k))) (p : Fin 272) (q : Fin 1024) :
    out0_A_7 c i arg1 harg1 arg2 harg2 arg3 harg3 arg4 harg4 arg5 harg5 arg6 harg6 arg7 harg7 arg8 harg8 x0 x1 x2 x3 x4 x5 x6 (ix2 p q)
      = normed (fun k => gated (x0 (ix2 p k)) (x1 (ix2 p k)) (x4 (ix2 0 k)) (x2 (ix2 p k)) (x3 (ix2 p k))) (fun k => x5 (ix2 0 k)) (fun k => x6 (ix2 k q)) := by
  unfold out0_A_7
  rw [View.read_writes_junk_eq_canon, pieces, View.canon_cons_unit_lit _ _ _ (by decide)]
  have square (p : Fin 272) (k : Fin 2048) :
      k0_pay3 (ldRows arg1 harg1 x0) (ldRows arg2 harg2 x1) (ldLine arg5 harg5 x4) (ldRows arg3 harg3 x2) (ldRows arg4 harg4 x3) (ix2 p k)
        = (k0_pay2 (ldRows arg1 harg1 x0) (ldRows arg2 harg2 x1) (ldLine arg5 harg5 x4) (ldRows arg3 harg3 x2) (ldRows arg4 harg4 x3) (ix2 p k) : EReal)
          * k0_pay2 (ldRows arg1 harg1 x0) (ldRows arg2 harg2 x1) (ldLine arg5 harg5 x4) (ldRows arg3 harg3 x2) (ldRows arg4 harg4 x3) (ix2 p k) := rfl
  have entry (p : Fin 272) (k : Fin 2048) :
      k0_pay2 (ldRows arg1 harg1 x0) (ldRows arg2 harg2 x1) (ldLine arg5 harg5 x4) (ldRows arg3 harg3 x2) (ldRows arg4 harg4 x3) (ix2 p k)
        = gated (x0 (ix2 p k)) (x1 (ix2 p k)) (x4 (ix2 0 k)) (x2 (ix2 p k)) (x3 (ix2 p k)) := by
    rw [gated_block, ldRows_eq, ldRows_eq, ldRows_eq, ldRows_eq, ldLine_eq]
  have real (p : Fin 272) (k : Fin 2048) := gated_real (h0 p k) (h1 p k) (h4 k) (h2 p k) (h3 p k)
  rw [block_normed _ _ (fun p k => by rw [square, entry]; exact (real p k).mul (real p k)) square]
  simp only [entry, ldLine_eq, ldWeight_eq]

end Run

end Cert.Proof.Gate
-- ==== Proof.Gate4.lean ====
module

public import proofs.«01_k».proof.Proof.Gate
public import proofs.«01_k».proof.Defs
public import proofs.«01_k».proof.Proof.Gen.Kernel4Ideal.Value
public import proofs.«01_k».proof.Proof.Gen.Reference4Ideal.Run
public import Idealize.ShloMosaic.Lib.StableHlo.ReadAt

@[expose] public section

set_option maxRecDepth 16384

noncomputable section

/-! The gated norm and its projection, kernel and reference side by side. -/

namespace Cert.Proof.Gate

open Cert.Kernel4Ideal Cert.Kernel4Ideal.Gen Idealize.ShloMosaic Idealize.ShloMosaic.TcCoe Idealize.SL.Sem

/-- The arguments, by their indices. -/
structure Args where
  f : Fin 4 → Fin 4352 → Fin 2048 → EReal
  b : Fin 4 → Fin 4352 → Fin 2048 → EReal
  x : Fin 4 → Fin 4352 → Fin 4096 → EReal
  p : Fin 4 → Fin 4352 → Fin 6272 → EReal
  d : Fin 2 → Fin 32 → EReal
  n : Fin 2048 → EReal
  w : Fin 2048 → Fin 1024 → EReal

/-- A row's sample and token. -/
def sampleOf (r : Fin 17408) : Fin 4 := ⟨r.val / 4352, by omega⟩
def tokenOf (r : Fin 17408) : Fin 4352 := ⟨r.val % 4352, by omega⟩

/-- A row's gated entry. -/
def Args.entry (a : Args) (r : Fin 17408) (k : Fin 2048) : EReal :=
  gated (a.f (sampleOf r) (tokenOf r) k) (a.b (sampleOf r) (tokenOf r) k) (a.d 0 ⟨k.val / 64, by omega⟩ + a.d 1 ⟨k.val / 64, by omega⟩)
    (a.x (sampleOf r) (tokenOf r) ⟨k.val, by omega⟩) (a.p (sampleOf r) (tokenOf r) ⟨4096 + k.val, by omega⟩)

/-- The result. -/
def Args.out (a : Args) (r : Fin 17408) (q : Fin 1024) : EReal := normed (a.entry r) a.n fun k => a.w k q

/-- What the precondition says. -/
structure Args.Ok (a : Args) : Prop where
  f : ∀ i t k, IsNum (a.f i t k)
  b : ∀ i t k, IsNum (a.b i t k)
  x : ∀ i t (k : Fin 2048), IsNum (a.x i t ⟨k.val, by omega⟩)
  p : ∀ i t (k : Fin 2048), a.p i t ⟨4096 + k.val, by omega⟩ < ⊤
  d : ∀ e h, IsNum (a.d e h)

section Kernel
variable (m : (ℓ : Loc nD τ sig) → Buf (Elt Ideal) ℓ) (c : Dev nD)

/-- The kernel's arguments. -/
def args : Args where
  f i t k := m ((c : Thread nD τ).loc main_arg0) (ix3 i t k)
  b i t k := m ((c : Thread nD τ).loc main_arg1) (ix3 i t k)
  x i t k := m ((c : Thread nD τ).loc main_arg2) (ix3 i t k)
  p i t k := m ((c : Thread nD τ).loc main_arg3) (ix3 i t k)
  d e h := m ((c : Thread nD τ).loc main_arg4) (ix2 e h)
  n k := m ((c : Thread nD τ).loc main_arg5) (ix1 k)
  w k q := m ((c : Thread nD τ).loc main_arg6) (ix2 k q)

theorem host_f (r : Fin 17408) (k : Fin 2048) : (V m c main_v8 : Vec Ideal S17408x2048 .bf16) (ix2 r k) = (args m c).f (sampleOf r) (tokenOf r) k := by
  unfold V
  after_reads_at
  rfl
theorem host_b (r : Fin 17408) (k : Fin 2048) : (V m c main_v9 : Vec Ideal S17408x2048 .bf16) (ix2 r k) = (args m c).b (sampleOf r) (tokenOf r) k := by
  unfold V
  after_reads_at
  rfl
theorem host_x (r : Fin 17408) (k : Fin 4096) : (V m c main_v10 : Vec Ideal S17408x4096 .bf16) (ix2 r k) = (args m c).x (sampleOf r) (tokenOf r) k := by
  unfold V
  after_reads_at
  rfl
theorem host_p (r : Fin 17408) (k : Fin 6272) : (V m c main_v11 : Vec Ideal S17408x6272 .bf16) (ix2 r k) = (args m c).p (sampleOf r) (tokenOf r) k := by
  unfold V
  after_reads_at
  rfl
theorem host_d (k : Fin 2048) : (V m c main_v12 : Vec Ideal S1x2048 .f32) (ix2 0 k) = (args m c).d 0 ⟨k.val / 64, by omega⟩ + (args m c).d 1 ⟨k.val / 64, by omega⟩ := by
  unfold V
  after_reads_at
  rfl
theorem host_n (k : Fin 2048) : (V m c main_v13 : Vec Ideal S1x2048 .f32) (ix2 0 k) = (args m c).n k := by
  unfold V
  after_reads_at
  rfl
theorem host_w (k : Fin 2048) (q : Fin 1024) : (V m c main_v7 : Vec Ideal S2048x1024 .bf16) (ix2 k q) = (args m c).w k q := by
  unfold V
  after_reads_at
  rfl

/-- The blocks of the grid's points. -/
theorem idx : ∀ t : Fin grid0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 2))
    ∧ ((win0_4.index t 0 = 0 ∧ win0_4.index t 1 = 0) ∧ (win0_5.index t 0 = 0 ∧ win0_5.index t 1 = 0) ∧ (win0_6.index t 0 = 0 ∧ win0_6.index t 1 = 0)
      ∧ (win0_7.index t 0 = t.val ∧ win0_7.index t 1 = 0)) := by decide +kernel

section Reads
variable (t : Fin cfg0.N) (p : Fin 272) (k : Fin 2048) (r : Fin 17408) (hr : r.val = 272 * t.val + p.val)
include hr

theorem read_f : (iblk m c 0 t : Vec Ideal S272x2048 .bf16) (ix2 p k) = (args m c).f (sampleOf r) (tokenOf r) k := by
  rw [← host_f]
  obtain ⟨h0, h1⟩ := (idx t).1.1
  unfold iblk
  rw [View.read_apply]
  show V m c main_v8 _ = _
  congr 1
  funext a
  apply Fin.ext
  match a with
  | ⟨0, _⟩ => show win0_0.index t 0 * 272 + 1 * p.val = r.val; rw [h0]; omega
  | ⟨1, _⟩ => show win0_0.index t 1 * 2048 + 1 * k.val = k.val; rw [h1]; omega

theorem read_b : (iblk m c 1 t : Vec Ideal S272x2048 .bf16) (ix2 p k) = (args m c).b (sampleOf r) (tokenOf r) k := by
  rw [← host_b]
  obtain ⟨h0, h1⟩ := (idx t).1.2.1
  unfold iblk
  rw [View.read_apply]
  show V m c main_v9 _ = _
  congr 1
  funext a
  apply Fin.ext
  match a with
  | ⟨0, _⟩ => show win0_1.index t 0 * 272 + 1 * p.val = r.val; rw [h0]; omega
  | ⟨1, _⟩ => show win0_1.index t 1 * 2048 + 1 * k.val = k.val; rw [h1]; omega

theorem read_x : (iblk m c 2 t : Vec Ideal S272x2048 .bf16) (ix2 p k) = (args m c).x (sampleOf r) (tokenOf r) ⟨k.val, by omega⟩ := by
  rw [← host_x]
  obtain ⟨h0, h1⟩ := (idx t).1.2.2.1
  unfold iblk
  rw [View.read_apply]
  show V m c main_v10 _ = _
  congr 1
  funext a
  apply Fin.ext
  match a with
  | ⟨0, _⟩ => show win0_2.index t 0 * 272 + 1 * p.val = r.val; rw [h0]; omega
  | ⟨1, _⟩ => show win0_2.index t 1 * 2048 + 1 * k.val = k.val; rw [h1]; omega

theorem read_p : (X0_3 m c t : Vec Ideal S272x2048 .bf16) (ix2 p k) = (args m c).p (sampleOf r) (tokenOf r) ⟨4096 + k.val, by omega⟩ := by
  rw [← host_p]
  obtain ⟨h0, h1⟩ := (idx t).1.2.2.2
  unfold X0_3 Pipeline.Window.fill
  rw [dif_pos (moved0_3 t _)]
  unfold iblk
  rw [View.read_apply]
  show V m c main_v11 _ = _
  congr 1
  funext a
  apply Fin.ext
  match a with
  | ⟨0, _⟩ => show win0_3.index t 0 * 272 + 1 * p.val = r.val; rw [h0]; omega
  | ⟨1, _⟩ => show win0_3.index t 1 * 2048 + 1 * k.val = 4096 + k.val; rw [h1]; omega

end Reads

theorem read_d (t : Fin cfg0.N) (k : Fin 2048) :
    (iblk m c 4 t : Vec Ideal S1x2048 .f32) (ix2 0 k) = (args m c).d 0 ⟨k.val / 64, by omega⟩ + (args m c).d 1 ⟨k.val / 64, by omega⟩ := by
  rw [← host_d]
  obtain ⟨h0, h1⟩ := (idx t).2.1
  unfold iblk
  rw [View.read_apply]
  show V m c main_v12 _ = _
  congr 1
  funext a
  apply Fin.ext
  match a with
  | ⟨0, _⟩ => show win0_4.index t 0 * 1 + 1 * 0 = 0; rw [h0]
  | ⟨1, _⟩ => show win0_4.index t 1 * 2048 + 1 * k.val = k.val; rw [h1]; omega

theorem read_n (t : Fin cfg0.N) (k : Fin 2048) : (iblk m c 5 t : Vec Ideal S1x2048 .f32) (ix2 0 k) = (args m c).n k := by
  rw [← host_n]
  obtain ⟨h0, h1⟩ := (idx t).2.2.1
  unfold iblk
  rw [View.read_apply]
  show V m c main_v13 _ = _
  congr 1
  funext a
  apply Fin.ext
  match a with
  | ⟨0, _⟩ => show win0_5.index t 0 * 1 + 1 * 0 = 0; rw [h0]
  | ⟨1, _⟩ => show win0_5.index t 1 * 2048 + 1 * k.val = k.val; rw [h1]; omega

theorem read_w (t : Fin cfg0.N) (k : Fin 2048) (q : Fin 1024) : (iblk m c 6 t : Vec Ideal S2048x1024 .bf16) (ix2 k q) = (args m c).w k q := by
  rw [← host_w]
  obtain ⟨h0, h1⟩ := (idx t).2.2.2.1
  unfold iblk
  rw [View.read_apply]
  show V m c main_v7 _ = _
  congr 1
  funext a
  apply Fin.ext
  match a with
  | ⟨0, _⟩ => show win0_6.index t 0 * 2048 + 1 * k.val = k.val; rw [h0]; omega
  | ⟨1, _⟩ => show win0_6.index t 1 * 1024 + 1 * q.val = q.val; rw [h1]; omega

/-- The point that writes a row, and the row's place in its block. -/
def point (r : Fin 17408) : Fin cfg0.N := ⟨r.val / 272, by have h : cfg0.N = 64 := N_0; omega⟩
def place (r : Fin 17408) : Fin 272 := ⟨r.val % 272, Nat.mod_lt _ (by decide)⟩
theorem point_place (r : Fin 17408) : 272 * (point r).val + (place r).val = r.val := Nat.div_add_mod _ _

/-- Every row of a point's block is a row of the array. -/
theorem row_lt (t : Fin cfg0.N) (p : Fin 272) : 272 * t.val + p.val < 17408 := by
  have h : cfg0.N = 64 := N_0
  have := t.isLt
  omega

theorem block_out (ok : (args m c).Ok) (t : Fin cfg0.N) (p : Fin 272) (r : Fin 17408) (hr : r.val = 272 * t.val + p.val) (q : Fin 1024) :
    outsAt0 m c t (ix2 p q) = (args m c).out r q := by
  unfold outsAt0
  refine (out_block c _ _ _ _ _ _ _ _ _ _ _ _ _ _ _ _ _ _ _ _ _ _ _ _
    (fun p k => ?_) (fun p k => ?_) (fun p k => ?_) (fun p k => ?_) (fun k => ?_) p q).trans ?_
  · rw [read_f m c t p k ⟨_, row_lt t p⟩ rfl]; exact ok.f _ _ _
  · rw [read_b m c t p k ⟨_, row_lt t p⟩ rfl]; exact ok.b _ _ _
  · rw [read_x m c t p k ⟨_, row_lt t p⟩ rfl]; exact ok.x _ _ _
  · rw [read_p m c t p k ⟨_, row_lt t p⟩ rfl]; exact ok.p _ _ _
  · rw [read_d]; exact (ok.d _ _).add (ok.d _ _)
  · unfold Args.out Args.entry
    simp only [read_f m c t p _ r hr, read_b m c t p _ r hr, read_x m c t p _ r hr, read_p m c t p _ r hr, read_d, read_n, read_w]

/-- The kernel's result. -/
theorem result (ok : (args m c).Ok) (r : Fin 17408) (q : Fin 1024) :
    ((dats m 0 c).arrAt 7 cfg0.N : Vec Ideal S17408x1024 .bf16) (ix2 r q) = (args m c).out r q := by
  have h := congrFun (Cert.Kernel4Ideal.Value.blocks7 m c (point r) (flush0_7 _)) (ix2 (place r) q)
  rw [Cert.Kernel4Ideal.Value.flushed7] at h
  refine Eq.trans ?_ (h.trans ?_)
  · rw [View.read_apply]
    congr 1
    obtain ⟨h0, h1⟩ := (idx (point r)).2.2.2.2
    have hr := point_place r
    funext a
    apply Fin.ext
    match a with
    | ⟨0, _⟩ => show r.val = win0_7.index (point r) 0 * 272 + 1 * (place r).val; rw [h0]; omega
    | ⟨1, _⟩ => show q.val = win0_7.index (point r) 1 * 1024 + 1 * q.val; rw [h1]; omega
  · exact block_out m c ok (point r) (place r) r (point_place r).symm q

end Kernel

section Reference

open Cert.Reference4Ideal.Value

variable (m' : (ℓ : Loc Cert.Reference4Ideal.nD Cert.Reference4Ideal.τ Cert.Reference4Ideal.sig) → Buf (Elt Ideal) ℓ) (d : Dev Cert.Reference4Ideal.nD)

/-- The reference's arguments. -/
def refArgs : Args where
  f i t k := m' ((d.tc : Thread Cert.Reference4Ideal.nD Cert.Reference4Ideal.τ).loc Cert.Reference4Ideal.main_arg0) (ix3 i t k)
  b i t k := m' ((d.tc : Thread Cert.Reference4Ideal.nD Cert.Reference4Ideal.τ).loc Cert.Reference4Ideal.main_arg1) (ix3 i t k)
  x i t k := m' ((d.tc : Thread Cert.Reference4Ideal.nD Cert.Reference4Ideal.τ).loc Cert.Reference4Ideal.main_arg2) (ix3 i t k)
  p i t k := m' ((d.tc : Thread Cert.Reference4Ideal.nD Cert.Reference4Ideal.τ).loc Cert.Reference4Ideal.main_arg3) (ix3 i t k)
  d e h := m' ((d.tc : Thread Cert.Reference4Ideal.nD Cert.Reference4Ideal.τ).loc Cert.Reference4Ideal.main_arg4) (ix2 e h)
  n k := m' ((d.tc : Thread Cert.Reference4Ideal.nD Cert.Reference4Ideal.τ).loc Cert.Reference4Ideal.main_arg5) (ix1 k)
  w k q := m' ((d.tc : Thread Cert.Reference4Ideal.nD Cert.Reference4Ideal.τ).loc Cert.Reference4Ideal.main_arg6) (ix2 k q)

/-- An entry written with its column split in group, head and lane. -/
theorem entry_split (a : Args) (r : Fin 17408) (k : Fin 2048) (k1 : Fin 2048) (h1 : k1 = k) (e : Fin 32) (he : e = ⟨k.val / 64, by omega⟩) (kx : Fin 4096) (hx : kx = ⟨k.val, by omega⟩)
    (kz : Fin 6272) (hz : kz = ⟨4096 + k.val, by omega⟩) :
    (a.f (sampleOf r) (tokenOf r) k1 + a.b (sampleOf r) (tokenOf r) k1 + (a.d 0 e + a.d 1 e) * a.x (sampleOf r) (tokenOf r) kx)
      * (a.p (sampleOf r) (tokenOf r) kz * Ideal.div 1 (1 + Ideal.exp (-a.p (sampleOf r) (tokenOf r) kz))) = a.entry r k := by
  subst h1 he hx hz
  rfl

/-- Sums of equal entries. -/
theorem sum_eq (f g : Fin 2048 → EReal) (h : ∀ k, f k = g k) : ∑ k, f k = ∑ k, g k := Finset.sum_congr rfl fun k _ => h k

/-- The reference's result. -/
theorem ref_out (r : Fin 17408) (q : Fin 1024) : (res_main_v40 m' d : Vec Ideal Cert.Reference4Ideal.S17408x1024 .bf16) (ix2 r q) = (refArgs m' d).out r q := by
  unfold res_main_v40 Args.out normed
  pointwise
  refine sum_eq _ _ fun k => ?_
  refine congrArg₂ _ (congrArg₂ _ (congrArg₂ _ ?_ (congrArg Ideal.rsqrt (congrArg₂ _ (congrArg₂ _ (Finset.sum_congr rfl fun u _ => congrArg₂ _ ?_ ?_) rfl) rfl))) rfl) rfl
  · exact entry_split (refArgs m' d) r k _ rfl _ (Fin.ext (by dsimp only; omega)) _ rfl _ rfl
  · exact entry_split (refArgs m' d) r (member k u) _ (Fin.ext (by dsimp only [member]; omega)) _ (Fin.ext (by dsimp only [member]; omega)) _ (Fin.ext (by dsimp only [member]; omega)) _ rfl
  · exact entry_split (refArgs m' d) r (member k u) _ (Fin.ext (by dsimp only [member]; omega)) _ (Fin.ext (by dsimp only [member]; omega)) _ (Fin.ext (by dsimp only [member]; omega)) _ rfl

end Reference

/-- The precondition's shape relations. -/
theorem pre_facts : Cert.Pre_scan_finite.Facts := ⟨by decide, by decide, by decide, by decide, by decide⟩

theorem top_bits : (FloatOps.ofBits .f32 (0x7F800000#32 : BitVec 32) : Ideal .f32) = ⊤ := by
  show Ideal.ofBits .f32 (0x7F800000#32 : BitVec 32) = ⊤
  simp [Ideal.ofBits, Ideal.ieee]

theorem below_top {x : EReal} (h : Ideal.cmp .olt x (FloatOps.ofBits .f32 (0x7F800000#32 : BitVec 32) : Ideal .f32) = 1#1) : x < ⊤ := by
  rw [top_bits] at h
  by_contra hn
  simp [Ideal.cmp, hn] at h

theorem num_of {x : EReal} (h : Ideal.cmp .olt (max x (-x)) (FloatOps.ofBits .f32 (0x7F800000#32 : BitVec 32) : Ideal .f32) = 1#1) : IsNum x := by
  have h' := below_top h
  induction x with
  | bot => simp at h'
  | top => simp at h'
  | coe r => exact ⟨r, rfl⟩

/-- The precondition's slices, at an index. -/
theorem slice_x (v : FVec Ideal Cert.Pre_scan_finite.S4x4352x4096 .bf16) (h : Cert.Pre_scan_finite.S4x4352x4096.Slices ![0, 0, 0] Cert.Pre_scan_finite.S4x4352x2048)
    (i : Fin 4) (t : Fin 4352) (k : Fin 2048) : extractStridedSlice Cert.Pre_scan_finite.S4x4352x2048 ![0, 0, 0] v h (ix3 i t k) = v (ix3 i t ⟨k.val, by omega⟩) := by
  pointwise

theorem slice_p (v : FVec Ideal Cert.Pre_scan_finite.S4x4352x6272 .bf16) (h : Cert.Pre_scan_finite.S4x4352x6272.Slices ![0, 0, 4096] Cert.Pre_scan_finite.S4x4352x2048)
    (i : Fin 4) (t : Fin 4352) (k : Fin 2048) : extractStridedSlice Cert.Pre_scan_finite.S4x4352x2048 ![0, 0, 4096] v h (ix3 i t k) = v (ix3 i t ⟨4096 + k.val, by omega⟩) := by
  pointwise

theorem args_ok [Cert.Pre_scan_finite.Facts] (m : (ℓ : Loc nD τ sig) → Buf (Elt Ideal) ℓ) (h : Cert.Pre_Kernel4Ideal_scan_finite m) (c : Dev nD) : (args m c).Ok := by
  obtain ⟨hf, hb, hx, hp, hd⟩ := h c
  refine ⟨fun i t k => num_of (congrFun hf (ix3 i t k)), fun i t k => num_of (congrFun hb (ix3 i t k)), fun i t k => ?_, fun i t k => ?_,
    fun e h => num_of (congrFun hd (ix2 e h))⟩
  · have e := slice_x (m ((c : Thread nD τ).loc main_arg2)) Cert.Pre_scan_finite.Facts.slices_S4x4352x4096_S4x4352x2048_0_0_0 i t k
    show IsNum (m ((c : Thread nD τ).loc main_arg2) (ix3 i t ⟨k.val, by omega⟩))
    exact e ▸ num_of (congrFun hx (ix3 i t k))
  · have e := slice_p (m ((c : Thread nD τ).loc main_arg3)) Cert.Pre_scan_finite.Facts.slices_S4x4352x6272_S4x4352x2048_0_0_4096 i t k
    exact lt_of_eq_of_lt (α := EReal) (a := (args m c).p i t ⟨4096 + k.val, by omega⟩) e.symm (below_top (congrFun hp (ix3 i t k)))

/-- Every index of the result is a row and a column. -/
theorem same (m : (ℓ : Loc nD τ sig) → Buf (Elt Ideal) ℓ) (m' : (ℓ : Loc Cert.Reference4Ideal.nD Cert.Reference4Ideal.τ Cert.Reference4Ideal.sig) → Buf (Elt Ideal) ℓ) (c : Dev nD)
    (ok : (args m c).Ok) (h : refArgs m' c = args m c) :
    (Cert.Reference4Ideal.Value.res_main_v40 m' c : Vec Ideal Cert.Reference4Ideal.S17408x1024 .bf16) = ((dats m 0 c).arrAt 7 cfg0.N : Vec Ideal S17408x1024 .bf16) := by
  funext x
  have hx : x = ix2 (x 0) (x 1) := by
    funext a
    match a with
    | ⟨0, _⟩ => rfl
    | ⟨1, _⟩ => rfl
  rw [hx]
  exact (ref_out m' c (x 0) (x 1)).trans ((congrArg (fun a => Args.out a (x 0) (x 1)) h).trans (result m c ok (x 0) (x 1)).symm)

end Cert.Proof.Gate
-- ==== Proof.MergeSums.lean ====
module

public import proofs.«01_k».proof.Proof.Gen.Kernel5Ideal.Skeleton
public import proofs.«01_k».proof.Proof.Gate
public import Idealize.ShloMosaic.Lib.Pointwise

@[expose] public section

set_option maxRecDepth 16384

noncomputable section

/-! The merge: the sums over a head that the kernel takes with a table. -/

namespace Cert.Proof.Merge

open Cert.Kernel5Ideal Cert.Kernel5Ideal.Gen Idealize.ShloMosaic Idealize.ShloMosaic.TcCoe Idealize.SL.Sem
open Cert.Proof.Gate (IsNum)

theorem num_sub {x y : EReal} : IsNum x → IsNum y → IsNum (x - y) := by
  rintro ⟨r, rfl⟩ ⟨s, rfl⟩
  exact ⟨r - s, (EReal.coe_sub r s).symm⟩

theorem num_sum {n : ℕ} (f : Fin n → EReal) (h : ∀ u, IsNum (f u)) : IsNum (∑ u, f u) :=
  Finset.sum_induction f IsNum (fun _ _ => Cert.Proof.Gate.IsNum.add) ⟨0, rfl⟩ fun u _ => h u

/-- The head of a lane, as the kernel computes it. -/
def lane (k : Fin 128) : BitVec 32 :=
  Scalar.select
    (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 k.val) 64#32) 0#32))
    (IntOp.subi (IntOp.divsi ArithUnit.vector (BitVec.ofNat 32 k.val) 64#32) 1#32)
    (IntOp.divsi ArithUnit.vector (BitVec.ofNat 32 k.val) 64#32)

theorem lane_head : ∀ k, lane k = if k.val < 64 then 0#32 else 1#32 := by decide +kernel

/-- The table that sums a head. -/
def table : FVec Ideal S128x128 .bf16 :=
  k0_pay6 k0_pay3 (iota .tc S128x128 32 [1] iota_S128x128_d1_w32) 64#32 k0_pay4 k0_pay5 (Scalar.extui (Scalar.cmpi .sgt 64#32 0#32))

theorem table_lane (k l : Fin 128) : (table (ix2 k l) : EReal) = (((BitVec.setWidth 32 (IntOp.cmpi CmpIPredicate.eq (lane k) (lane l))).toInt : ℝ) : EReal) := by
  unfold table k0_pay6 k0_pay3 k0_pay4 k0_pay5
  pointwise
  rfl

theorem table_head (k l : Fin 128) : (table (ix2 k l) : EReal) = if k.val < 64 ↔ l.val < 64 then 1 else 0 := by
  rw [table_lane, lane_head, lane_head]
  have e : (BitVec.setWidth 32 (IntOp.cmpi CmpIPredicate.eq (0#32 : BitVec 32) 0#32)).toInt = 1 := by decide
  have e' : (BitVec.setWidth 32 (IntOp.cmpi CmpIPredicate.eq (1#32 : BitVec 32) 1#32)).toInt = 1 := by decide
  have n : (BitVec.setWidth 32 (IntOp.cmpi CmpIPredicate.eq (0#32 : BitVec 32) 1#32)).toInt = 0 := by decide
  have n' : (BitVec.setWidth 32 (IntOp.cmpi CmpIPredicate.eq (1#32 : BitVec 32) 0#32)).toInt = 0 := by decide
  by_cases hk : k.val < 64 <;> by_cases hl : l.val < 64 <;> simp [hk, hl, e, e', n, n']

/-- The table picks the lanes of a head. -/
theorem table_sum (f : Fin 128 → EReal) (l : Fin 128) :
    ∑ u, f u * (table (ix2 u l) : EReal) = ∑ u : Fin 64, f ⟨l.val / 64 * 64 + u.val, by omega⟩ := by
  simp only [table_head]
  refine (Fin.sum_univ_add (a := 64) (b := 64) fun u : Fin (64 + 64) => f u * if u.val < 64 ↔ l.val < 64 then 1 else 0).trans ?_
  by_cases hl : l.val < 64
  · have h0 : l.val / 64 = 0 := by omega
    simp only [hl, Fin.val_castAdd, Fin.val_natAdd, Fin.is_lt, iff_true, if_true, mul_one]
    rw [Finset.sum_eq_zero (s := Finset.univ) (f := fun u : Fin 64 => f (Fin.natAdd 64 u) * _) fun u _ => by rw [if_neg (by omega), mul_zero], add_zero]
    exact Finset.sum_congr rfl fun u _ => congrArg f (Fin.ext (by show u.val = l.val / 64 * 64 + u.val; omega))
  · have h0 : l.val / 64 = 1 := by omega
    simp only [hl, Fin.val_castAdd, Fin.val_natAdd, Fin.is_lt, iff_false, not_true, if_false, mul_zero, Finset.sum_const_zero, zero_add]
    exact Finset.sum_congr rfl fun u _ => by
      rw [if_pos (by omega), mul_one]
      exact congrArg f (Fin.ext (by show 64 + u.val = l.val / 64 * 64 + u.val; omega))

/-- A product in three parts, by the table, is the sum over the head where every term is a real number. -/
theorem three_sums (f : Fin 128 → EReal) (l : Fin 128) (hf : ∀ u, IsNum (f u)) :
    ∑ u, f u * (table (ix2 u l) : EReal) + ∑ u, (f u - f u) * (table (ix2 u l) : EReal) + ∑ u, (f u - f u - (f u - f u)) * (table (ix2 u l) : EReal)
      = ∑ u : Fin 64, f ⟨l.val / 64 * 64 + u.val, by omega⟩ := by
  have h0 : ∀ u, f u - f u = 0 := fun u => (hf u).sub_self
  simp only [h0, sub_zero, zero_mul, Finset.sum_const_zero, add_zero]
  exact table_sum f l

/-- The sums over two heads, from the first column of both. -/
def piece (x : FVec Ideal S272x1024 .f32) (o : ℕ) (h : S272x1024.Slices ![0, o] S272x128) : FVec Ideal S272x128 .f32 :=
  addf (addf (matmul dot_S272x128_S128x128_S272x128_1_0_0_1_n_n none (extractStridedSlice S272x128 ![0, o] (k0_pay7 x) h) table (constant S272x128 .f32 0x00000000#32))
      (matmul dot_S272x128_S128x128_S272x128_1_0_0_1_n_n none (extractStridedSlice S272x128 ![0, o] (k0_pay9 x) h) table (constant S272x128 .f32 0x00000000#32)))
    (matmul dot_S272x128_S128x128_S272x128_1_0_0_1_n_n none (extractStridedSlice S272x128 ![0, o] (k0_pay10 x) h) table (constant S272x128 .f32 0x00000000#32))

/-- The columns of a head. -/
def member (k : Fin 1024) (u : Fin 64) : Fin 1024 := ⟨k.val / 64 * 64 + u.val, by omega⟩

theorem piece_sum (x : FVec Ideal S272x1024 .f32) (hx : ∀ p k, IsNum (x (ix2 p k))) (o : ℕ) (ho : o + 128 ≤ 1024) (h : S272x1024.Slices ![0, o] S272x128) (p : Fin 272) (l : Fin 128)
    (k : Fin 1024) (hk : k.val = o + l.val) (hd : o % 64 = 0) : (piece x o h (ix2 p l) : EReal) = ∑ u, (x (ix2 p (member k u)) : EReal) := by
  refine Eq.trans ?_ ((three_sums (fun u => x (ix2 p ⟨o + u.val, by omega⟩)) l fun u => hx p _).trans ?_)
  · unfold piece
    pointwise
    rfl
  · exact Finset.sum_congr rfl fun u _ => congrArg (fun k => x (ix2 p k)) (Fin.ext (by show o + (l.val / 64 * 64 + u.val) = k.val / 64 * 64 + u.val; omega))

/-- The sums over all heads. -/
def sums (x : FVec Ideal S272x1024 .f32) : FVec Ideal S272x1024 .f32 :=
  concatenate S272x1024 1 [⟨S272x128, piece x 0 slices_S272x1024_o0_0_S272x128⟩, ⟨S272x128, piece x 128 slices_S272x1024_o0_128_S272x128⟩,
    ⟨S272x128, piece x 256 slices_S272x1024_o0_256_S272x128⟩, ⟨S272x128, piece x 384 slices_S272x1024_o0_384_S272x128⟩,
    ⟨S272x128, piece x 512 slices_S272x1024_o0_512_S272x128⟩, ⟨S272x128, piece x 640 slices_S272x1024_o0_640_S272x128⟩,
    ⟨S272x128, piece x 768 slices_S272x1024_o0_768_S272x128⟩, ⟨S272x128, piece x 896 slices_S272x1024_o0_896_S272x128⟩]
    concatenates_S272x128_S272x128_S272x128_S272x128_S272x128_S272x128_S272x128_S272x128_S272x1024_d1

theorem sums_eq (x : FVec Ideal S272x1024 .f32) (hx : ∀ p k, IsNum (x (ix2 p k))) (p : Fin 272) (k : Fin 1024) : (sums x (ix2 p k) : EReal) = ∑ u, (x (ix2 p (member k u)) : EReal) := by
  unfold sums
  pointwise
  by_cases h0 : k.val < 128
  · rw [dif_pos h0]; exact piece_sum x hx _ (by decide) _ _ _ _ (by dsimp only; omega) (by decide)
  rw [dif_neg h0]
  by_cases h1 : k.val - 128 < 128
  · rw [dif_pos h1]; exact piece_sum x hx _ (by decide) _ _ _ _ (by dsimp only; omega) (by decide)
  rw [dif_neg h1]
  by_cases h2 : k.val - 128 - 128 < 128
  · rw [dif_pos h2]; exact piece_sum x hx _ (by decide) _ _ _ _ (by dsimp only; omega) (by decide)
  rw [dif_neg h2]
  by_cases h3 : k.val - 128 - 128 - 128 < 128
  · rw [dif_pos h3]; exact piece_sum x hx _ (by decide) _ _ _ _ (by dsimp only; omega) (by decide)
  rw [dif_neg h3]
  by_cases h4 : k.val - 128 - 128 - 128 - 128 < 128
  · rw [dif_pos h4]; exact piece_sum x hx _ (by decide) _ _ _ _ (by dsimp only; omega) (by decide)
  rw [dif_neg h4]
  by_cases h5 : k.val - 128 - 128 - 128 - 128 - 128 < 128
  · rw [dif_pos h5]; exact piece_sum x hx _ (by decide) _ _ _ _ (by dsimp only; omega) (by decide)
  rw [dif_neg h5]
  by_cases h6 : k.val - 128 - 128 - 128 - 128 - 128 - 128 < 128
  · rw [dif_pos h6]; exact piece_sum x hx _ (by decide) _ _ _ _ (by dsimp only; omega) (by decide)
  rw [dif_neg h6]
  exact piece_sum x hx _ (by decide) _ _ _ _ (by dsimp only; omega) (by decide)

end Cert.Proof.Merge
-- ==== Proof.Merge.lean ====
module

public import proofs.«01_k».proof.Proof.Gen.Kernel5Ideal.Frame
public import proofs.«01_k».proof.Proof.MergeSums
public import Idealize.ShloMosaic.Lib.WholeRead
public import Idealize.ShloMosaic.Lib.Pipeline.ValueKit.Basic

@[expose] public section

set_option maxRecDepth 16384

noncomputable section

/-! The merge: the mathematics, and what one block of the kernel leaves. -/

namespace Cert.Proof.Merge

open Cert.Kernel5Ideal Cert.Kernel5Ideal.Gen Idealize.ShloMosaic Idealize.ShloMosaic.TcCoe Idealize.SL.Sem
open Cert.Proof.Gate (IsNum)

/-- A row of everything the merge reads. -/
structure Row where
  x : Fin 1024 → EReal
  y : Fin 1024 → EReal
  r : Fin 1024 → EReal
  k : Fin 1024 → EReal
  v : Fin 1024 → EReal
  o : Fin 1024 → EReal
  z : Fin 1024 → EReal
  gr : Fin 1024 → EReal
  gs : Fin 1024 → EReal
  g : Fin 1024 → EReal
  w : Fin 1024 → EReal
  b : Fin 1024 → EReal
  rk : Fin 1024 → EReal
  wr : Fin 1024 → Fin 1024 → EReal
  wo : Fin 1024 → Fin 1024 → EReal

/-- An entry less its head's mean. -/
def centredAt (y : Fin 1024 → EReal) (j : Fin 1024) : EReal := y j - Ideal.div (∑ u, y (member j u)) (Ideal.ofBits FTy.f32 0x42800000#32)

/-- An entry normalised over its head. -/
def normedAt (y : Fin 1024 → EReal) (j : Fin 1024) : EReal :=
  centredAt y j * Ideal.rsqrt (Ideal.div (∑ u, centredAt y (member j u) * centredAt y (member j u)) (Ideal.ofBits FTy.f32 0x42800000#32) + Ideal.ofBits FTy.f32 0x3A27C5AC#32)

/-- An entry of the heads' result: the norm with its weights, and the bonus. -/
def Row.head (a : Row) (j : Fin 1024) : EReal := normedAt a.y j * a.w j + a.b j + (∑ u, a.r (member j u) * a.k (member j u) * a.rk (member j u)) * a.v j

/-- The two branches merged. -/
def Row.merged (a : Row) (q : Fin 1024) : EReal := Ideal.logistic (a.gr q) * (∑ j, a.head j * a.o j * a.wr j q) + Ideal.logistic (a.gs q) * a.z q

/-- The projected result with the residual. -/
def Row.out (a : Row) (q : Fin 1024) : EReal := a.x q + a.g q * ∑ j, a.merged j * a.wo j q

theorem word_width : Ideal.ofBits FTy.f32 0x42800000#32 = ((64 : ℝ) : EReal) := by
  simp [Ideal.ofBits, Ideal.ieee]
  rw [← EReal.coe_mul]
  norm_num

theorem word_part : Ideal.ofBits FTy.f32 0x3C800000#32 = ((1 / 64 : ℝ) : EReal) := by
  simp [Ideal.ofBits, Ideal.ieee]
  rw [← EReal.coe_mul]
  norm_num

/-- A mean is a quotient or a product. -/
theorem mean_eq (x : EReal) : x * Ideal.ofBits FTy.f32 0x3C800000#32 = Ideal.div x (Ideal.ofBits FTy.f32 0x42800000#32) := by
  rw [word_width, word_part, Ideal.div_coe (by norm_num)]

theorem centred_num (y : Fin 1024 → EReal) (h : ∀ j, IsNum (y j)) (j : Fin 1024) : IsNum (centredAt y j) := by
  unfold centredAt
  rw [← mean_eq, word_part]
  exact num_sub (h j) (IsNum.mul (num_sum _ fun u => h _) ⟨_, rfl⟩)

/-- A block less its heads' means. -/
def centre (y : FVec Ideal S272x1024 .f32) : FVec Ideal S272x1024 .f32 := subf y (mulf (sums y) (broadcast S272x1024 (Scalar.ofBits .f32 0x3C800000#32)))

/-- A block normalised over its heads, with the norm's weights. -/
def scaled (y : FVec Ideal S272x1024 .f32) (w : Vec Ideal S1x1024 .f32) : FVec Ideal S272x1024 .f32 :=
  mulf (mulf (centre y) (rsqrt (addf (mulf (sums (mulf (centre y) (centre y))) (broadcast S272x1024 (Scalar.ofBits .f32 0x3C800000#32))) (broadcast S272x1024 (Scalar.ofBits .f32 0x3A27C5AC#32)))))
    (broadcastTo S272x1024 (shapeCast S1x1024 w shapeCasts_S1x1024_S1x1024) broadcasts_S1x1024_S272x1024)

/-- The heads' block with its out gate. -/
def gatedBlock (a s : FVec Ideal S272x1024 .f32) (v : Vec Ideal S272x1024 .bf16) (o : Vec Ideal S272x1024 .f32) : FVec Ideal S272x1024 .bf16 :=
  truncf .bf16 (mulf (addf a (mulf s (extf .f32 (shapeCast S272x1024 v shapeCasts_S272x1024_S272x1024) bitsLt_bf16_f32))) (shapeCast S272x1024 o shapeCasts_S272x1024_S272x1024)) bitsLt_bf16_f32

/-- The merged block. -/
def mergedBlock (h : FVec Ideal S272x1024 .bf16) (wr : Vec Ideal S1024x1024 .bf16) (gr gs z : Vec Ideal S272x1024 .bf16) : FVec Ideal S272x1024 .bf16 :=
  truncf .bf16 (addf
    (mulf (logistic (extf .f32 (shapeCast S272x1024 gr shapeCasts_S272x1024_S272x1024) bitsLt_bf16_f32))
      (matmul dot_S272x1024_S1024x1024_S272x1024_1_0_0_1_n_n none h (shapeCast S1024x1024 wr shapeCasts_S1024x1024_S1024x1024 : FVec Ideal S1024x1024 .bf16) (constant S272x1024 .f32 0x00000000#32)))
    (mulf (logistic (extf .f32 (shapeCast S272x1024 gs shapeCasts_S272x1024_S272x1024) bitsLt_bf16_f32))
      (extf .f32 (shapeCast S272x1024 z shapeCasts_S272x1024_S272x1024) bitsLt_bf16_f32))) bitsLt_bf16_f32

/-- The projected block. -/
def mixBlock (h : FVec Ideal S272x1024 .bf16) (wo : Vec Ideal S1024x1024 .bf16) : FVec Ideal S272x1024 .f32 :=
  matmul dot_S272x1024_S1024x1024_S272x1024_1_0_0_1_n_n none h (shapeCast S1024x1024 wo shapeCasts_S1024x1024_S1024x1024 : FVec Ideal S1024x1024 .bf16) (constant S272x1024 .f32 0x00000000#32)

/-- The words that tell a point's first row. -/
def period : BitVec 32 := Scalar.select (Scalar.cmpi .eq 16#32 0#32) 1#32 16#32
def rest (n : ℕ) : BitVec 32 := Scalar.remsi (BitVec.ofNat 32 n) period

/-- A block's result. -/
def blockOf (n : ℕ) (x : Vec Ideal S272x1024 .f32) (yf yb r k v : Vec Ideal S272x1024 .bf16) (o : Vec Ideal S272x1024 .f32) (z gr gs : Vec Ideal S272x1024 .bf16)
    (gl : Vec Ideal S1x1x1024 .f32) (gc w b rk : Vec Ideal S1x1024 .f32) (wr wo : Vec Ideal S1024x1024 .bf16) : FVec Ideal S272x1024 .f32 :=
  k0_pay1 (mixBlock (mergedBlock (gatedBlock (k0_pay30 (scaled (k0_pay2 yf yb) w) b) (sums (k0_pay31 r k rk)) v o) wr gr gs z) wo)
    period (rest n) (Scalar.cmpi .ne (rest n) 0#32) gc gl x

section Values
variable (y : FVec Ideal S272x1024 .f32) (hy : ∀ p k, IsNum (y (ix2 p k))) (p : Fin 272) (j : Fin 1024)
include hy

theorem centre_val : (centre y (ix2 p j) : EReal) = centredAt (fun j => y (ix2 p j)) j := by
  unfold centredAt
  rw [← mean_eq, ← sums_eq y hy p j]
  unfold centre
  pointwise

theorem scaled_val (w : Vec Ideal S1x1024 .f32) : (scaled y w (ix2 p j) : EReal) = normedAt (fun j => y (ix2 p j)) j * w (ix2 0 j) := by
  have hc (p : Fin 272) (j : Fin 1024) : IsNum (centre y (ix2 p j)) := by
    rw [centre_val y hy]
    exact centred_num _ (fun j => hy p j) j
  have e : (sums (mulf (centre y) (centre y)) (ix2 p j) : EReal) = ∑ u, centredAt (fun j => y (ix2 p j)) (member j u) * centredAt (fun j => y (ix2 p j)) (member j u) := by
    rw [sums_eq _ (fun p j => (hc p j).mul (hc p j))]
    refine Finset.sum_congr rfl fun u _ => ?_
    rw [← centre_val y hy]
    rfl
  unfold normedAt
  rw [← mean_eq, ← e, ← centre_val y hy]
  unfold scaled
  pointwise

end Values

/-- The comparison with the context's length, over a sample's points. -/
theorem early_word : ∀ (n : Fin 16) (p : Fin 272), IntOp.cmpi CmpIPredicate.slt (IntOp.addi (BitVec.ofNat 32 (n.val * 272)) (BitVec.ofNat 32 p.val)) 256#32 = if n.val * 272 + p.val < 256 then 1#1 else 0#1 := by
  decide +kernel

/-- A point's first row in its sample. -/
def first (n : ℕ) : BitVec 32 :=
  Scalar.muli (Scalar.select (Scalar.andi (Scalar.xori (Scalar.cmpi .slt (rest n) 0#32) (Scalar.cmpi .slt period 0#32)) (Scalar.cmpi .ne (rest n) 0#32)) (Scalar.addi (rest n) period) (rest n)) 272#32

theorem first_eq : ∀ n : Fin 64, first n.val = BitVec.ofNat 32 (n.val % 16 * 272) := by decide +kernel

/-- The residual with its gate. -/
theorem select_val (h : FVec Ideal S272x1024 .f32) (n : Fin 64) (gc : Vec Ideal S1x1024 .f32) (gl : Vec Ideal S1x1x1024 .f32) (x : Vec Ideal S272x1024 .f32) (p : Fin 272) (q : Fin 1024) :
    (k0_pay1 h period (rest n.val) (Scalar.cmpi .ne (rest n.val) 0#32) gc gl x (ix2 p q) : EReal)
      = x (ix2 p q) + (if n.val % 16 * 272 + p.val < 256 then gc (ix2 0 q) else gl (ix3 0 0 q)) * h (ix2 p q) := by
  have e : (k0_pay1 h period (rest n.val) (Scalar.cmpi .ne (rest n.val) 0#32) gc gl x (ix2 p q) : EReal)
      = x (ix2 p q) + (Scalar.select (IntOp.cmpi CmpIPredicate.slt (IntOp.addi (first n.val) (BitVec.ofNat 32 p.val)) 256#32) (gc (ix2 0 q) : EReal) (gl (ix3 0 0 q))) * h (ix2 p q) := by
    unfold k0_pay1
    pointwise
    rfl
  rw [e, first_eq, early_word ⟨n.val % 16, Nat.mod_lt _ (by decide)⟩ p]
  by_cases hp : n.val % 16 * 272 + p.val < 256
  · rw [if_pos hp, if_pos hp]; rfl
  · rw [if_neg hp, if_neg hp]; rfl

/-- What a block leaves, by its rows. -/
theorem block_val (n : Fin 64) (x : Vec Ideal S272x1024 .f32) (yf yb r k v : Vec Ideal S272x1024 .bf16) (o : Vec Ideal S272x1024 .f32) (z gr gs : Vec Ideal S272x1024 .bf16)
    (gl : Vec Ideal S1x1x1024 .f32) (gc w b rk : Vec Ideal S1x1024 .f32) (wr wo : Vec Ideal S1024x1024 .bf16)
    (hf : ∀ p j, IsNum (yf (ix2 p j))) (hb : ∀ p j, IsNum (yb (ix2 p j))) (hr : ∀ p j, IsNum (r (ix2 p j))) (hk : ∀ p j, IsNum (k (ix2 p j))) (hrk : ∀ j, IsNum (rk (ix2 0 j)))
    (p : Fin 272) (q : Fin 1024) :
    (blockOf n.val x yf yb r k v o z gr gs gl gc w b rk wr wo (ix2 p q) : EReal)
      = Row.out { x := fun j => x (ix2 p j), y := fun j => (yf (ix2 p j) : EReal) + yb (ix2 p j), r := fun j => r (ix2 p j), k := fun j => k (ix2 p j), v := fun j => v (ix2 p j),
                  o := fun j => o (ix2 p j), z := fun j => z (ix2 p j), gr := fun j => gr (ix2 p j), gs := fun j => gs (ix2 p j),
                  g := fun j => if n.val % 16 * 272 + p.val < 256 then gc (ix2 0 j) else gl (ix3 0 0 j),
                  w := fun j => w (ix2 0 j), b := fun j => b (ix2 0 j), rk := fun j => rk (ix2 0 j), wr := fun j q => wr (ix2 j q), wo := fun j q => wo (ix2 j q) } q := by
  have ey (p : Fin 272) (j : Fin 1024) : (k0_pay2 yf yb (ix2 p j) : EReal) = (yf (ix2 p j) : EReal) + yb (ix2 p j) := by
    unfold k0_pay2
    pointwise
  have er (p : Fin 272) (j : Fin 1024) : (k0_pay31 r k rk (ix2 p j) : EReal) = (r (ix2 p j) : EReal) * k (ix2 p j) * rk (ix2 0 j) := by
    unfold k0_pay31
    pointwise
  have es (j : Fin 1024) := scaled_val (k0_pay2 yf yb) (fun p j => by rw [ey]; exact (hf p j).add (hb p j)) p j w
  have eb (j : Fin 1024) := sums_eq (k0_pay31 r k rk) (fun p j => by rw [er]; exact ((hr p j).mul (hk p j)).mul (hrk j)) p j
  simp only [ey] at es
  simp only [er] at eb
  have eh (j : Fin 1024) : (gatedBlock (k0_pay30 (scaled (k0_pay2 yf yb) w) b) (sums (k0_pay31 r k rk)) v o (ix2 p j) : EReal)
      = ((scaled (k0_pay2 yf yb) w (ix2 p j) : EReal) + b (ix2 0 j) + (sums (k0_pay31 r k rk) (ix2 p j) : EReal) * v (ix2 p j)) * o (ix2 p j) := by
    unfold gatedBlock k0_pay30
    pointwise
  simp only [es, eb] at eh
  have em (h : FVec Ideal S272x1024 .bf16) (j : Fin 1024) : (mergedBlock h wr gr gs z (ix2 p j) : EReal)
      = Ideal.logistic (gr (ix2 p j)) * (∑ u, (h (ix2 p u) : EReal) * wr (ix2 u j)) + Ideal.logistic (gs (ix2 p j)) * z (ix2 p j) := by
    unfold mergedBlock
    pointwise
  have eo (h : FVec Ideal S272x1024 .bf16) : (mixBlock h wo (ix2 p q) : EReal) = ∑ j, (h (ix2 p j) : EReal) * wo (ix2 j q) := by
    unfold mixBlock
    pointwise
  unfold blockOf
  rw [select_val, eo]
  simp only [em, eh]
  rfl

section Run
variable (c : Dev nD) (i : grid0.Coords) (arg1 : Memref sig .tc .vmem S272x1024 .f32) (harg1 : arg1.IsWhole) (arg2 : Memref sig .tc .vmem S272x1024 .bf16) (harg2 : arg2.IsWhole) (arg3 : Memref sig .tc .vmem S272x1024 .bf16) (harg3 : arg3.IsWhole) (arg4 : Memref sig .tc .vmem S272x1024 .bf16) (harg4 : arg4.IsWhole) (arg5 : Memref sig .tc .vmem S272x1024 .bf16) (harg5 : arg5.IsWhole) (arg6 : Memref sig .tc .vmem S272x1024 .bf16) (harg6 : arg6.IsWhole) (arg7 : Memref sig .tc .vmem S272x1024 .f32) (harg7 : arg7.IsWhole) (arg8 : Memref sig .tc .vmem S272x1024 .bf16) (harg8 : arg8.IsWhole) (arg9 : Memref sig .tc .vmem S272x1024 .bf16) (harg9 : arg9.IsWhole) (arg10 : Memref sig .tc .vmem S272x1024 .bf16) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S272x1024 .f32) (harg18 : arg18.IsWhole)
  (x0 : Vec Ideal S272x1024 .f32) (x1 x2 x3 x4 x5 : Vec Ideal S272x1024 .bf16) (x6 : Vec Ideal S272x1024 .f32) (x7 x8 x9 : Vec Ideal S272x1024 .bf16)
  (x10 : Vec Ideal S1x1x1024 .f32) (x11 x12 x13 x14 : Vec Ideal S1x1024 .f32) (x15 x16 : Vec Ideal S1024x1024 .bf16)

/-- Whole-buffer loads. -/
def ldRows {e : EltTy} (a : Memref sig .tc .vmem S272x1024 e) (ha : a.IsWhole) (x : Vec Ideal S272x1024 e) : Vec Ideal S272x1024 e :=
  View.readAt (Elt Ideal) a.view (Rect.unit (s := S272x1024) ![0, 0] S272x1024.size inb_S272x1024_S272x1024_0_0).toLoadRect (ha.unread x)
def ldLine (a : Memref sig .tc .vmem S1x1024 .f32) (ha : a.IsWhole) (x : Vec Ideal S1x1024 .f32) : Vec Ideal S1x1024 .f32 :=
  View.readAt (Elt Ideal) a.view (Rect.unit (s := S1x1024) ![0, 0] S1x1024.size inb_S1x1024_S1x1024_0_0).toLoadRect (ha.unread x)
def ldGate (a : Memref sig .tc .vmem S1x1x1024 .f32) (ha : a.IsWhole) (x : Vec Ideal S1x1x1024 .f32) : Vec Ideal S1x1x1024 .f32 :=
  View.readAt (Elt Ideal) a.view (Rect.unit (s := S1x1x1024) ![0, 0, 0] S1x1x1024.size inb_S1x1x1024_S1x1x1024_0_0_0).toLoadRect (ha.unread x)
def ldWeight (a : Memref sig .tc .vmem S1024x1024 .bf16) (ha : a.IsWhole) (x : Vec Ideal S1024x1024 .bf16) : Vec Ideal S1024x1024 .bf16 :=
  View.readAt (Elt Ideal) a.view (Rect.unit (s := S1024x1024) ![0, 0] S1024x1024.size inb_S1024x1024_S1024x1024_0_0).toLoadRect (ha.unread x)

theorem ldRows_eq {e : EltTy} (a : Memref sig .tc .vmem S272x1024 e) (ha : a.IsWhole) (x : Vec Ideal S272x1024 e) (p : Fin 272) (k : Fin 1024) : ldRows a ha x (ix2 p k) = x (ix2 p k) := by
  unfold ldRows
  rw [Memref.IsWhole.readAt_unread]
  congr 1
  pointwise
theorem ldLine_eq (a : Memref sig .tc .vmem S1x1024 .f32) (ha : a.IsWhole) (x : Vec Ideal S1x1024 .f32) (k : Fin 1024) : ldLine a ha x (ix2 0 k) = x (ix2 0 k) := by
  unfold ldLine
  rw [Memref.IsWhole.readAt_unread]
  congr 1
  pointwise
theorem ldGate_eq (a : Memref sig .tc .vmem S1x1x1024 .f32) (ha : a.IsWhole) (x : Vec Ideal S1x1x1024 .f32) (k : Fin 1024) : ldGate a ha x (ix3 0 0 k) = x (ix3 0 0 k) := by
  unfold ldGate
  rw [Memref.IsWhole.readAt_unread]
  congr 1
  pointwise
theorem ldWeight_eq (a : Memref sig .tc .vmem S1024x1024 .bf16) (ha : a.IsWhole) (x : Vec Ideal S1024x1024 .bf16) (k q : Fin 1024) : ldWeight a ha x (ix2 k q) = x (ix2 k q) := by
  unfold ldWeight
  rw [Memref.IsWhole.readAt_unread]
  congr 1
  pointwise

/-- The run stores one piece, the whole block. -/
theorem pieces :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      x0 x1 x2 x3 x4 x5 x6 x7 x8 x9 x10 x11 x12 x13 x14 x15 x16).1
      = [⟨Rect.unit (s := S272x1024) ![0, 0] S272x1024.size inb_S272x1024_S272x1024_0_0,
          blockOf (i 0).val (ldRows arg1 harg1 x0) (ldRows arg2 harg2 x1) (ldRows arg3 harg3 x2) (ldRows arg4 harg4 x3) (ldRows arg5 harg5 x4) (ldRows arg6 harg6 x5) (ldRows arg7 harg7 x6)
            (ldRows arg8 harg8 x7) (ldRows arg9 harg9 x8) (ldRows arg10 harg10 x9) (ldGate arg11 harg11 x10) (ldLine arg12 harg12 x11) (ldLine arg13 harg13 x12) (ldLine arg14 harg14 x13)
            (ldLine arg15 harg15 x14) (ldWeight arg16 harg16 x15) (ldWeight arg17 harg17 x16)⟩] := rfl

/-- What a block leaves. -/
theorem out_block (n : Fin 64) (hn : (i 0).val = n.val) (hf : ∀ p j, IsNum (x1 (ix2 p j))) (hb : ∀ p j, IsNum (x2 (ix2 p j))) (hr : ∀ p j, IsNum (x3 (ix2 p j))) (hk : ∀ p j, IsNum (x4 (ix2 p j)))
    (hrk : ∀ j, IsNum (x14 (ix2 0 j))) (p : Fin 272) (q : Fin 1024) :
    (out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      x0 x1 x2 x3 x4 x5 x6 x7 x8 x9 x10 x11 x12 x13 x14 x15 x16 (ix2 p q) : EReal)
      = Row.out { x := fun j => x0 (ix2 p j), y := fun j => (x1 (ix2 p j) : EReal) + x2 (ix2 p j), r := fun j => x3 (ix2 p j), k := fun j => x4 (ix2 p j), v := fun j => x5 (ix2 p j),
                  o := fun j => x6 (ix2 p j), z := fun j => x7 (ix2 p j), gr := fun j => x8 (ix2 p j), gs := fun j => x9 (ix2 p j),
                  g := fun j => if n.val % 16 * 272 + p.val < 256 then x11 (ix2 0 j) else x10 (ix3 0 0 j),
                  w := fun j => x12 (ix2 0 j), b := fun j => x13 (ix2 0 j), rk := fun j => x14 (ix2 0 j), wr := fun j q => x15 (ix2 j q), wo := fun j q => x16 (ix2 j q) } q := by
  unfold out0_A_17
  rw [View.read_writes_junk_eq_canon, pieces, View.canon_cons_unit_lit _ _ _ (by decide), hn,
    block_val n _ _ _ _ _ _ _ _ _ _ _ _ _ _ _ _ _ (fun p j => by rw [ldRows_eq]; exact hf p j) (fun p j => by rw [ldRows_eq]; exact hb p j) (fun p j => by rw [ldRows_eq]; exact hr p j)
      (fun p j => by rw [ldRows_eq]; exact hk p j) (fun j => by rw [ldLine_eq]; exact hrk j)]
  simp only [ldRows_eq, ldLine_eq, ldGate_eq, ldWeight_eq]

end Run

end Cert.Proof.Merge
-- ==== Proof.Merge5.lean ====
module

public import proofs.«01_k».proof.Proof.Merge
public import proofs.«01_k».proof.Defs
public import proofs.«01_k».proof.Proof.Gate4
public import proofs.«01_k».proof.Proof.Gen.Kernel5Ideal.Value
public import proofs.«01_k».proof.Proof.Gen.Reference5Ideal.Run
public import Idealize.ShloMosaic.Lib.StableHlo.ReadAt

@[expose] public section

set_option maxRecDepth 16384

noncomputable section

/-! The merge, kernel and reference side by side. -/

namespace Cert.Proof.Merge

open Cert.Kernel5Ideal Cert.Kernel5Ideal.Gen Idealize.ShloMosaic Idealize.ShloMosaic.TcCoe Idealize.SL.Sem
open Cert.Proof.Gate (IsNum sampleOf tokenOf num_of)

/-- The arguments, by their indices. -/
structure Args where
  x : Fin 4 → Fin 4352 → Fin 1024 → EReal
  f : Fin 4 → Fin 4352 → Fin 1024 → EReal
  e : Fin 4 → Fin 4352 → Fin 1024 → EReal
  r : Fin 4 → Fin 4352 → Fin 1024 → EReal
  k : Fin 4 → Fin 4352 → Fin 1024 → EReal
  v : Fin 4 → Fin 4352 → Fin 1024 → EReal
  o : Fin 4 → Fin 4352 → Fin 1024 → EReal
  z : Fin 4 → Fin 4352 → Fin 1024 → EReal
  p : Fin 4 → Fin 4352 → Fin 5632 → EReal
  gl : Fin 4 → Fin 1024 → EReal
  gc : Fin 1024 → EReal
  w : Fin 1024 → EReal
  b : Fin 1024 → EReal
  rk : Fin 16 → Fin 64 → EReal
  wr : Fin 1024 → Fin 1024 → EReal
  wo : Fin 1024 → Fin 1024 → EReal

/-- A token's row, with a residual gate. -/
def Args.rowWith (a : Args) (i : Fin 4) (t : Fin 4352) (g : Fin 1024 → EReal) : Row where
  x := a.x i t
  y j := a.f i t j + a.e i t j
  r := a.r i t
  k := a.k i t
  v := a.v i t
  o := a.o i t
  z := a.z i t
  gr j := a.p i t ⟨3072 + j.val, by omega⟩
  gs j := a.p i t ⟨3072 + (1024 + j.val), by omega⟩
  g := g
  w := a.w
  b := a.b
  rk j := a.rk ⟨j.val / 64, by omega⟩ ⟨j.val % 64, Nat.mod_lt _ (by decide)⟩
  wr := a.wr
  wo := a.wo

/-- A token's residual gate: the context has its own. -/
def Args.gate (a : Args) (i : Fin 4) (t : Fin 4352) (j : Fin 1024) : EReal := if t.val < 256 then a.gc j else a.gl i j

/-- The result. -/
def Args.out (a : Args) (r : Fin 17408) (q : Fin 1024) : EReal := (a.rowWith (sampleOf r) (tokenOf r) (a.gate (sampleOf r) (tokenOf r))).out q

/-- What the precondition says. -/
structure Args.Ok (a : Args) : Prop where
  f : ∀ i t j, IsNum (a.f i t j)
  e : ∀ i t j, IsNum (a.e i t j)
  r : ∀ i t j, IsNum (a.r i t j)
  k : ∀ i t j, IsNum (a.k i t j)
  rk : ∀ h u, IsNum (a.rk h u)

section Kernel
variable (m : (ℓ : Loc nD τ sig) → Buf (Elt Ideal) ℓ) (c : Dev nD)

/-- The kernel's arguments. -/
def args : Args where
  x i t j := m ((c : Thread nD τ).loc main_arg0) (ix3 i t j)
  f i t j := m ((c : Thread nD τ).loc main_arg1) (ix3 i t j)
  e i t j := m ((c : Thread nD τ).loc main_arg2) (ix3 i t j)
  r i t j := m ((c : Thread nD τ).loc main_arg3) (ix3 i t j)
  k i t j := m ((c : Thread nD τ).loc main_arg4) (ix3 i t j)
  v i t j := m ((c : Thread nD τ).loc main_arg5) (ix3 i t j)
  o i t j := m ((c : Thread nD τ).loc main_arg6) (ix3 i t j)
  z i t j := m ((c : Thread nD τ).loc main_arg7) (ix3 i t j)
  p i t j := m ((c : Thread nD τ).loc main_arg8) (ix3 i t j)
  gl i j := m ((c : Thread nD τ).loc main_arg9) (ix2 i j)
  gc j := m ((c : Thread nD τ).loc main_arg10) (ix1 j)
  w j := m ((c : Thread nD τ).loc main_arg11) (ix1 j)
  b j := m ((c : Thread nD τ).loc main_arg12) (ix1 j)
  rk h u := m ((c : Thread nD τ).loc main_arg13) (ix2 h u)
  wr j q := m ((c : Thread nD τ).loc main_arg14) (ix2 j q)
  wo j q := m ((c : Thread nD τ).loc main_arg15) (ix2 j q)

/-- An index by its two places. -/
theorem place_eq {a b : ℕ} (i : (⟨2, ![a, b]⟩ : Shape).Idx) (r : Fin a) (k : Fin b) (h0 : (i 0).val = r.val) (h1 : (i 1).val = k.val) : i = ix2 r k := by
  funext d
  match d with
  | ⟨0, _⟩ => exact Fin.ext h0
  | ⟨1, _⟩ => exact Fin.ext h1

/-- The blocks of the grid's points. -/
theorem idx_rows : ∀ t : Fin grid0.N, ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0))
    ∧ ((win0_5.index t 0 = t.val ∧ win0_5.index t 1 = 0) ∧ (win0_6.index t 0 = t.val ∧ win0_6.index t 1 = 0) ∧ (win0_7.index t 0 = t.val ∧ win0_7.index t 1 = 0)
    ∧ (win0_8.index t 0 = t.val ∧ win0_8.index t 1 = 3) ∧ (win0_9.index t 0 = t.val ∧ win0_9.index t 1 = 4)) := by decide +kernel
theorem idx_rest : ∀ t : Fin grid0.N, ((win0_10.index t 0 = t.val / 16 ∧ win0_10.index t 1 = 0 ∧ win0_10.index t 2 = 0) ∧ (win0_11.index t 0 = 0 ∧ win0_11.index t 1 = 0)
    ∧ (win0_12.index t 0 = 0 ∧ win0_12.index t 1 = 0) ∧ (win0_13.index t 0 = 0 ∧ win0_13.index t 1 = 0) ∧ (win0_14.index t 0 = 0 ∧ win0_14.index t 1 = 0))
    ∧ ((win0_15.index t 0 = 0 ∧ win0_15.index t 1 = 0) ∧ (win0_16.index t 0 = 0 ∧ win0_16.index t 1 = 0) ∧ (win0_17.index t 0 = t.val ∧ win0_17.index t 1 = 0)
    ∧ (grid0.coords t 0).val = t.val) := by decide +kernel

/-- Reading a row's entry, by the block's place and the place in the block. -/
theorem entry_at {e : EltTy} {a b : ℕ} (A : Vec Ideal (⟨2, ![a, b]⟩ : Shape) e) (i : (⟨2, ![a, b]⟩ : Shape).Idx) (r : Fin a) (k : Fin b) (n0 n1 w0 w1 p0 p1 m0 m1 : ℕ)
    (i0 : (i 0).val = n0 * w0 + 1 * p0) (i1 : (i 1).val = n1 * w1 + 1 * p1) (h : n0 = m0 ∧ n1 = m1) (h0 : r.val = m0 * w0 + p0) (h1 : k.val = m1 * w1 + p1) : A i = A (ix2 r k) := by
  obtain ⟨rfl, rfl⟩ := h
  exact congrArg A (place_eq i r k (by omega) (by omega))

section Reads
variable (t : Fin cfg0.N) (p : Fin 272) (k : Fin 1024) (r : Fin 17408) (hr : r.val = 272 * t.val + p.val)
include hr

theorem read_x : (iblk m c 0 t : Vec Ideal S272x1024 .f32) (ix2 p k) = (args m c).x (sampleOf r) (tokenOf r) k := by
  refine (entry_at (V m c main_v2) _ r k _ _ 272 1024 p.val k.val _ _ rfl rfl (idx_rows t).1.1 (by omega) (by omega)).trans ?_
  unfold V
  after_reads_at
  rfl
theorem read_f : (iblk m c 1 t : Vec Ideal S272x1024 .bf16) (ix2 p k) = (args m c).f (sampleOf r) (tokenOf r) k := by
  refine (entry_at (V m c main_v3) _ r k _ _ 272 1024 p.val k.val _ _ rfl rfl (idx_rows t).1.2.1 (by omega) (by omega)).trans ?_
  unfold V
  after_reads_at
  rfl
theorem read_e : (iblk m c 2 t : Vec Ideal S272x1024 .bf16) (ix2 p k) = (args m c).e (sampleOf r) (tokenOf r) k := by
  refine (entry_at (V m c main_v4) _ r k _ _ 272 1024 p.val k.val _ _ rfl rfl (idx_rows t).1.2.2.1 (by omega) (by omega)).trans ?_
  unfold V
  after_reads_at
  rfl
theorem read_r : (iblk m c 3 t : Vec Ideal S272x1024 .bf16) (ix2 p k) = (args m c).r (sampleOf r) (tokenOf r) k := by
  refine (entry_at (V m c main_v5) _ r k _ _ 272 1024 p.val k.val _ _ rfl rfl (idx_rows t).1.2.2.2.1 (by omega) (by omega)).trans ?_
  unfold V
  after_reads_at
  rfl
theorem read_k : (iblk m c 4 t : Vec Ideal S272x1024 .bf16) (ix2 p k) = (args m c).k (sampleOf r) (tokenOf r) k := by
  refine (entry_at (V m c main_v6) _ r k _ _ 272 1024 p.val k.val _ _ rfl rfl (idx_rows t).1.2.2.2.2 (by omega) (by omega)).trans ?_
  unfold V
  after_reads_at
  rfl
theorem read_v : (iblk m c 5 t : Vec Ideal S272x1024 .bf16) (ix2 p k) = (args m c).v (sampleOf r) (tokenOf r) k := by
  refine (entry_at (V m c main_v7) _ r k _ _ 272 1024 p.val k.val _ _ rfl rfl (idx_rows t).2.1 (by omega) (by omega)).trans ?_
  unfold V
  after_reads_at
  rfl
theorem read_o : (iblk m c 6 t : Vec Ideal S272x1024 .f32) (ix2 p k) = (args m c).o (sampleOf r) (tokenOf r) k := by
  refine (entry_at (V m c main_v8) _ r k _ _ 272 1024 p.val k.val _ _ rfl rfl (idx_rows t).2.2.1 (by omega) (by omega)).trans ?_
  unfold V
  after_reads_at
  rfl
theorem read_z : (iblk m c 7 t : Vec Ideal S272x1024 .bf16) (ix2 p k) = (args m c).z (sampleOf r) (tokenOf r) k := by
  refine (entry_at (V m c main_v9) _ r k _ _ 272 1024 p.val k.val _ _ rfl rfl (idx_rows t).2.2.2.1 (by omega) (by omega)).trans ?_
  unfold V
  after_reads_at
  rfl
theorem read_gr : (X0_8 m c t : Vec Ideal S272x1024 .bf16) (ix2 p k) = (args m c).p (sampleOf r) (tokenOf r) ⟨3072 + k.val, by omega⟩ := by
  unfold X0_8 Pipeline.Window.fill
  rw [dif_pos (moved0_8 t _)]
  refine (entry_at (V m c main_v10) _ r ⟨3072 + k.val, by omega⟩ _ _ 272 1024 p.val k.val _ _ rfl rfl (idx_rows t).2.2.2.2.1 (by omega) (by dsimp only)).trans ?_
  unfold V
  after_reads_at
  rfl
theorem read_gs : (X0_9 m c t : Vec Ideal S272x1024 .bf16) (ix2 p k) = (args m c).p (sampleOf r) (tokenOf r) ⟨3072 + (1024 + k.val), by omega⟩ := by
  unfold X0_9 Pipeline.Window.fill
  rw [dif_pos (moved0_9 t _)]
  refine (entry_at (V m c main_v11) _ r ⟨3072 + (1024 + k.val), by omega⟩ _ _ 272 1024 p.val k.val _ _ rfl rfl (idx_rows t).2.2.2.2.2 (by omega) (by dsimp only; omega)).trans ?_
  unfold V
  after_reads_at
  rfl
theorem read_gl : (iblk m c 10 t : Vec Ideal S1x1x1024 .f32) (ix3 0 0 k) = (args m c).gl (sampleOf r) k := by
  obtain ⟨h0, h1, h2⟩ := (idx_rest t).1.1
  unfold iblk
  rw [View.read_apply]
  have e : ∀ i : S4x1x1024.Idx, (i 0).val = (sampleOf r).val → (i 1).val = 0 → (i 2).val = k.val → i = ix3 (sampleOf r) 0 k := fun i e0 e1 e2 => by
    funext d
    match d with
    | ⟨0, _⟩ => exact Fin.ext e0
    | ⟨1, _⟩ => exact Fin.ext e1
    | ⟨2, _⟩ => exact Fin.ext e2
  refine (congrArg (V m c main_v12) (e _ (by show win0_10.index t 0 * 1 + 1 * 0 = r.val / 4352; rw [h0]; omega) (by show win0_10.index t 1 * 1 + 1 * 0 = 0; rw [h1])
    (by show win0_10.index t 2 * 1024 + 1 * k.val = k.val; rw [h2]; omega))).trans ?_
  unfold V
  after_reads_at
  rfl

end Reads

theorem read_gc (t : Fin cfg0.N) (k : Fin 1024) : (iblk m c 11 t : Vec Ideal S1x1024 .f32) (ix2 0 k) = (args m c).gc k := by
  refine (entry_at (V m c main_v13) _ 0 k _ _ 1 1024 0 k.val _ _ rfl rfl (idx_rest t).1.2.1 rfl (by omega)).trans ?_
  unfold V
  after_reads_at
  rfl
theorem read_w (t : Fin cfg0.N) (k : Fin 1024) : (iblk m c 12 t : Vec Ideal S1x1024 .f32) (ix2 0 k) = (args m c).w k := by
  refine (entry_at (V m c main_v14) _ 0 k _ _ 1 1024 0 k.val _ _ rfl rfl (idx_rest t).1.2.2.1 rfl (by omega)).trans ?_
  unfold V
  after_reads_at
  rfl
theorem read_b (t : Fin cfg0.N) (k : Fin 1024) : (iblk m c 13 t : Vec Ideal S1x1024 .f32) (ix2 0 k) = (args m c).b k := by
  refine (entry_at (V m c main_v15) _ 0 k _ _ 1 1024 0 k.val _ _ rfl rfl (idx_rest t).1.2.2.2.1 rfl (by omega)).trans ?_
  unfold V
  after_reads_at
  rfl
theorem read_rk (t : Fin cfg0.N) (k : Fin 1024) : (iblk m c 14 t : Vec Ideal S1x1024 .f32) (ix2 0 k) = (args m c).rk ⟨k.val / 64, by omega⟩ ⟨k.val % 64, Nat.mod_lt _ (by decide)⟩ := by
  refine (entry_at (V m c main_v16) _ 0 k _ _ 1 1024 0 k.val _ _ rfl rfl (idx_rest t).1.2.2.2.2 rfl (by omega)).trans ?_
  unfold V
  after_reads_at
  rfl
theorem read_wr (t : Fin cfg0.N) (k q : Fin 1024) : (iblk m c 15 t : Vec Ideal S1024x1024 .bf16) (ix2 k q) = (args m c).wr k q := by
  refine (entry_at (V m c main_v0) _ k q _ _ 1024 1024 k.val q.val _ _ rfl rfl (idx_rest t).2.1 (by omega) (by omega)).trans ?_
  unfold V
  after_reads_at
  rfl
theorem read_wo (t : Fin cfg0.N) (k q : Fin 1024) : (iblk m c 16 t : Vec Ideal S1024x1024 .bf16) (ix2 k q) = (args m c).wo k q := by
  refine (entry_at (V m c main_v1) _ k q _ _ 1024 1024 k.val q.val _ _ rfl rfl (idx_rest t).2.2.1 (by omega) (by omega)).trans ?_
  unfold V
  after_reads_at
  rfl

/-- The point that writes a row, and the row's place in its block. -/
def point (r : Fin 17408) : Fin cfg0.N := ⟨r.val / 272, by have h : cfg0.N = 64 := N_0; omega⟩
def place (r : Fin 17408) : Fin 272 := ⟨r.val % 272, Nat.mod_lt _ (by decide)⟩
theorem point_place (r : Fin 17408) : 272 * (point r).val + (place r).val = r.val := Nat.div_add_mod _ _

/-- Every row of a point's block is a row of the array. -/
theorem row_lt (t : Fin cfg0.N) (p : Fin 272) : 272 * t.val + p.val < 17408 := by
  have h : cfg0.N = 64 := N_0
  have := t.isLt
  omega

theorem block_out (ok : (args m c).Ok) (t : Fin cfg0.N) (p : Fin 272) (r : Fin 17408) (hr : r.val = 272 * t.val + p.val) (q : Fin 1024) :
    outsAt0 m c t (ix2 p q) = (args m c).out r q := by
  have hN : cfg0.N = 64 := N_0
  have ht := t.isLt
  have early : (t.val % 16 * 272 + p.val < 256) = ((tokenOf r).val < 256) := by
    rw [show (tokenOf r).val = t.val % 16 * 272 + p.val by show r.val % 4352 = _; omega]
  unfold outsAt0
  refine (out_block c _ _ _ _ _ _ _ _ _ _ _ _ _ _ _ _ _ _ _ _ _ _ _ _ _ _ _ _ _ _ _ _ _ _ _ _ _ _ _ _ _ _ _ _ _ _ _ _ _ _ _ _ _ _ ⟨t.val, by omega⟩ (idx_rest t).2.2.2.2
    (fun p k => ?_) (fun p k => ?_) (fun p k => ?_) (fun p k => ?_) (fun k => ?_) p q).trans ?_
  · rw [read_f m c t p k ⟨_, row_lt t p⟩ rfl]; exact ok.f _ _ _
  · rw [read_e m c t p k ⟨_, row_lt t p⟩ rfl]; exact ok.e _ _ _
  · rw [read_r m c t p k ⟨_, row_lt t p⟩ rfl]; exact ok.r _ _ _
  · rw [read_k m c t p k ⟨_, row_lt t p⟩ rfl]; exact ok.k _ _ _
  · rw [read_rk]; exact ok.rk _ _
  · unfold Args.out Args.rowWith Args.gate
    simp only [read_x m c t p _ r hr, read_f m c t p _ r hr, read_e m c t p _ r hr, read_r m c t p _ r hr, read_k m c t p _ r hr, read_v m c t p _ r hr, read_o m c t p _ r hr, read_z m c t p _ r hr,
      read_gr m c t p _ r hr, read_gs m c t p _ r hr, read_gl m c t p _ r hr, read_gc, read_w, read_b, read_rk, read_wr, read_wo, early]

/-- The kernel's result. -/
theorem result (ok : (args m c).Ok) (r : Fin 17408) (q : Fin 1024) :
    ((dats m 0 c).arrAt 17 cfg0.N : Vec Ideal S17408x1024 .f32) (ix2 r q) = (args m c).out r q := by
  have h := congrFun (Cert.Kernel5Ideal.Value.blocks17 m c (point r) (flush0_17 _)) (ix2 (place r) q)
  rw [Cert.Kernel5Ideal.Value.flushed17] at h
  refine Eq.trans ?_ (h.trans ?_)
  · rw [View.read_apply]
    obtain ⟨h0, h1⟩ := (idx_rest (point r)).2.2.2.1
    have hr := point_place r
    exact congrArg _ (place_eq (a := 17408) (b := 1024) _ r q (by show win0_17.index (point r) 0 * 272 + 1 * (place r).val = r.val; rw [h0]; omega)
      (by show win0_17.index (point r) 1 * 1024 + 1 * q.val = q.val; rw [h1]; omega)).symm
  · exact block_out m c ok (point r) (place r) r (point_place r).symm q

end Kernel

section Reference

open Cert.Reference5Ideal.Value

variable (m' : (ℓ : Loc Cert.Reference5Ideal.nD Cert.Reference5Ideal.τ Cert.Reference5Ideal.sig) → Buf (Elt Ideal) ℓ) (d : Dev Cert.Reference5Ideal.nD)

/-- The reference's arguments. -/
def refArgs : Args where
  x i t j := m' ((d.tc : Thread Cert.Reference5Ideal.nD Cert.Reference5Ideal.τ).loc Cert.Reference5Ideal.main_arg0) (ix3 i t j)
  f i t j := m' ((d.tc : Thread Cert.Reference5Ideal.nD Cert.Reference5Ideal.τ).loc Cert.Reference5Ideal.main_arg1) (ix3 i t j)
  e i t j := m' ((d.tc : Thread Cert.Reference5Ideal.nD Cert.Reference5Ideal.τ).loc Cert.Reference5Ideal.main_arg2) (ix3 i t j)
  r i t j := m' ((d.tc : Thread Cert.Reference5Ideal.nD Cert.Reference5Ideal.τ).loc Cert.Reference5Ideal.main_arg3) (ix3 i t j)
  k i t j := m' ((d.tc : Thread Cert.Reference5Ideal.nD Cert.Reference5Ideal.τ).loc Cert.Reference5Ideal.main_arg4) (ix3 i t j)
  v i t j := m' ((d.tc : Thread Cert.Reference5Ideal.nD Cert.Reference5Ideal.τ).loc Cert.Reference5Ideal.main_arg5) (ix3 i t j)
  o i t j := m' ((d.tc : Thread Cert.Reference5Ideal.nD Cert.Reference5Ideal.τ).loc Cert.Reference5Ideal.main_arg6) (ix3 i t j)
  z i t j := m' ((d.tc : Thread Cert.Reference5Ideal.nD Cert.Reference5Ideal.τ).loc Cert.Reference5Ideal.main_arg7) (ix3 i t j)
  p i t j := m' ((d.tc : Thread Cert.Reference5Ideal.nD Cert.Reference5Ideal.τ).loc Cert.Reference5Ideal.main_arg8) (ix3 i t j)
  gl i j := m' ((d.tc : Thread Cert.Reference5Ideal.nD Cert.Reference5Ideal.τ).loc Cert.Reference5Ideal.main_arg9) (ix2 i j)
  gc j := m' ((d.tc : Thread Cert.Reference5Ideal.nD Cert.Reference5Ideal.τ).loc Cert.Reference5Ideal.main_arg10) (ix1 j)
  w j := m' ((d.tc : Thread Cert.Reference5Ideal.nD Cert.Reference5Ideal.τ).loc Cert.Reference5Ideal.main_arg11) (ix1 j)
  b j := m' ((d.tc : Thread Cert.Reference5Ideal.nD Cert.Reference5Ideal.τ).loc Cert.Reference5Ideal.main_arg12) (ix1 j)
  rk h u := m' ((d.tc : Thread Cert.Reference5Ideal.nD Cert.Reference5Ideal.τ).loc Cert.Reference5Ideal.main_arg13) (ix2 h u)
  wr j q := m' ((d.tc : Thread Cert.Reference5Ideal.nD Cert.Reference5Ideal.τ).loc Cert.Reference5Ideal.main_arg14) (ix2 j q)
  wo j q := m' ((d.tc : Thread Cert.Reference5Ideal.nD Cert.Reference5Ideal.τ).loc Cert.Reference5Ideal.main_arg15) (ix2 j q)

/-- The columns of a head are those of each of its columns. -/
theorem member_member (j : Fin 1024) (u s : Fin 64) : member (member j u) s = member j s := Fin.ext (by dsimp only [member]; omega)

/-- A row's result with every sum over a head written out. -/
theorem out_written (a : Row) (s : Fin 1024 → Fin 64 → EReal) (hs : ∀ j u, a.rk (member j u) = s j u) (q : Fin 1024) :
    a.x q + a.g q * ∑ j, (Ideal.div 1 (1 + Ideal.exp (-a.gr j))
        * ∑ i, ((a.y i - Ideal.div (∑ u, a.y (member i u)) (Ideal.ofBits FTy.f32 0x42800000#32))
            * Ideal.rsqrt (Ideal.div (∑ u, (a.y (member i u) - Ideal.div (∑ v, a.y (member i v)) (Ideal.ofBits FTy.f32 0x42800000#32))
                * (a.y (member i u) - Ideal.div (∑ v, a.y (member i v)) (Ideal.ofBits FTy.f32 0x42800000#32))) (Ideal.ofBits FTy.f32 0x42800000#32) + Ideal.ofBits FTy.f32 0x3A27C5AC#32)
            * a.w i + a.b i + (∑ u, a.r (member i u) * a.k (member i u) * s i u) * a.v i) * a.o i * a.wr i j
        + Ideal.div 1 (1 + Ideal.exp (-a.gs j)) * a.z j) * a.wo j q = a.out q := by
  unfold Row.out Row.merged Row.head normedAt centredAt
  simp only [member_member, hs]
  rfl

theorem rk_member (a : Args) (i : Fin 4) (t : Fin 4352) (g : Fin 1024 → EReal) (j : Fin 1024) (u : Fin 64) : (a.rowWith i t g).rk (member j u) = a.rk ⟨j.val / 64, by omega⟩ u :=
  congrArg₂ a.rk (Fin.ext (by dsimp only [member]; omega)) (Fin.ext (by dsimp only [member]; omega))

/-- The reference's result. -/
theorem ref_out (r : Fin 17408) (q : Fin 1024) : (res_main_v82 m' d : Vec Ideal Cert.Reference5Ideal.S17408x1024 .f32) (ix2 r q) = (refArgs m' d).out r q := by
  unfold res_main_v82
  pointwise
  by_cases h : r.val % 4352 < 256
  · rw [dif_pos h]
    refine (out_written ((refArgs m' d).rowWith (sampleOf r) (tokenOf r) (refArgs m' d).gc) _ (rk_member _ _ _ _) q).trans ?_
    have hg : (refArgs m' d).gate (sampleOf r) (tokenOf r) = (refArgs m' d).gc := funext fun j => if_pos h
    unfold Args.out
    rw [hg]
  · rw [dif_neg h]
    refine (out_written ((refArgs m' d).rowWith (sampleOf r) ⟨256 + (r.val % 4352 - 256), by omega⟩ ((refArgs m' d).gl (sampleOf r))) _ (rk_member _ _ _ _) q).trans ?_
    have hg : (refArgs m' d).gate (sampleOf r) (tokenOf r) = (refArgs m' d).gl (sampleOf r) := funext fun j => if_neg h
    have ht : (⟨256 + (r.val % 4352 - 256), by omega⟩ : Fin 4352) = tokenOf r := Fin.ext (by show 256 + (r.val % 4352 - 256) = r.val % 4352; omega)
    unfold Args.out
    rw [hg, ht]

end Reference

/-- The precondition's shape relations. -/
theorem pre_facts : Cert.Pre_heads_finite.Facts := ⟨by decide, by decide, by decide⟩

theorem args_ok [Cert.Pre_heads_finite.Facts] (m : (ℓ : Loc nD τ sig) → Buf (Elt Ideal) ℓ) (h : Cert.Pre_Kernel5Ideal_heads_finite m) (c : Dev nD) : (args m c).Ok := by
  obtain ⟨hf, he, hr, hk, hs⟩ := h c
  exact ⟨fun i t k => num_of (congrFun hf (ix3 i t k)), fun i t k => num_of (congrFun he (ix3 i t k)), fun i t k => num_of (congrFun hr (ix3 i t k)),
    fun i t k => num_of (congrFun hk (ix3 i t k)), fun e u => num_of (congrFun hs (ix2 e u))⟩

/-- Every index of the result is a row and a column. -/
theorem same (m : (ℓ : Loc nD τ sig) → Buf (Elt Ideal) ℓ) (m' : (ℓ : Loc Cert.Reference5Ideal.nD Cert.Reference5Ideal.τ Cert.Reference5Ideal.sig) → Buf (Elt Ideal) ℓ) (c : Dev nD)
    (ok : (args m c).Ok) (h : refArgs m' c = args m c) :
    (Cert.Reference5Ideal.Value.res_main_v82 m' c : Vec Ideal Cert.Reference5Ideal.S17408x1024 .f32) = ((dats m 0 c).arrAt 17 cfg0.N : Vec Ideal S17408x1024 .f32) := by
  funext x
  rw [place_eq (a := 17408) (b := 1024) x (x 0) (x 1) rfl rfl]
  exact (ref_out m' c (x 0) (x 1)).trans ((congrArg (fun a => Args.out a (x 0) (x 1)) h).trans (result m c ok (x 0) (x 1)).symm)

end Cert.Proof.Merge
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Points
public import proofs.«01_k».proof.Proof.RefValue
public import proofs.«01_k».proof.Proof.Final
public import proofs.«01_k».proof.Proof.Project2
public import proofs.«01_k».proof.Proof.Project3
public import proofs.«01_k».proof.Proof.Gate4
public import proofs.«01_k».proof.Proof.Merge5
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, pre_facts, Gate.pre_facts, Merge.pre_facts,
  fun m ρ _ => Cert.Kernel.Gen.frame m ρ,
  fun m ρ _ => Cert.KernelIdeal.Gen.frame m ρ,
  fun m ρ _ => Cert.KernelIdeal.Gen.frame m ρ,
  fun m g _ => Ref.frame_reference m g,
  fun m g _ => Ref.frame_reference m g,
  fun m ρ _ => Cert.Kernel2.Gen.frame m ρ,
  fun m ρ _ => Cert.Kernel2Ideal.Gen.frame m ρ,
  fun m g _ => (θ_run _ _ _).mono (fun r h => ⟨fun c => (h c).2, sem_eq_zero_of_no_sems (by decide) r.2⟩) (Cert.Reference2Ideal.Value.run m g),
  fun m ρ _ => Cert.Kernel3.Gen.frame m ρ,
  fun m ρ _ => Cert.Kernel3Ideal.Gen.frame m ρ,
  fun m g _ => (θ_run _ _ _).mono (fun r h => ⟨fun c => (h c).2, sem_eq_zero_of_no_sems (by decide) r.2⟩) (Cert.Reference3Ideal.Value.run m g),
  fun m ρ _ => Cert.Kernel4.Gen.frame m ρ,
  fun m ρ _ => Cert.Kernel4Ideal.Gen.frame m ρ,
  fun m ρ _ => Cert.Kernel4Ideal.Gen.frame m ρ,
  fun m g _ => (θ_run _ _ _).mono (fun r h => ⟨fun c => (h c).2, sem_eq_zero_of_no_sems (by decide) r.2⟩) (Cert.Reference4Ideal.Value.run m g),
  fun m g _ => (θ_run _ _ _).mono (fun r h => ⟨fun c => (h c).2, sem_eq_zero_of_no_sems (by decide) r.2⟩) (Cert.Reference4Ideal.Value.run m g),
  fun m ρ _ => Cert.Kernel5.Gen.frame m ρ,
  fun m ρ _ => Cert.Kernel5Ideal.Gen.frame m ρ,
  fun m ρ _ => Cert.Kernel5Ideal.Gen.frame m ρ,
  fun m g _ => (θ_run _ _ _).mono (fun r h => ⟨fun c => (h c).2, sem_eq_zero_of_no_sems (by decide) r.2⟩) (Cert.Reference5Ideal.Value.run m g),
  fun m g _ => (θ_run _ _ _).mono (fun r h => ⟨fun c => (h c).2, sem_eq_zero_of_no_sems (by decide) r.2⟩) (Cert.Reference5Ideal.Value.run m g),
  trivial,
  fun m g m' g' hPre hArgs => by
    have h0 : ∀ c, Ref.argX m' c = Block.argX m c := fun c => by funext i t j; exact congrFun (hArgs c).1 _
    have h1 : ∀ c, Ref.argP m' c = Block.argP m c := fun c => by funext i t j; exact congrFun (hArgs c).2.1 _
    have h2 : ∀ c, Ref.argB m' c = Block.argB m c := fun c => by funext d h; exact congrFun (hArgs c).2.2.1 _
    have h3 : ∀ c, Ref.argA m' c = Block.argA m c := fun c => by funext d h; exact congrFun (hArgs c).2.2.2 _
    have hA : ∀ c d h, ⊥ < Block.argA m c d h := fun c d h => @above_low pre_facts _ _ _ _ (hPre c) _
    refine ⟨fun c => (Cert.KernelIdeal.Gen.dats m 0 c).arrAt 8 Cert.KernelIdeal.cfg0.N,
      fun c => (Cert.KernelIdeal.Gen.dats m 0 c).arrAt 9 Cert.KernelIdeal.cfg0.N,
      Cert.KernelIdeal.Value.run_blocks m g, ?_⟩
    exact (θ_run _ _ _).mono (fun r h c =>
      ⟨(h c).1.trans (forward_same m m' c (h0 c) (h1 c) (h2 c) (h3 c) (hA c)),
        (h c).2.1.trans (backward_same m m' c (h0 c) (h1 c) (h2 c) (h3 c) (hA c)), (h c).2.2⟩) (Ref.run_reference m' g'),
  trivial,
  fun m g m' g' _ hArgs => by
    have hH : ∀ c, Project2.refH m' c = Project2.argH m c := fun c => by funext i t k; exact congrFun (hArgs c).1 _
    have hW : ∀ c, Project2.refW m' c = Project2.argW m c := fun c => by funext k s; exact congrFun (hArgs c).2 _
    refine ⟨fun c => (Cert.Kernel2Ideal.Gen.dats m 0 c).arrAt 2 Cert.Kernel2Ideal.cfg0.N, Cert.Kernel2Ideal.Value.run_blocks m g, ?_⟩
    exact (θ_run _ _ _).mono (fun r h c => ⟨(h c).1.trans (funext fun x => Project2.same m c x m' (hH c) (hW c)), (h c).2⟩)
      (Cert.Reference2Ideal.Value.run m' g'),
  trivial,
  fun m g m' g' _ hArgs => by
    have hH : ∀ c, Project3.refH m' c = Project3.argH m c := fun c => by funext i t k; exact congrFun (hArgs c).1 _
    have hW : ∀ c, Project3.refW m' c = Project3.argW m c := fun c => by funext k s; exact congrFun (hArgs c).2 _
    refine ⟨fun c => (Cert.Kernel3Ideal.Gen.dats m 0 c).arrAt 2 Cert.Kernel3Ideal.cfg0.N, Cert.Kernel3Ideal.Value.run_blocks m g, ?_⟩
    exact (θ_run _ _ _).mono (fun r h c => ⟨Project3.same m c _ m' (h c).1 (hH c) (hW c), (h c).2⟩) (Project3.run_rows m' g'),
  trivial,
  fun m g m' g' hPre hArgs => by
    have hA : ∀ c, Gate.refArgs m' c = Gate.args m c := fun c => by
      obtain ⟨h0, h1, h2, h3, h4, h5, h6⟩ := hArgs c
      unfold Gate.refArgs Gate.args
      congr 1
      · funext i t k; exact congrFun h0 _
      · funext i t k; exact congrFun h1 _
      · funext i t k; exact congrFun h2 _
      · funext i t k; exact congrFun h3 _
      · funext e h; exact congrFun h4 _
      · funext k; exact congrFun h5 _
      · funext k q; exact congrFun h6 _
    refine ⟨fun c => (Cert.Kernel4Ideal.Gen.dats m 0 c).arrAt 7 Cert.Kernel4Ideal.cfg0.N, Cert.Kernel4Ideal.Value.run_blocks m g, ?_⟩
    exact (θ_run _ _ _).mono (fun r h c => ⟨(h c).1.trans (Gate.same m m' c (@Gate.args_ok Gate.pre_facts m hPre c) (hA c)), (h c).2⟩)
      (Cert.Reference4Ideal.Value.run m' g'),
  trivial,
  fun m g m' g' hPre hArgs => by
    have hA : ∀ c, Merge.refArgs m' c = Merge.args m c := fun c => by
      obtain ⟨h0, h1, h2, h3, h4, h5, h6, h7, h8, h9, h10, h11, h12, h13, h14, h15⟩ := hArgs c
      unfold Merge.refArgs Merge.args
      congr 1
      · funext i t j; exact congrFun h0 _
      · funext i t j; exact congrFun h1 _
      · funext i t j; exact congrFun h2 _
      · funext i t j; exact congrFun h3 _
      · funext i t j; exact congrFun h4 _
      · funext i t j; exact congrFun h5 _
      · funext i t j; exact congrFun h6 _
      · funext i t j; exact congrFun h7 _
      · funext i t j; exact congrFun h8 _
      · funext i j; exact congrFun h9 _
      · funext j; exact congrFun h10 _
      · funext j; exact congrFun h11 _
      · funext j; exact congrFun h12 _
      · funext h u; exact congrFun h13 _
      · funext j q; exact congrFun h14 _
      · funext j q; exact congrFun h15 _
    refine ⟨fun c => (Cert.Kernel5Ideal.Gen.dats m 0 c).arrAt 17 Cert.Kernel5Ideal.cfg0.N, Cert.Kernel5Ideal.Value.run_blocks m g, ?_⟩
    exact (θ_run _ _ _).mono (fun r h c => ⟨(h c).1.trans (Merge.same m m' c (@Merge.args_ok Merge.pre_facts m hPre c) (hA c)), (h c).2⟩)
      (Cert.Reference5Ideal.Value.run m' g')⟩

end Cert.Proof

end
